-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S2048x2048 : Shape := ⟨2, ![2048, 2048]⟩
abbrev S32 : Shape := ⟨1, ![32]⟩
abbrev S_ : Shape := ⟨0, ![]⟩
abbrev S1 : Shape := ⟨1, ![1]⟩
abbrev S256x1024 : Shape := ⟨2, ![256, 1024]⟩
abbrev S256x2048 : Shape := ⟨2, ![256, 2048]⟩
abbrev S32x64x1024 : Shape := ⟨3, ![32, 64, 1024]⟩

abbrev nBuf : Space → Nat
  | .hbm => 9
  | .vmem => 12
  | .smem => 0
  | _ => 0

abbrev bufTy : (tb : Table) → Fin (tcTables nBuf tb) → BufTy
  | .hbm, ⟨0, _⟩ => ⟨S64x1024, .bf16⟩
  | .hbm, ⟨1, _⟩ => ⟨S1024x2048, .bf16⟩
  | .hbm, ⟨2, _⟩ => ⟨S1024x2048, .bf16⟩
  | .hbm, ⟨3, _⟩ => ⟨S1024x2048, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .f32⟩
  | .local _ .vmem, ⟨0, _⟩ => ⟨S64x1024, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x2048, .bf16⟩
  | .local _ .vmem, ⟨10, _⟩ => ⟨S2048x1024, .bf16⟩
  | .local _ .vmem, ⟨11, _⟩ => ⟨S2048x1024, .bf16⟩
  | _, _ => ⟨S64x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 200 → Bool
  | ⟨i, _⟩ => dmaSemScopedAt i

abbrev sig : RefSig :=
  (ofTc nBuf bufTy 1 200 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v5 : BitVec 32 := Scalar.addi c1_i32_0 c31_i32
  let c1_i32_1 : BitVec 32 := 1#32
  ⟨c1_i32_0, v5, c1_i32_1⟩
def k0_dev1 (d0 : Dev nD) (k0_t1 : Fin k0_t1_loop.trips) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg18 : BitVec 32 := Scf.iv c1_i32_0 c1_i32_1 k0_t1
  let v73 : BitVec 32 := Scalar.addi v2 arg18
  let c32_i32_104 : BitVec 32 := 32#32
  let v74 : BitVec 32 := Scalar.remsi v73 c32_i32_104
  let c1_i32_106 : BitVec 32 := 1#32
  let v75 : BitVec 32 := Scalar.muli v74 c1_i32_106
  let v76 : BitVec 32 := Scalar.addi c0_i32_107 v75
  v76.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v8 : BitVec 32 := Scalar.muli v2 c64_i32
  let v9 : Index := Scalar.indexCast v8
  let c0_5 : Index := 0#32
  ![v9.toNat, 0]
@[reducible] def k0_t2_loop : Scf.Loop 32 :=
  let c0_i32 : BitVec 32 := 0#32
  let c32_i32_7 : BitVec 32 := 32#32
  let v14 : BitVec 32 := Scalar.addi c0_i32 c32_i32_7
  let c1_i32_8 : BitVec 32 := 1#32
  ⟨c0_i32, v14, c1_i32_8⟩
def k0_cond1 (d0 : Dev nD) (k0_t2 : Fin k0_t2_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32 : BitVec 32 := 0#32
  let c1_i32_8 : BitVec 32 := 1#32
  let arg18 : BitVec 32 := Scf.iv c0_i32 c1_i32_8 k0_t2
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  let v80 : BitVec 1 := Scalar.cmpi .ne v79 v2
  let v81 : BitVec 32 := Scalar.extui v80
  let c0_i32_109 : BitVec 32 := 0#32
  let v82 : BitVec 1 := Scalar.cmpi .ne v81 c0_i32_109
  v82

def k0_off2 (d0 : Dev nD) (k0_t2 : Fin k0_t2_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32 : BitVec 32 := 0#32
  let c1_i32_8 : BitVec 32 := 1#32
  let arg18 : BitVec 32 := Scf.iv c0_i32 c1_i32_8 k0_t2
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  ![v79.toNat]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_6 : BitVec 32 := 64#32
  let v13 : BitVec 32 := Scalar.muli v2 c64_i32_6
  let c0_i32_112 : BitVec 32 := 0#32
  ![v13.toNat, 0]
def k0_dev2 (d0 : Dev nD) (k0_t2 : Fin k0_t2_loop.trips) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32 : BitVec 32 := 0#32
  let c1_i32_8 : BitVec 32 := 1#32
  let arg18 : BitVec 32 := Scf.iv c0_i32 c1_i32_8 k0_t2
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  let c1_i32_110 : BitVec 32 := 1#32
  let v83 : BitVec 32 := Scalar.muli v79 c1_i32_110
  let v84 : BitVec 32 := Scalar.addi c0_i32_111 v83
  v84.toNat
@[reducible] def k0_t3_loop : Scf.Loop 32 :=
  let c0_i32_10 : BitVec 32 := 0#32
  let c8_i32 : BitVec 32 := 8#32
  let v15 : BitVec 32 := Scalar.addi c0_i32_10 c8_i32
  let c1_i32_11 : BitVec 32 := 1#32
  ⟨c0_i32_10, v15, c1_i32_11⟩
def k0_cond2 (d0 : Dev nD) (k0_t3 : Fin k0_t3_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_106 : BitVec 32 := 0#32
  let v76 : BitVec 32 := Scalar.addi v75 c0_i32_106
  let v77 : BitVec 1 := Scalar.cmpi .ne v76 v2
  let v78 : BitVec 32 := Scalar.extui v77
  let c0_i32_107 : BitVec 32 := 0#32
  let v79 : BitVec 1 := Scalar.cmpi .ne v78 c0_i32_107
  v79

def k0_off5 (d0 : Dev nD) (k0_t3 : Fin k0_t3_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_106 : BitVec 32 := 0#32
  let v76 : BitVec 32 := Scalar.addi v75 c0_i32_106
  ![v76.toNat]
def k0_off6 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_106 : BitVec 32 := 0#32
  let v76 : BitVec 32 := Scalar.addi v75 c0_i32_106
  let c64_i32_133 : BitVec 32 := 64#32
  let v134 : BitVec 32 := Scalar.muli v76 c64_i32_133
  let c0_i32_136 : BitVec 32 := 0#32
  ![v134.toNat, 0]
def k0_cond3 (d0 : Dev nD) (k0_t3 : Fin k0_t3_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_108 : BitVec 32 := 1#32
  let v80 : BitVec 32 := Scalar.addi v75 c1_i32_108
  let v81 : BitVec 1 := Scalar.cmpi .ne v80 v2
  let v82 : BitVec 32 := Scalar.extui v81
  let c0_i32_109 : BitVec 32 := 0#32
  let v83 : BitVec 1 := Scalar.cmpi .ne v82 c0_i32_109
  v83

def k0_off7 (d0 : Dev nD) (k0_t3 : Fin k0_t3_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_108 : BitVec 32 := 1#32
  let v80 : BitVec 32 := Scalar.addi v75 c1_i32_108
  ![v80.toNat]
def k0_off8 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_108 : BitVec 32 := 1#32
  let v80 : BitVec 32 := Scalar.addi v75 c1_i32_108
  let c64_i32_133 : BitVec 32 := 64#32
  let v134 : BitVec 32 := Scalar.muli v80 c64_i32_133
  let c0_i32_136 : BitVec 32 := 0#32
  ![v134.toNat, 0]
def k0_cond4 (d0 : Dev nD) (k0_t3 : Fin k0_t3_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32 : BitVec 32 := 2#32
  let v84 : BitVec 32 := Scalar.addi v75 c2_i32
  let v85 : BitVec 1 := Scalar.cmpi .ne v84 v2
  let v86 : BitVec 32 := Scalar.extui v85
  let c0_i32_110 : BitVec 32 := 0#32
  let v87 : BitVec 1 := Scalar.cmpi .ne v86 c0_i32_110
  v87

def k0_off9 (d0 : Dev nD) (k0_t3 : Fin k0_t3_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32 : BitVec 32 := 2#32
  let v84 : BitVec 32 := Scalar.addi v75 c2_i32
  ![v84.toNat]
def k0_off10 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32 : BitVec 32 := 2#32
  let v84 : BitVec 32 := Scalar.addi v75 c2_i32
  let c64_i32_133 : BitVec 32 := 64#32
  let v134 : BitVec 32 := Scalar.muli v84 c64_i32_133
  let c0_i32_136 : BitVec 32 := 0#32
  ![v134.toNat, 0]
def k0_cond5 (d0 : Dev nD) (k0_t3 : Fin k0_t3_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32 : BitVec 32 := 3#32
  let v88 : BitVec 32 := Scalar.addi v75 c3_i32
  let v89 : BitVec 1 := Scalar.cmpi .ne v88 v2
  let v90 : BitVec 32 := Scalar.extui v89
  let c0_i32_111 : BitVec 32 := 0#32
  let v91 : BitVec 1 := Scalar.cmpi .ne v90 c0_i32_111
  v91

def k0_off11 (d0 : Dev nD) (k0_t3 : Fin k0_t3_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32 : BitVec 32 := 3#32
  let v88 : BitVec 32 := Scalar.addi v75 c3_i32
  ![v88.toNat]
def k0_off12 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32 : BitVec 32 := 3#32
  let v88 : BitVec 32 := Scalar.addi v75 c3_i32
  let c64_i32_133 : BitVec 32 := 64#32
  let v134 : BitVec 32 := Scalar.muli v88 c64_i32_133
  let c0_i32_136 : BitVec 32 := 0#32
  ![v134.toNat, 0]
def k0_off13 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c64_i32_112 : BitVec 32 := 64#32
  let v92 : BitVec 32 := Scalar.muli v75 c64_i32_112
  let v93 : Index := Scalar.indexCast v92
  let c0_113 : Index := 0#32
  ![v93.toNat, 0]
def k0_off14 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c64_i32_112 : BitVec 32 := 64#32
  let v92 : BitVec 32 := Scalar.muli v75 c64_i32_112
  let v101 : Index := Scalar.indexCast v92
  let c0_118 : Index := 0#32
  ![v101.toNat, 0]
def k0_cond6 (d0 : Dev nD) (k0_t3 : Fin k0_t3_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let v115 : BitVec 1 := Scalar.cmpi .eq v74 v3
  let v116 : BitVec 32 := Scalar.extui v115
  let c0_i32_124 : BitVec 32 := 0#32
  let v117 : BitVec 1 := Scalar.cmpi .ne v116 c0_i32_124
  v117

def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_133 : BitVec 32 := 64#32
  let v134 : BitVec 32 := Scalar.muli v2 c64_i32_133
  let v135 : Index := Scalar.indexCast v134
  let c0_134 : Index := 0#32
  ![v135.toNat, 0]
def k0_cond7 (d0 : Dev nD) (k0_t3 : Fin k0_t3_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_125 : BitVec 32 := 0#32
  let v118 : BitVec 32 := Scalar.addi v75 c0_i32_125
  let v119 : BitVec 1 := Scalar.cmpi .ne v118 v2
  let v120 : BitVec 32 := Scalar.extui v119
  let c0_i32_126 : BitVec 32 := 0#32
  let v121 : BitVec 1 := Scalar.cmpi .ne v120 c0_i32_126
  v121

def k0_off16 (d0 : Dev nD) (k0_t3 : Fin k0_t3_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_125 : BitVec 32 := 0#32
  let v118 : BitVec 32 := Scalar.addi v75 c0_i32_125
  ![v118.toNat]
def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_134 : BitVec 32 := 64#32
  let v135 : BitVec 32 := Scalar.muli v2 c64_i32_134
  let c0_i32_137 : BitVec 32 := 0#32
  ![v135.toNat, 0]
def k0_off19 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_125 : BitVec 32 := 0#32
  let v118 : BitVec 32 := Scalar.addi v75 c0_i32_125
  let c64_i32_133 : BitVec 32 := 64#32
  let v134 : BitVec 32 := Scalar.muli v118 c64_i32_133
  let c0_i32_138 : BitVec 32 := 0#32
  ![v134.toNat, 0]
def k0_dev3 (d0 : Dev nD) (k0_t3 : Fin k0_t3_loop.trips) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_125 : BitVec 32 := 0#32
  let v118 : BitVec 32 := Scalar.addi v75 c0_i32_125
  let c1_i32_135 : BitVec 32 := 1#32
  let v136 : BitVec 32 := Scalar.muli v118 c1_i32_135
  let v137 : BitVec 32 := Scalar.addi c0_i32_136 v136
  v137.toNat
def k0_cond8 (d0 : Dev nD) (k0_t3 : Fin k0_t3_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_127 : BitVec 32 := 1#32
  let v122 : BitVec 32 := Scalar.addi v75 c1_i32_127
  let v123 : BitVec 1 := Scalar.cmpi .ne v122 v2
  let v124 : BitVec 32 := Scalar.extui v123
  let c0_i32_128 : BitVec 32 := 0#32
  let v125 : BitVec 1 := Scalar.cmpi .ne v124 c0_i32_128
  v125

def k0_off20 (d0 : Dev nD) (k0_t3 : Fin k0_t3_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_127 : BitVec 32 := 1#32
  let v122 : BitVec 32 := Scalar.addi v75 c1_i32_127
  ![v122.toNat]
def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_134 : BitVec 32 := 64#32
  let v135 : BitVec 32 := Scalar.muli v2 c64_i32_134
  let c0_i32_137 : BitVec 32 := 0#32
  ![v135.toNat, 0]
def k0_off23 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_127 : BitVec 32 := 1#32
  let v122 : BitVec 32 := Scalar.addi v75 c1_i32_127
  let c64_i32_133 : BitVec 32 := 64#32
  let v134 : BitVec 32 := Scalar.muli v122 c64_i32_133
  let c0_i32_138 : BitVec 32 := 0#32
  ![v134.toNat, 0]
def k0_dev4 (d0 : Dev nD) (k0_t3 : Fin k0_t3_loop.trips) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_127 : BitVec 32 := 1#32
  let v122 : BitVec 32 := Scalar.addi v75 c1_i32_127
  let c1_i32_135 : BitVec 32 := 1#32
  let v136 : BitVec 32 := Scalar.muli v122 c1_i32_135
  let v137 : BitVec 32 := Scalar.addi c0_i32_136 v136
  v137.toNat
def k0_cond9 (d0 : Dev nD) (k0_t3 : Fin k0_t3_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32_129 : BitVec 32 := 2#32
  let v126 : BitVec 32 := Scalar.addi v75 c2_i32_129
  let v127 : BitVec 1 := Scalar.cmpi .ne v126 v2
  let v128 : BitVec 32 := Scalar.extui v127
  let c0_i32_130 : BitVec 32 := 0#32
  let v129 : BitVec 1 := Scalar.cmpi .ne v128 c0_i32_130
  v129

def k0_off24 (d0 : Dev nD) (k0_t3 : Fin k0_t3_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32_129 : BitVec 32 := 2#32
  let v126 : BitVec 32 := Scalar.addi v75 c2_i32_129
  ![v126.toNat]
def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_134 : BitVec 32 := 64#32
  let v135 : BitVec 32 := Scalar.muli v2 c64_i32_134
  let c0_i32_137 : BitVec 32 := 0#32
  ![v135.toNat, 0]
def k0_off27 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32_129 : BitVec 32 := 2#32
  let v126 : BitVec 32 := Scalar.addi v75 c2_i32_129
  let c64_i32_133 : BitVec 32 := 64#32
  let v134 : BitVec 32 := Scalar.muli v126 c64_i32_133
  let c0_i32_138 : BitVec 32 := 0#32
  ![v134.toNat, 0]
def k0_dev5 (d0 : Dev nD) (k0_t3 : Fin k0_t3_loop.trips) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32_129 : BitVec 32 := 2#32
  let v126 : BitVec 32 := Scalar.addi v75 c2_i32_129
  let c1_i32_135 : BitVec 32 := 1#32
  let v136 : BitVec 32 := Scalar.muli v126 c1_i32_135
  let v137 : BitVec 32 := Scalar.addi c0_i32_136 v136
  v137.toNat
def k0_cond10 (d0 : Dev nD) (k0_t3 : Fin k0_t3_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32_131 : BitVec 32 := 3#32
  let v130 : BitVec 32 := Scalar.addi v75 c3_i32_131
  let v131 : BitVec 1 := Scalar.cmpi .ne v130 v2
  let v132 : BitVec 32 := Scalar.extui v131
  let c0_i32_132 : BitVec 32 := 0#32
  let v133 : BitVec 1 := Scalar.cmpi .ne v132 c0_i32_132
  v133

def k0_off28 (d0 : Dev nD) (k0_t3 : Fin k0_t3_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32_131 : BitVec 32 := 3#32
  let v130 : BitVec 32 := Scalar.addi v75 c3_i32_131
  ![v130.toNat]
def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_134 : BitVec 32 := 64#32
  let v135 : BitVec 32 := Scalar.muli v2 c64_i32_134
  let c0_i32_137 : BitVec 32 := 0#32
  ![v135.toNat, 0]
def k0_off31 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32_131 : BitVec 32 := 3#32
  let v130 : BitVec 32 := Scalar.addi v75 c3_i32_131
  let c64_i32_133 : BitVec 32 := 64#32
  let v134 : BitVec 32 := Scalar.muli v130 c64_i32_133
  let c0_i32_138 : BitVec 32 := 0#32
  ![v134.toNat, 0]
def k0_dev6 (d0 : Dev nD) (k0_t3 : Fin k0_t3_loop.trips) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_10 : BitVec 32 := 0#32
  let c1_i32_11 : BitVec 32 := 1#32
  let arg18 : BitVec 32 := Scf.iv c0_i32_10 c1_i32_11 k0_t3
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32_131 : BitVec 32 := 3#32
  let v130 : BitVec 32 := Scalar.addi v75 c3_i32_131
  let c1_i32_135 : BitVec 32 := 1#32
  let v136 : BitVec 32 := Scalar.muli v130 c1_i32_135
  let v137 : BitVec 32 := Scalar.addi c0_i32_136 v136
  v137.toNat
@[reducible] def k0_t4_loop : Scf.Loop 32 :=
  let c1_i32_13 : BitVec 32 := 1#32
  let c31_i32_14 : BitVec 32 := 31#32
  let v16 : BitVec 32 := Scalar.addi c1_i32_13 c31_i32_14
  let c1_i32_15 : BitVec 32 := 1#32
  ⟨c1_i32_13, v16, c1_i32_15⟩
def k0_off32 (d0 : Dev nD) (k0_t4 : Fin k0_t4_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_13 : BitVec 32 := 1#32
  let c1_i32_15 : BitVec 32 := 1#32
  let arg18 : BitVec 32 := Scf.iv c1_i32_13 c1_i32_15 k0_t4
  let v73 : BitVec 32 := Scalar.addi v2 arg18
  let c32_i32_104 : BitVec 32 := 32#32
  let v74 : BitVec 32 := Scalar.remsi v73 c32_i32_104
  ![v74.toNat]
def k0_off33 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_13 : BitVec 32 := 1#32
  let c1_i32_15 : BitVec 32 := 1#32
  let arg18 : BitVec 32 := Scf.iv c1_i32_13 c1_i32_15 k0_t4
  let v73 : BitVec 32 := Scalar.addi v2 arg18
  let c32_i32_104 : BitVec 32 := 32#32
  let v74 : BitVec 32 := Scalar.remsi v73 c32_i32_104
  let c64_i32_106 : BitVec 32 := 64#32
  let v76 : BitVec 32 := Scalar.muli v74 c64_i32_106
  let c0_i32_109 : BitVec 32 := 0#32
  ![v76.toNat, 0]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_105 : BitVec 32 := 64#32
  let v75 : BitVec 32 := Scalar.muli v2 c64_i32_105
  let c0_i32_110 : BitVec 32 := 0#32
  ![v75.toNat, 0]
@[reducible] def k0_t5_loop : Scf.Loop 32 :=
  let c1_i32_17 : BitVec 32 := 1#32
  let c31_i32_18 : BitVec 32 := 31#32
  let v17 : BitVec 32 := Scalar.addi c1_i32_17 c31_i32_18
  let c1_i32_19 : BitVec 32 := 1#32
  ⟨c1_i32_17, v17, c1_i32_19⟩
def k0_off35 (d0 : Dev nD) (k0_t5 : Fin k0_t5_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17 : BitVec 32 := 1#32
  let c1_i32_19 : BitVec 32 := 1#32
  let arg18 : BitVec 32 := Scf.iv c1_i32_17 c1_i32_19 k0_t5
  let v73 : BitVec 32 := Scalar.addi v2 arg18
  let c32_i32_104 : BitVec 32 := 32#32
  let v74 : BitVec 32 := Scalar.remsi v73 c32_i32_104
  ![v74.toNat]
def k0_off36 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17 : BitVec 32 := 1#32
  let c1_i32_19 : BitVec 32 := 1#32
  let arg18 : BitVec 32 := Scf.iv c1_i32_17 c1_i32_19 k0_t5
  let v73 : BitVec 32 := Scalar.addi v2 arg18
  let c32_i32_104 : BitVec 32 := 32#32
  let v74 : BitVec 32 := Scalar.remsi v73 c32_i32_104
  let c64_i32_105 : BitVec 32 := 64#32
  let v75 : BitVec 32 := Scalar.muli v74 c64_i32_105
  let c0_i32_108 : BitVec 32 := 0#32
  ![v75.toNat, 0]
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_106 : BitVec 32 := 64#32
  let v76 : BitVec 32 := Scalar.muli v2 c64_i32_106
  let c0_i32_109 : BitVec 32 := 0#32
  ![v76.toNat, 0]
@[reducible] def k0_t6_loop : Scf.Loop 32 :=
  let c0_i32_27 : BitVec 32 := 0#32
  let c32_i32_28 : BitVec 32 := 32#32
  let v30 : BitVec 32 := Scalar.addi c0_i32_27 c32_i32_28
  let c1_i32_29 : BitVec 32 := 1#32
  ⟨c0_i32_27, v30, c1_i32_29⟩
def k0_cond11 (d0 : Dev nD) (k0_t6 : Fin k0_t6_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_27 : BitVec 32 := 0#32
  let c1_i32_29 : BitVec 32 := 1#32
  let arg18 : BitVec 32 := Scf.iv c0_i32_27 c1_i32_29 k0_t6
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  let v80 : BitVec 1 := Scalar.cmpi .ne v79 v2
  let v81 : BitVec 32 := Scalar.extui v80
  let c0_i32_109 : BitVec 32 := 0#32
  let v82 : BitVec 1 := Scalar.cmpi .ne v81 c0_i32_109
  v82

def k0_off38 (d0 : Dev nD) (k0_t6 : Fin k0_t6_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_27 : BitVec 32 := 0#32
  let c1_i32_29 : BitVec 32 := 1#32
  let arg18 : BitVec 32 := Scf.iv c0_i32_27 c1_i32_29 k0_t6
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  ![v79.toNat]
def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_26 : BitVec 32 := 64#32
  let v29 : BitVec 32 := Scalar.muli v2 c64_i32_26
  let c0_i32_112 : BitVec 32 := 0#32
  ![v29.toNat, 0]
def k0_dev7 (d0 : Dev nD) (k0_t6 : Fin k0_t6_loop.trips) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_27 : BitVec 32 := 0#32
  let c1_i32_29 : BitVec 32 := 1#32
  let arg18 : BitVec 32 := Scf.iv c0_i32_27 c1_i32_29 k0_t6
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  let c1_i32_110 : BitVec 32 := 1#32
  let v83 : BitVec 32 := Scalar.muli v79 c1_i32_110
  let v84 : BitVec 32 := Scalar.addi c0_i32_111 v83
  v84.toNat
@[reducible] def k0_t7_loop : Scf.Loop 32 :=
  let c0_i32_33 : BitVec 32 := 0#32
  let c32_i32_34 : BitVec 32 := 32#32
  let v33 : BitVec 32 := Scalar.addi c0_i32_33 c32_i32_34
  let c1_i32_35 : BitVec 32 := 1#32
  ⟨c0_i32_33, v33, c1_i32_35⟩
def k0_cond12 (d0 : Dev nD) (k0_t7 : Fin k0_t7_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_33 : BitVec 32 := 0#32
  let c1_i32_35 : BitVec 32 := 1#32
  let arg18 : BitVec 32 := Scf.iv c0_i32_33 c1_i32_35 k0_t7
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  let v80 : BitVec 1 := Scalar.cmpi .ne v79 v2
  let v81 : BitVec 32 := Scalar.extui v80
  let c0_i32_109 : BitVec 32 := 0#32
  let v82 : BitVec 1 := Scalar.cmpi .ne v81 c0_i32_109
  v82

def k0_off41 (d0 : Dev nD) (k0_t7 : Fin k0_t7_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_33 : BitVec 32 := 0#32
  let c1_i32_35 : BitVec 32 := 1#32
  let arg18 : BitVec 32 := Scf.iv c0_i32_33 c1_i32_35 k0_t7
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  ![v79.toNat]
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_31 : BitVec 32 := 64#32
  let v31 : BitVec 32 := Scalar.muli v2 c64_i32_31
  let c0_i32_111 : BitVec 32 := 0#32
  ![v31.toNat, 0]
@[reducible] def k0_t8_loop : Scf.Loop 32 :=
  let c0_i32_37 : BitVec 32 := 0#32
  let c8_i32_38 : BitVec 32 := 8#32
  let v34 : BitVec 32 := Scalar.addi c0_i32_37 c8_i32_38
  let c1_i32_39 : BitVec 32 := 1#32
  ⟨c0_i32_37, v34, c1_i32_39⟩
def k0_cond13 (d0 : Dev nD) (k0_t8 : Fin k0_t8_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_106 : BitVec 32 := 0#32
  let v76 : BitVec 32 := Scalar.addi v75 c0_i32_106
  let v77 : BitVec 1 := Scalar.cmpi .ne v76 v2
  let v78 : BitVec 32 := Scalar.extui v77
  let c0_i32_107 : BitVec 32 := 0#32
  let v79 : BitVec 1 := Scalar.cmpi .ne v78 c0_i32_107
  v79

def k0_off43 (d0 : Dev nD) (k0_t8 : Fin k0_t8_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_106 : BitVec 32 := 0#32
  let v76 : BitVec 32 := Scalar.addi v75 c0_i32_106
  ![v76.toNat]
def k0_off44 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_106 : BitVec 32 := 0#32
  let v76 : BitVec 32 := Scalar.addi v75 c0_i32_106
  let c64_i32_133 : BitVec 32 := 64#32
  let v134 : BitVec 32 := Scalar.muli v76 c64_i32_133
  let c0_i32_136 : BitVec 32 := 0#32
  ![v134.toNat, 0]
def k0_cond14 (d0 : Dev nD) (k0_t8 : Fin k0_t8_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_108 : BitVec 32 := 1#32
  let v80 : BitVec 32 := Scalar.addi v75 c1_i32_108
  let v81 : BitVec 1 := Scalar.cmpi .ne v80 v2
  let v82 : BitVec 32 := Scalar.extui v81
  let c0_i32_109 : BitVec 32 := 0#32
  let v83 : BitVec 1 := Scalar.cmpi .ne v82 c0_i32_109
  v83

def k0_off45 (d0 : Dev nD) (k0_t8 : Fin k0_t8_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_108 : BitVec 32 := 1#32
  let v80 : BitVec 32 := Scalar.addi v75 c1_i32_108
  ![v80.toNat]
def k0_off46 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_108 : BitVec 32 := 1#32
  let v80 : BitVec 32 := Scalar.addi v75 c1_i32_108
  let c64_i32_133 : BitVec 32 := 64#32
  let v134 : BitVec 32 := Scalar.muli v80 c64_i32_133
  let c0_i32_136 : BitVec 32 := 0#32
  ![v134.toNat, 0]
def k0_cond15 (d0 : Dev nD) (k0_t8 : Fin k0_t8_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32 : BitVec 32 := 2#32
  let v84 : BitVec 32 := Scalar.addi v75 c2_i32
  let v85 : BitVec 1 := Scalar.cmpi .ne v84 v2
  let v86 : BitVec 32 := Scalar.extui v85
  let c0_i32_110 : BitVec 32 := 0#32
  let v87 : BitVec 1 := Scalar.cmpi .ne v86 c0_i32_110
  v87

def k0_off47 (d0 : Dev nD) (k0_t8 : Fin k0_t8_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32 : BitVec 32 := 2#32
  let v84 : BitVec 32 := Scalar.addi v75 c2_i32
  ![v84.toNat]
def k0_off48 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32 : BitVec 32 := 2#32
  let v84 : BitVec 32 := Scalar.addi v75 c2_i32
  let c64_i32_133 : BitVec 32 := 64#32
  let v134 : BitVec 32 := Scalar.muli v84 c64_i32_133
  let c0_i32_136 : BitVec 32 := 0#32
  ![v134.toNat, 0]
def k0_cond16 (d0 : Dev nD) (k0_t8 : Fin k0_t8_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32 : BitVec 32 := 3#32
  let v88 : BitVec 32 := Scalar.addi v75 c3_i32
  let v89 : BitVec 1 := Scalar.cmpi .ne v88 v2
  let v90 : BitVec 32 := Scalar.extui v89
  let c0_i32_111 : BitVec 32 := 0#32
  let v91 : BitVec 1 := Scalar.cmpi .ne v90 c0_i32_111
  v91

def k0_off49 (d0 : Dev nD) (k0_t8 : Fin k0_t8_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32 : BitVec 32 := 3#32
  let v88 : BitVec 32 := Scalar.addi v75 c3_i32
  ![v88.toNat]
def k0_off50 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32 : BitVec 32 := 3#32
  let v88 : BitVec 32 := Scalar.addi v75 c3_i32
  let c64_i32_133 : BitVec 32 := 64#32
  let v134 : BitVec 32 := Scalar.muli v88 c64_i32_133
  let c0_i32_136 : BitVec 32 := 0#32
  ![v134.toNat, 0]
def k0_off51 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c64_i32_112 : BitVec 32 := 64#32
  let v92 : BitVec 32 := Scalar.muli v75 c64_i32_112
  let v93 : Index := Scalar.indexCast v92
  let c0_113 : Index := 0#32
  ![v93.toNat, 0]
def k0_off52 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c64_i32_112 : BitVec 32 := 64#32
  let v92 : BitVec 32 := Scalar.muli v75 c64_i32_112
  let v101 : Index := Scalar.indexCast v92
  let c0_118 : Index := 0#32
  ![v101.toNat, 0]
def k0_cond17 (d0 : Dev nD) (k0_t8 : Fin k0_t8_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let v115 : BitVec 1 := Scalar.cmpi .eq v74 v3
  let v116 : BitVec 32 := Scalar.extui v115
  let c0_i32_124 : BitVec 32 := 0#32
  let v117 : BitVec 1 := Scalar.cmpi .ne v116 c0_i32_124
  v117

def k0_off53 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_133 : BitVec 32 := 64#32
  let v134 : BitVec 32 := Scalar.muli v2 c64_i32_133
  let v135 : Index := Scalar.indexCast v134
  let c0_134 : Index := 0#32
  ![v135.toNat, 0]
def k0_cond18 (d0 : Dev nD) (k0_t8 : Fin k0_t8_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_125 : BitVec 32 := 0#32
  let v118 : BitVec 32 := Scalar.addi v75 c0_i32_125
  let v119 : BitVec 1 := Scalar.cmpi .ne v118 v2
  let v120 : BitVec 32 := Scalar.extui v119
  let c0_i32_126 : BitVec 32 := 0#32
  let v121 : BitVec 1 := Scalar.cmpi .ne v120 c0_i32_126
  v121

def k0_off54 (d0 : Dev nD) (k0_t8 : Fin k0_t8_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_125 : BitVec 32 := 0#32
  let v118 : BitVec 32 := Scalar.addi v75 c0_i32_125
  ![v118.toNat]
def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_134 : BitVec 32 := 64#32
  let v135 : BitVec 32 := Scalar.muli v2 c64_i32_134
  let c0_i32_137 : BitVec 32 := 0#32
  ![v135.toNat, 0]
def k0_off57 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_125 : BitVec 32 := 0#32
  let v118 : BitVec 32 := Scalar.addi v75 c0_i32_125
  let c64_i32_133 : BitVec 32 := 64#32
  let v134 : BitVec 32 := Scalar.muli v118 c64_i32_133
  let c0_i32_138 : BitVec 32 := 0#32
  ![v134.toNat, 0]
def k0_dev8 (d0 : Dev nD) (k0_t8 : Fin k0_t8_loop.trips) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_125 : BitVec 32 := 0#32
  let v118 : BitVec 32 := Scalar.addi v75 c0_i32_125
  let c1_i32_135 : BitVec 32 := 1#32
  let v136 : BitVec 32 := Scalar.muli v118 c1_i32_135
  let v137 : BitVec 32 := Scalar.addi c0_i32_136 v136
  v137.toNat
def k0_cond19 (d0 : Dev nD) (k0_t8 : Fin k0_t8_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_127 : BitVec 32 := 1#32
  let v122 : BitVec 32 := Scalar.addi v75 c1_i32_127
  let v123 : BitVec 1 := Scalar.cmpi .ne v122 v2
  let v124 : BitVec 32 := Scalar.extui v123
  let c0_i32_128 : BitVec 32 := 0#32
  let v125 : BitVec 1 := Scalar.cmpi .ne v124 c0_i32_128
  v125

def k0_off58 (d0 : Dev nD) (k0_t8 : Fin k0_t8_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_127 : BitVec 32 := 1#32
  let v122 : BitVec 32 := Scalar.addi v75 c1_i32_127
  ![v122.toNat]
def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_134 : BitVec 32 := 64#32
  let v135 : BitVec 32 := Scalar.muli v2 c64_i32_134
  let c0_i32_137 : BitVec 32 := 0#32
  ![v135.toNat, 0]
def k0_off61 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_127 : BitVec 32 := 1#32
  let v122 : BitVec 32 := Scalar.addi v75 c1_i32_127
  let c64_i32_133 : BitVec 32 := 64#32
  let v134 : BitVec 32 := Scalar.muli v122 c64_i32_133
  let c0_i32_138 : BitVec 32 := 0#32
  ![v134.toNat, 0]
def k0_dev9 (d0 : Dev nD) (k0_t8 : Fin k0_t8_loop.trips) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_127 : BitVec 32 := 1#32
  let v122 : BitVec 32 := Scalar.addi v75 c1_i32_127
  let c1_i32_135 : BitVec 32 := 1#32
  let v136 : BitVec 32 := Scalar.muli v122 c1_i32_135
  let v137 : BitVec 32 := Scalar.addi c0_i32_136 v136
  v137.toNat
def k0_cond20 (d0 : Dev nD) (k0_t8 : Fin k0_t8_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32_129 : BitVec 32 := 2#32
  let v126 : BitVec 32 := Scalar.addi v75 c2_i32_129
  let v127 : BitVec 1 := Scalar.cmpi .ne v126 v2
  let v128 : BitVec 32 := Scalar.extui v127
  let c0_i32_130 : BitVec 32 := 0#32
  let v129 : BitVec 1 := Scalar.cmpi .ne v128 c0_i32_130
  v129

def k0_off62 (d0 : Dev nD) (k0_t8 : Fin k0_t8_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32_129 : BitVec 32 := 2#32
  let v126 : BitVec 32 := Scalar.addi v75 c2_i32_129
  ![v126.toNat]
def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_134 : BitVec 32 := 64#32
  let v135 : BitVec 32 := Scalar.muli v2 c64_i32_134
  let c0_i32_137 : BitVec 32 := 0#32
  ![v135.toNat, 0]
def k0_off65 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32_129 : BitVec 32 := 2#32
  let v126 : BitVec 32 := Scalar.addi v75 c2_i32_129
  let c64_i32_133 : BitVec 32 := 64#32
  let v134 : BitVec 32 := Scalar.muli v126 c64_i32_133
  let c0_i32_138 : BitVec 32 := 0#32
  ![v134.toNat, 0]
def k0_dev10 (d0 : Dev nD) (k0_t8 : Fin k0_t8_loop.trips) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32_129 : BitVec 32 := 2#32
  let v126 : BitVec 32 := Scalar.addi v75 c2_i32_129
  let c1_i32_135 : BitVec 32 := 1#32
  let v136 : BitVec 32 := Scalar.muli v126 c1_i32_135
  let v137 : BitVec 32 := Scalar.addi c0_i32_136 v136
  v137.toNat
def k0_cond21 (d0 : Dev nD) (k0_t8 : Fin k0_t8_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32_131 : BitVec 32 := 3#32
  let v130 : BitVec 32 := Scalar.addi v75 c3_i32_131
  let v131 : BitVec 1 := Scalar.cmpi .ne v130 v2
  let v132 : BitVec 32 := Scalar.extui v131
  let c0_i32_132 : BitVec 32 := 0#32
  let v133 : BitVec 1 := Scalar.cmpi .ne v132 c0_i32_132
  v133

def k0_off66 (d0 : Dev nD) (k0_t8 : Fin k0_t8_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32_131 : BitVec 32 := 3#32
  let v130 : BitVec 32 := Scalar.addi v75 c3_i32_131
  ![v130.toNat]
def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_134 : BitVec 32 := 64#32
  let v135 : BitVec 32 := Scalar.muli v2 c64_i32_134
  let c0_i32_137 : BitVec 32 := 0#32
  ![v135.toNat, 0]
def k0_off69 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32_131 : BitVec 32 := 3#32
  let v130 : BitVec 32 := Scalar.addi v75 c3_i32_131
  let c64_i32_133 : BitVec 32 := 64#32
  let v134 : BitVec 32 := Scalar.muli v130 c64_i32_133
  let c0_i32_138 : BitVec 32 := 0#32
  ![v134.toNat, 0]
def k0_dev11 (d0 : Dev nD) (k0_t8 : Fin k0_t8_loop.trips) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_37 : BitVec 32 := 0#32
  let c1_i32_39 : BitVec 32 := 1#32
  let arg18 : BitVec 32 := Scf.iv c0_i32_37 c1_i32_39 k0_t8
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32_131 : BitVec 32 := 3#32
  let v130 : BitVec 32 := Scalar.addi v75 c3_i32_131
  let c1_i32_135 : BitVec 32 := 1#32
  let v136 : BitVec 32 := Scalar.muli v130 c1_i32_135
  let v137 : BitVec 32 := Scalar.addi c0_i32_136 v136
  v137.toNat
@[reducible] def k0_t9_loop : Scf.Loop 32 :=
  let c1_i32_41 : BitVec 32 := 1#32
  let c31_i32_42 : BitVec 32 := 31#32
  let v35 : BitVec 32 := Scalar.addi c1_i32_41 c31_i32_42
  let c1_i32_43 : BitVec 32 := 1#32
  ⟨c1_i32_41, v35, c1_i32_43⟩
def k0_off70 (d0 : Dev nD) (k0_t9 : Fin k0_t9_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_41 : BitVec 32 := 1#32
  let c1_i32_43 : BitVec 32 := 1#32
  let arg18 : BitVec 32 := Scf.iv c1_i32_41 c1_i32_43 k0_t9
  let v73 : BitVec 32 := Scalar.addi v2 arg18
  let c32_i32_104 : BitVec 32 := 32#32
  let v74 : BitVec 32 := Scalar.remsi v73 c32_i32_104
  ![v74.toNat]
def k0_off71 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_41 : BitVec 32 := 1#32
  let c1_i32_43 : BitVec 32 := 1#32
  let arg18 : BitVec 32 := Scf.iv c1_i32_41 c1_i32_43 k0_t9
  let v73 : BitVec 32 := Scalar.addi v2 arg18
  let c32_i32_104 : BitVec 32 := 32#32
  let v74 : BitVec 32 := Scalar.remsi v73 c32_i32_104
  let c64_i32_106 : BitVec 32 := 64#32
  let v76 : BitVec 32 := Scalar.muli v74 c64_i32_106
  let c0_i32_109 : BitVec 32 := 0#32
  ![v76.toNat, 0]
def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_105 : BitVec 32 := 64#32
  let v75 : BitVec 32 := Scalar.muli v2 c64_i32_105
  let c0_i32_110 : BitVec 32 := 0#32
  ![v75.toNat, 0]
@[reducible] def k0_t10_loop : Scf.Loop 32 :=
  let c1_i32_45 : BitVec 32 := 1#32
  let c31_i32_46 : BitVec 32 := 31#32
  let v36 : BitVec 32 := Scalar.addi c1_i32_45 c31_i32_46
  let c1_i32_47 : BitVec 32 := 1#32
  ⟨c1_i32_45, v36, c1_i32_47⟩
def k0_off73 (d0 : Dev nD) (k0_t10 : Fin k0_t10_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_45 : BitVec 32 := 1#32
  let c1_i32_47 : BitVec 32 := 1#32
  let arg18 : BitVec 32 := Scf.iv c1_i32_45 c1_i32_47 k0_t10
  let v73 : BitVec 32 := Scalar.addi v2 arg18
  let c32_i32_104 : BitVec 32 := 32#32
  let v74 : BitVec 32 := Scalar.remsi v73 c32_i32_104
  ![v74.toNat]
def k0_off74 (d0 : Dev nD) (k0_t10 : Fin k0_t10_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_45 : BitVec 32 := 1#32
  let c1_i32_47 : BitVec 32 := 1#32
  let arg18 : BitVec 32 := Scf.iv c1_i32_45 c1_i32_47 k0_t10
  let v73 : BitVec 32 := Scalar.addi v2 arg18
  let c32_i32_104 : BitVec 32 := 32#32
  let v74 : BitVec 32 := Scalar.remsi v73 c32_i32_104
  let c64_i32_105 : BitVec 32 := 64#32
  let v75 : BitVec 32 := Scalar.muli v74 c64_i32_105
  let c0_i32_108 : BitVec 32 := 0#32
  ![v75.toNat, 0]
def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_106 : BitVec 32 := 64#32
  let v76 : BitVec 32 := Scalar.muli v2 c64_i32_106
  let c0_i32_109 : BitVec 32 := 0#32
  ![v76.toNat, 0]
@[reducible] def k0_t11_loop : Scf.Loop 32 :=
  let c0_i32_56 : BitVec 32 := 0#32
  let c32_i32_57 : BitVec 32 := 32#32
  let v49 : BitVec 32 := Scalar.addi c0_i32_56 c32_i32_57
  let c1_i32_58 : BitVec 32 := 1#32
  ⟨c0_i32_56, v49, c1_i32_58⟩
def k0_cond22 (d0 : Dev nD) (k0_t11 : Fin k0_t11_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_56 : BitVec 32 := 0#32
  let c1_i32_58 : BitVec 32 := 1#32
  let arg18 : BitVec 32 := Scf.iv c0_i32_56 c1_i32_58 k0_t11
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  let v80 : BitVec 1 := Scalar.cmpi .ne v79 v2
  let v81 : BitVec 32 := Scalar.extui v80
  let c0_i32_109 : BitVec 32 := 0#32
  let v82 : BitVec 1 := Scalar.cmpi .ne v81 c0_i32_109
  v82

def k0_off76 (d0 : Dev nD) (k0_t11 : Fin k0_t11_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_56 : BitVec 32 := 0#32
  let c1_i32_58 : BitVec 32 := 1#32
  let arg18 : BitVec 32 := Scf.iv c0_i32_56 c1_i32_58 k0_t11
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  ![v79.toNat]
def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_55 : BitVec 32 := 64#32
  let v48 : BitVec 32 := Scalar.muli v2 c64_i32_55
  let c0_i32_112 : BitVec 32 := 0#32
  ![v48.toNat, 0]
def k0_dev12 (d0 : Dev nD) (k0_t11 : Fin k0_t11_loop.trips) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_56 : BitVec 32 := 0#32
  let c1_i32_58 : BitVec 32 := 1#32
  let arg18 : BitVec 32 := Scf.iv c0_i32_56 c1_i32_58 k0_t11
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  let c1_i32_110 : BitVec 32 := 1#32
  let v83 : BitVec 32 := Scalar.muli v79 c1_i32_110
  let v84 : BitVec 32 := Scalar.addi c0_i32_111 v83
  v84.toNat
@[reducible] def k0_t12_loop : Scf.Loop 32 :=
  let c0_i32_62 : BitVec 32 := 0#32
  let c32_i32_63 : BitVec 32 := 32#32
  let v52 : BitVec 32 := Scalar.addi c0_i32_62 c32_i32_63
  let c1_i32_64 : BitVec 32 := 1#32
  ⟨c0_i32_62, v52, c1_i32_64⟩
def k0_cond23 (d0 : Dev nD) (k0_t12 : Fin k0_t12_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_62 : BitVec 32 := 0#32
  let c1_i32_64 : BitVec 32 := 1#32
  let arg18 : BitVec 32 := Scf.iv c0_i32_62 c1_i32_64 k0_t12
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  let v80 : BitVec 1 := Scalar.cmpi .ne v79 v2
  let v81 : BitVec 32 := Scalar.extui v80
  let c0_i32_109 : BitVec 32 := 0#32
  let v82 : BitVec 1 := Scalar.cmpi .ne v81 c0_i32_109
  v82

def k0_off79 (d0 : Dev nD) (k0_t12 : Fin k0_t12_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_62 : BitVec 32 := 0#32
  let c1_i32_64 : BitVec 32 := 1#32
  let arg18 : BitVec 32 := Scf.iv c0_i32_62 c1_i32_64 k0_t12
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  ![v79.toNat]
def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_60 : BitVec 32 := 64#32
  let v50 : BitVec 32 := Scalar.muli v2 c64_i32_60
  let c0_i32_111 : BitVec 32 := 0#32
  ![v50.toNat, 0]
@[reducible] def k0_t13_loop : Scf.Loop 32 :=
  let c0_i32_66 : BitVec 32 := 0#32
  let c8_i32_67 : BitVec 32 := 8#32
  let v53 : BitVec 32 := Scalar.addi c0_i32_66 c8_i32_67
  let c1_i32_68 : BitVec 32 := 1#32
  ⟨c0_i32_66, v53, c1_i32_68⟩
def k0_cond24 (d0 : Dev nD) (k0_t13 : Fin k0_t13_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_106 : BitVec 32 := 0#32
  let v76 : BitVec 32 := Scalar.addi v75 c0_i32_106
  let v77 : BitVec 1 := Scalar.cmpi .ne v76 v2
  let v78 : BitVec 32 := Scalar.extui v77
  let c0_i32_107 : BitVec 32 := 0#32
  let v79 : BitVec 1 := Scalar.cmpi .ne v78 c0_i32_107
  v79

def k0_off81 (d0 : Dev nD) (k0_t13 : Fin k0_t13_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_106 : BitVec 32 := 0#32
  let v76 : BitVec 32 := Scalar.addi v75 c0_i32_106
  ![v76.toNat]
def k0_off82 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_106 : BitVec 32 := 0#32
  let v76 : BitVec 32 := Scalar.addi v75 c0_i32_106
  let c64_i32_133 : BitVec 32 := 64#32
  let v134 : BitVec 32 := Scalar.muli v76 c64_i32_133
  let c0_i32_136 : BitVec 32 := 0#32
  ![v134.toNat, 0]
def k0_cond25 (d0 : Dev nD) (k0_t13 : Fin k0_t13_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_108 : BitVec 32 := 1#32
  let v80 : BitVec 32 := Scalar.addi v75 c1_i32_108
  let v81 : BitVec 1 := Scalar.cmpi .ne v80 v2
  let v82 : BitVec 32 := Scalar.extui v81
  let c0_i32_109 : BitVec 32 := 0#32
  let v83 : BitVec 1 := Scalar.cmpi .ne v82 c0_i32_109
  v83

def k0_off83 (d0 : Dev nD) (k0_t13 : Fin k0_t13_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_108 : BitVec 32 := 1#32
  let v80 : BitVec 32 := Scalar.addi v75 c1_i32_108
  ![v80.toNat]
def k0_off84 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_108 : BitVec 32 := 1#32
  let v80 : BitVec 32 := Scalar.addi v75 c1_i32_108
  let c64_i32_133 : BitVec 32 := 64#32
  let v134 : BitVec 32 := Scalar.muli v80 c64_i32_133
  let c0_i32_136 : BitVec 32 := 0#32
  ![v134.toNat, 0]
def k0_cond26 (d0 : Dev nD) (k0_t13 : Fin k0_t13_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32 : BitVec 32 := 2#32
  let v84 : BitVec 32 := Scalar.addi v75 c2_i32
  let v85 : BitVec 1 := Scalar.cmpi .ne v84 v2
  let v86 : BitVec 32 := Scalar.extui v85
  let c0_i32_110 : BitVec 32 := 0#32
  let v87 : BitVec 1 := Scalar.cmpi .ne v86 c0_i32_110
  v87

def k0_off85 (d0 : Dev nD) (k0_t13 : Fin k0_t13_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32 : BitVec 32 := 2#32
  let v84 : BitVec 32 := Scalar.addi v75 c2_i32
  ![v84.toNat]
def k0_off86 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32 : BitVec 32 := 2#32
  let v84 : BitVec 32 := Scalar.addi v75 c2_i32
  let c64_i32_133 : BitVec 32 := 64#32
  let v134 : BitVec 32 := Scalar.muli v84 c64_i32_133
  let c0_i32_136 : BitVec 32 := 0#32
  ![v134.toNat, 0]
def k0_cond27 (d0 : Dev nD) (k0_t13 : Fin k0_t13_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32 : BitVec 32 := 3#32
  let v88 : BitVec 32 := Scalar.addi v75 c3_i32
  let v89 : BitVec 1 := Scalar.cmpi .ne v88 v2
  let v90 : BitVec 32 := Scalar.extui v89
  let c0_i32_111 : BitVec 32 := 0#32
  let v91 : BitVec 1 := Scalar.cmpi .ne v90 c0_i32_111
  v91

def k0_off87 (d0 : Dev nD) (k0_t13 : Fin k0_t13_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32 : BitVec 32 := 3#32
  let v88 : BitVec 32 := Scalar.addi v75 c3_i32
  ![v88.toNat]
def k0_off88 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32 : BitVec 32 := 3#32
  let v88 : BitVec 32 := Scalar.addi v75 c3_i32
  let c64_i32_133 : BitVec 32 := 64#32
  let v134 : BitVec 32 := Scalar.muli v88 c64_i32_133
  let c0_i32_136 : BitVec 32 := 0#32
  ![v134.toNat, 0]
def k0_off89 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c64_i32_112 : BitVec 32 := 64#32
  let v92 : BitVec 32 := Scalar.muli v75 c64_i32_112
  let v93 : Index := Scalar.indexCast v92
  let c0_113 : Index := 0#32
  ![v93.toNat, 0]
def k0_off90 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c64_i32_112 : BitVec 32 := 64#32
  let v92 : BitVec 32 := Scalar.muli v75 c64_i32_112
  let v101 : Index := Scalar.indexCast v92
  let c0_118 : Index := 0#32
  ![v101.toNat, 0]
def k0_cond28 (d0 : Dev nD) (k0_t13 : Fin k0_t13_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let v115 : BitVec 1 := Scalar.cmpi .eq v74 v3
  let v116 : BitVec 32 := Scalar.extui v115
  let c0_i32_124 : BitVec 32 := 0#32
  let v117 : BitVec 1 := Scalar.cmpi .ne v116 c0_i32_124
  v117

def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_133 : BitVec 32 := 64#32
  let v134 : BitVec 32 := Scalar.muli v2 c64_i32_133
  let v135 : Index := Scalar.indexCast v134
  let c0_134 : Index := 0#32
  ![v135.toNat, 0]
def k0_cond29 (d0 : Dev nD) (k0_t13 : Fin k0_t13_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_125 : BitVec 32 := 0#32
  let v118 : BitVec 32 := Scalar.addi v75 c0_i32_125
  let v119 : BitVec 1 := Scalar.cmpi .ne v118 v2
  let v120 : BitVec 32 := Scalar.extui v119
  let c0_i32_126 : BitVec 32 := 0#32
  let v121 : BitVec 1 := Scalar.cmpi .ne v120 c0_i32_126
  v121

def k0_off92 (d0 : Dev nD) (k0_t13 : Fin k0_t13_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_125 : BitVec 32 := 0#32
  let v118 : BitVec 32 := Scalar.addi v75 c0_i32_125
  ![v118.toNat]
def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_134 : BitVec 32 := 64#32
  let v135 : BitVec 32 := Scalar.muli v2 c64_i32_134
  let c0_i32_137 : BitVec 32 := 0#32
  ![v135.toNat, 0]
def k0_off95 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_125 : BitVec 32 := 0#32
  let v118 : BitVec 32 := Scalar.addi v75 c0_i32_125
  let c64_i32_133 : BitVec 32 := 64#32
  let v134 : BitVec 32 := Scalar.muli v118 c64_i32_133
  let c0_i32_138 : BitVec 32 := 0#32
  ![v134.toNat, 0]
def k0_dev13 (d0 : Dev nD) (k0_t13 : Fin k0_t13_loop.trips) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c0_i32_125 : BitVec 32 := 0#32
  let v118 : BitVec 32 := Scalar.addi v75 c0_i32_125
  let c1_i32_135 : BitVec 32 := 1#32
  let v136 : BitVec 32 := Scalar.muli v118 c1_i32_135
  let v137 : BitVec 32 := Scalar.addi c0_i32_136 v136
  v137.toNat
def k0_cond30 (d0 : Dev nD) (k0_t13 : Fin k0_t13_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_127 : BitVec 32 := 1#32
  let v122 : BitVec 32 := Scalar.addi v75 c1_i32_127
  let v123 : BitVec 1 := Scalar.cmpi .ne v122 v2
  let v124 : BitVec 32 := Scalar.extui v123
  let c0_i32_128 : BitVec 32 := 0#32
  let v125 : BitVec 1 := Scalar.cmpi .ne v124 c0_i32_128
  v125

def k0_off96 (d0 : Dev nD) (k0_t13 : Fin k0_t13_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_127 : BitVec 32 := 1#32
  let v122 : BitVec 32 := Scalar.addi v75 c1_i32_127
  ![v122.toNat]
def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_134 : BitVec 32 := 64#32
  let v135 : BitVec 32 := Scalar.muli v2 c64_i32_134
  let c0_i32_137 : BitVec 32 := 0#32
  ![v135.toNat, 0]
def k0_off99 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_127 : BitVec 32 := 1#32
  let v122 : BitVec 32 := Scalar.addi v75 c1_i32_127
  let c64_i32_133 : BitVec 32 := 64#32
  let v134 : BitVec 32 := Scalar.muli v122 c64_i32_133
  let c0_i32_138 : BitVec 32 := 0#32
  ![v134.toNat, 0]
def k0_dev14 (d0 : Dev nD) (k0_t13 : Fin k0_t13_loop.trips) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c1_i32_127 : BitVec 32 := 1#32
  let v122 : BitVec 32 := Scalar.addi v75 c1_i32_127
  let c1_i32_135 : BitVec 32 := 1#32
  let v136 : BitVec 32 := Scalar.muli v122 c1_i32_135
  let v137 : BitVec 32 := Scalar.addi c0_i32_136 v136
  v137.toNat
def k0_cond31 (d0 : Dev nD) (k0_t13 : Fin k0_t13_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32_129 : BitVec 32 := 2#32
  let v126 : BitVec 32 := Scalar.addi v75 c2_i32_129
  let v127 : BitVec 1 := Scalar.cmpi .ne v126 v2
  let v128 : BitVec 32 := Scalar.extui v127
  let c0_i32_130 : BitVec 32 := 0#32
  let v129 : BitVec 1 := Scalar.cmpi .ne v128 c0_i32_130
  v129

def k0_off100 (d0 : Dev nD) (k0_t13 : Fin k0_t13_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32_129 : BitVec 32 := 2#32
  let v126 : BitVec 32 := Scalar.addi v75 c2_i32_129
  ![v126.toNat]
def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_134 : BitVec 32 := 64#32
  let v135 : BitVec 32 := Scalar.muli v2 c64_i32_134
  let c0_i32_137 : BitVec 32 := 0#32
  ![v135.toNat, 0]
def k0_off103 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32_129 : BitVec 32 := 2#32
  let v126 : BitVec 32 := Scalar.addi v75 c2_i32_129
  let c64_i32_133 : BitVec 32 := 64#32
  let v134 : BitVec 32 := Scalar.muli v126 c64_i32_133
  let c0_i32_138 : BitVec 32 := 0#32
  ![v134.toNat, 0]
def k0_dev15 (d0 : Dev nD) (k0_t13 : Fin k0_t13_loop.trips) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c2_i32_129 : BitVec 32 := 2#32
  let v126 : BitVec 32 := Scalar.addi v75 c2_i32_129
  let c1_i32_135 : BitVec 32 := 1#32
  let v136 : BitVec 32 := Scalar.muli v126 c1_i32_135
  let v137 : BitVec 32 := Scalar.addi c0_i32_136 v136
  v137.toNat
def k0_cond32 (d0 : Dev nD) (k0_t13 : Fin k0_t13_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32_131 : BitVec 32 := 3#32
  let v130 : BitVec 32 := Scalar.addi v75 c3_i32_131
  let v131 : BitVec 1 := Scalar.cmpi .ne v130 v2
  let v132 : BitVec 32 := Scalar.extui v131
  let c0_i32_132 : BitVec 32 := 0#32
  let v133 : BitVec 1 := Scalar.cmpi .ne v132 c0_i32_132
  v133

def k0_off104 (d0 : Dev nD) (k0_t13 : Fin k0_t13_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32_131 : BitVec 32 := 3#32
  let v130 : BitVec 32 := Scalar.addi v75 c3_i32_131
  ![v130.toNat]
def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_134 : BitVec 32 := 64#32
  let v135 : BitVec 32 := Scalar.muli v2 c64_i32_134
  let c0_i32_137 : BitVec 32 := 0#32
  ![v135.toNat, 0]
def k0_off107 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32_131 : BitVec 32 := 3#32
  let v130 : BitVec 32 := Scalar.addi v75 c3_i32_131
  let c64_i32_133 : BitVec 32 := 64#32
  let v134 : BitVec 32 := Scalar.muli v130 c64_i32_133
  let c0_i32_138 : BitVec 32 := 0#32
  ![v134.toNat, 0]
def k0_dev16 (d0 : Dev nD) (k0_t13 : Fin k0_t13_loop.trips) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_66 : BitVec 32 := 0#32
  let c1_i32_68 : BitVec 32 := 1#32
  let arg18 : BitVec 32 := Scf.iv c0_i32_66 c1_i32_68 k0_t13
  let v73 : BitVec 32 := Scalar.addi v3 arg18
  let c8_i32_104 : BitVec 32 := 8#32
  let v74 : BitVec 32 := Scalar.remsi v73 c8_i32_104
  let c4_i32_105 : BitVec 32 := 4#32
  let v75 : BitVec 32 := Scalar.muli v74 c4_i32_105
  let c3_i32_131 : BitVec 32 := 3#32
  let v130 : BitVec 32 := Scalar.addi v75 c3_i32_131
  let c1_i32_135 : BitVec 32 := 1#32
  let v136 : BitVec 32 := Scalar.muli v130 c1_i32_135
  let v137 : BitVec 32 := Scalar.addi c0_i32_136 v136
  v137.toNat
@[reducible] def k0_t14_loop : Scf.Loop 32 :=
  let c1_i32_70 : BitVec 32 := 1#32
  let c31_i32_71 : BitVec 32 := 31#32
  let v54 : BitVec 32 := Scalar.addi c1_i32_70 c31_i32_71
  let c1_i32_72 : BitVec 32 := 1#32
  ⟨c1_i32_70, v54, c1_i32_72⟩
def k0_off108 (d0 : Dev nD) (k0_t14 : Fin k0_t14_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_70 : BitVec 32 := 1#32
  let c1_i32_72 : BitVec 32 := 1#32
  let arg18 : BitVec 32 := Scf.iv c1_i32_70 c1_i32_72 k0_t14
  let v73 : BitVec 32 := Scalar.addi v2 arg18
  let c32_i32_104 : BitVec 32 := 32#32
  let v74 : BitVec 32 := Scalar.remsi v73 c32_i32_104
  ![v74.toNat]
def k0_off109 (d0 : Dev nD) (k0_t14 : Fin k0_t14_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_70 : BitVec 32 := 1#32
  let c1_i32_72 : BitVec 32 := 1#32
  let arg18 : BitVec 32 := Scf.iv c1_i32_70 c1_i32_72 k0_t14
  let v73 : BitVec 32 := Scalar.addi v2 arg18
  let c32_i32_104 : BitVec 32 := 32#32
  let v74 : BitVec 32 := Scalar.remsi v73 c32_i32_104
  let c64_i32_106 : BitVec 32 := 64#32
  let v76 : BitVec 32 := Scalar.muli v74 c64_i32_106
  let c0_i32_109 : BitVec 32 := 0#32
  ![v76.toNat, 0]
def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_105 : BitVec 32 := 64#32
  let v75 : BitVec 32 := Scalar.muli v2 c64_i32_105
  let c0_i32_110 : BitVec 32 := 0#32
  ![v75.toNat, 0]
@[reducible] def k0_t15_loop : Scf.Loop 32 :=
  let c1_i32_74 : BitVec 32 := 1#32
  let c31_i32_75 : BitVec 32 := 31#32
  let v55 : BitVec 32 := Scalar.addi c1_i32_74 c31_i32_75
  let c1_i32_76 : BitVec 32 := 1#32
  ⟨c1_i32_74, v55, c1_i32_76⟩
def k0_off111 (d0 : Dev nD) (k0_t15 : Fin k0_t15_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_74 : BitVec 32 := 1#32
  let c1_i32_76 : BitVec 32 := 1#32
  let arg18 : BitVec 32 := Scf.iv c1_i32_74 c1_i32_76 k0_t15
  let v73 : BitVec 32 := Scalar.addi v2 arg18
  let c32_i32_104 : BitVec 32 := 32#32
  let v74 : BitVec 32 := Scalar.remsi v73 c32_i32_104
  ![v74.toNat]
def k0_off112 (d0 : Dev nD) (k0_t15 : Fin k0_t15_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_74 : BitVec 32 := 1#32
  let c1_i32_76 : BitVec 32 := 1#32
  let arg18 : BitVec 32 := Scf.iv c1_i32_74 c1_i32_76 k0_t15
  let v73 : BitVec 32 := Scalar.addi v2 arg18
  let c32_i32_104 : BitVec 32 := 32#32
  let v74 : BitVec 32 := Scalar.remsi v73 c32_i32_104
  let c64_i32_105 : BitVec 32 := 64#32
  let v75 : BitVec 32 := Scalar.muli v74 c64_i32_105
  let c0_i32_108 : BitVec 32 := 0#32
  ![v75.toNat, 0]
def k0_off113 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_106 : BitVec 32 := 64#32
  let v76 : BitVec 32 := Scalar.muli v2 c64_i32_106
  let c0_i32_109 : BitVec 32 := 0#32
  ![v76.toNat, 0]
@[reducible] def k0_t16_loop : Scf.Loop 32 :=
  let c0_i32_85 : BitVec 32 := 0#32
  let c32_i32_86 : BitVec 32 := 32#32
  let v66 : BitVec 32 := Scalar.addi c0_i32_85 c32_i32_86
  let c1_i32_87 : BitVec 32 := 1#32
  ⟨c0_i32_85, v66, c1_i32_87⟩
def k0_cond33 (d0 : Dev nD) (k0_t16 : Fin k0_t16_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_85 : BitVec 32 := 0#32
  let c1_i32_87 : BitVec 32 := 1#32
  let arg18 : BitVec 32 := Scf.iv c0_i32_85 c1_i32_87 k0_t16
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  let v80 : BitVec 1 := Scalar.cmpi .ne v79 v2
  let v81 : BitVec 32 := Scalar.extui v80
  let c0_i32_109 : BitVec 32 := 0#32
  let v82 : BitVec 1 := Scalar.cmpi .ne v81 c0_i32_109
  v82

def k0_off114 (d0 : Dev nD) (k0_t16 : Fin k0_t16_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_85 : BitVec 32 := 0#32
  let c1_i32_87 : BitVec 32 := 1#32
  let arg18 : BitVec 32 := Scf.iv c0_i32_85 c1_i32_87 k0_t16
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  ![v79.toNat]
def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_84 : BitVec 32 := 64#32
  let v65 : BitVec 32 := Scalar.muli v2 c64_i32_84
  let c0_i32_112 : BitVec 32 := 0#32
  ![v65.toNat, 0]
def k0_dev17 (d0 : Dev nD) (k0_t16 : Fin k0_t16_loop.trips) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_85 : BitVec 32 := 0#32
  let c1_i32_87 : BitVec 32 := 1#32
  let arg18 : BitVec 32 := Scf.iv c0_i32_85 c1_i32_87 k0_t16
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  let c1_i32_110 : BitVec 32 := 1#32
  let v83 : BitVec 32 := Scalar.muli v79 c1_i32_110
  let v84 : BitVec 32 := Scalar.addi c0_i32_111 v83
  v84.toNat
@[reducible] def k0_t17_loop : Scf.Loop 32 :=
  let c0_i32_91 : BitVec 32 := 0#32
  let c32_i32_92 : BitVec 32 := 32#32
  let v69 : BitVec 32 := Scalar.addi c0_i32_91 c32_i32_92
  let c1_i32_93 : BitVec 32 := 1#32
  ⟨c0_i32_91, v69, c1_i32_93⟩
def k0_cond34 (d0 : Dev nD) (k0_t17 : Fin k0_t17_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_91 : BitVec 32 := 0#32
  let c1_i32_93 : BitVec 32 := 1#32
  let arg18 : BitVec 32 := Scf.iv c0_i32_91 c1_i32_93 k0_t17
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  let v80 : BitVec 1 := Scalar.cmpi .ne v79 v2
  let v81 : BitVec 32 := Scalar.extui v80
  let c0_i32_109 : BitVec 32 := 0#32
  let v82 : BitVec 1 := Scalar.cmpi .ne v81 c0_i32_109
  v82

def k0_off117 (d0 : Dev nD) (k0_t17 : Fin k0_t17_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_91 : BitVec 32 := 0#32
  let c1_i32_93 : BitVec 32 := 1#32
  let arg18 : BitVec 32 := Scf.iv c0_i32_91 c1_i32_93 k0_t17
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  ![v79.toNat]
def k0_off118 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_89 : BitVec 32 := 64#32
  let v67 : BitVec 32 := Scalar.muli v2 c64_i32_89
  let c0_i32_111 : BitVec 32 := 0#32
  ![v67.toNat, 0]
@[reducible] def k0_t18_loop : Scf.Loop 32 :=
  let c1_i32_95 : BitVec 32 := 1#32
  let c31_i32_96 : BitVec 32 := 31#32
  let v70 : BitVec 32 := Scalar.addi c1_i32_95 c31_i32_96
  let c1_i32_97 : BitVec 32 := 1#32
  ⟨c1_i32_95, v70, c1_i32_97⟩
def k0_off119 (d0 : Dev nD) (k0_t18 : Fin k0_t18_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_95 : BitVec 32 := 1#32
  let c1_i32_97 : BitVec 32 := 1#32
  let arg18 : BitVec 32 := Scf.iv c1_i32_95 c1_i32_97 k0_t18
  let v73 : BitVec 32 := Scalar.addi v2 arg18
  let c32_i32_104 : BitVec 32 := 32#32
  let v74 : BitVec 32 := Scalar.remsi v73 c32_i32_104
  ![v74.toNat]
def k0_off120 (d0 : Dev nD) (k0_t18 : Fin k0_t18_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_95 : BitVec 32 := 1#32
  let c1_i32_97 : BitVec 32 := 1#32
  let arg18 : BitVec 32 := Scf.iv c1_i32_95 c1_i32_97 k0_t18
  let v73 : BitVec 32 := Scalar.addi v2 arg18
  let c32_i32_104 : BitVec 32 := 32#32
  let v74 : BitVec 32 := Scalar.remsi v73 c32_i32_104
  let c64_i32_106 : BitVec 32 := 64#32
  let v76 : BitVec 32 := Scalar.muli v74 c64_i32_106
  let c0_i32_109 : BitVec 32 := 0#32
  ![v76.toNat, 0]
def k0_off121 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_105 : BitVec 32 := 64#32
  let v75 : BitVec 32 := Scalar.muli v2 c64_i32_105
  let c0_i32_110 : BitVec 32 := 0#32
  ![v75.toNat, 0]
@[reducible] def k0_t19_loop : Scf.Loop 32 :=
  let c0_i32_100 : BitVec 32 := 0#32
  let c32_i32_101 : BitVec 32 := 32#32
  let v72 : BitVec 32 := Scalar.addi c0_i32_100 c32_i32_101
  let c1_i32_102 : BitVec 32 := 1#32
  ⟨c0_i32_100, v72, c1_i32_102⟩
def k0_cond35 (d0 : Dev nD) (k0_t19 : Fin k0_t19_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_100 : BitVec 32 := 0#32
  let c1_i32_102 : BitVec 32 := 1#32
  let arg18 : BitVec 32 := Scf.iv c0_i32_100 c1_i32_102 k0_t19
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  let v80 : BitVec 1 := Scalar.cmpi .ne v79 v2
  let v81 : BitVec 32 := Scalar.extui v80
  let c0_i32_109 : BitVec 32 := 0#32
  let v82 : BitVec 1 := Scalar.cmpi .ne v81 c0_i32_109
  v82

def k0_off122 (d0 : Dev nD) (k0_t19 : Fin k0_t19_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_100 : BitVec 32 := 0#32
  let c1_i32_102 : BitVec 32 := 1#32
  let arg18 : BitVec 32 := Scf.iv c0_i32_100 c1_i32_102 k0_t19
  let c4_i32_104 : BitVec 32 := 4#32
  let v73 : BitVec 32 := Scalar.divsi arg18 c4_i32_104
  let v75 : BitVec 32 := Scalar.subi v3 v73
  let c8_i32_106 : BitVec 32 := 8#32
  let v76 : BitVec 32 := Scalar.addi v75 c8_i32_106
  let c8_i32_107 : BitVec 32 := 8#32
  let v77 : BitVec 32 := Scalar.remsi v76 c8_i32_107
  let c4_i32_108 : BitVec 32 := 4#32
  let v78 : BitVec 32 := Scalar.muli v77 c4_i32_108
  let c4_i32_105 : BitVec 32 := 4#32
  let v74 : BitVec 32 := Scalar.remsi arg18 c4_i32_105
  let v79 : BitVec 32 := Scalar.addi v78 v74
  ![v79.toNat]
def k0_off123 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_99 : BitVec 32 := 64#32
  let v71 : BitVec 32 := Scalar.muli v2 c64_i32_99
  let c0_i32_111 : BitVec 32 := 0#32
  ![v71.toNat, 0]
abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2048x1024 : Shape := ⟨2, ![2048, 1024]⟩
abbrev S1024x65536 : Shape := ⟨2, ![1024, 65536]⟩
abbrev S65536x1024 : Shape := ⟨2, ![65536, 1024]⟩
abbrev S2048x65536 : Shape := ⟨2, ![2048, 65536]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x65536, .bf16⟩
  | .hbm, ⟨2, _⟩ => ⟨S1024x65536, .bf16⟩
  | .hbm, ⟨3, _⟩ => ⟨S1024x65536, .bf16⟩
  | .hbm, ⟨4, _⟩ => ⟨S65536x1024, .bf16⟩
  | .hbm, ⟨5, _⟩ => ⟨S65536x1024, .bf16⟩
  | .hbm, ⟨6, _⟩ => ⟨S65536x1024, .bf16⟩
  | .hbm, ⟨7, _⟩ => ⟨S2048x65536, .f32⟩
  | .hbm, ⟨8, _⟩ => ⟨S2048x65536, .bf16⟩
  | .hbm, ⟨9, _⟩ => ⟨S_, .bf16⟩
  | .hbm, ⟨10, _⟩ => ⟨S2048x65536, .bf16⟩
  | .hbm, ⟨11, _⟩ => ⟨S2048x65536, .bf16⟩
  | .hbm, ⟨12, _⟩ => ⟨S2048x1024, .f32⟩
  | .hbm, ⟨13, _⟩ => ⟨S2048x1024, .bf16⟩
  | .hbm, ⟨14, _⟩ => ⟨S2048x65536, .f32⟩
  | .hbm, ⟨15, _⟩ => ⟨S2048x65536, .bf16⟩
  | .hbm, ⟨16, _⟩ => ⟨S_, .bf16⟩
  | .hbm, ⟨17, _⟩ => ⟨S2048x65536, .bf16⟩
  | .hbm, ⟨18, _⟩ => ⟨S2048x65536, .bf16⟩
  | .hbm, ⟨19, _⟩ => ⟨S2048x1024, .f32⟩
  | .hbm, ⟨20, _⟩ => ⟨S2048x1024, .bf16⟩
  | .hbm, ⟨21, _⟩ => ⟨S2048x65536, .f32⟩
  | .hbm, ⟨22, _⟩ => ⟨S2048x65536, .bf16⟩
  | .hbm, ⟨23, _⟩ => ⟨S_, .bf16⟩
  | .hbm, ⟨24, _⟩ => ⟨S2048x65536, .bf16⟩
  | .hbm, ⟨25, _⟩ => ⟨S2048x65536, .bf16⟩
  | .hbm, ⟨26, _⟩ => ⟨S2048x1024, .f32⟩
  | .hbm, ⟨27, _⟩ => ⟨S2048x1024, .bf16⟩
  | .hbm, ⟨28, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Facts.lean ====
module
public import proofs.«01_k».proof.Proof.Gen.KernelIdeal.Skeleton

@[expose] public section

set_option maxRecDepth 65536

/-! # The addresses the kernel computes, in closed form

Every offset, device number and branch condition of the kernel is decided over the 32 devices and the trips of its
loop. `hop d n` is the device `n + 1` places after `d`; `far d t` the device the broadcast loops visit at trip `t`; `grp d t`
the group of four devices the matmul loop visits at trip `t`. -/

noncomputable section

namespace Cert.KernelIdeal.Pf

open Idealize.ShloMosaic Idealize.SL.Sem Cert.KernelIdeal.Gen

/-- The device `n + 1` places after `d` around the ring of 32. -/
abbrev hop (d : Dev nD) (n : ℕ) : Dev nD := ⟨(d.val + n + 1) % 32, Nat.mod_lt _ (by decide)⟩
/-- The device a broadcast loop on `d` visits at trip `t`. -/
abbrev far (d : Dev nD) (t : ℕ) : Dev nD := ⟨(4 * ((d.val / 4 + 8 - t / 4) % 8) + t % 4) % 32, Nat.mod_lt _ (by decide)⟩
/-- The group of four devices the matmul loop on `d` visits at trip `t`. -/
abbrev grp (d : Dev nD) (t : ℕ) : Fin 8 := ⟨(d.val / 4 + t) % 8, Nat.mod_lt _ (by decide)⟩
/-- Member `j` of group `g`. -/
abbrev mem (g : Fin 8) (j : Fin 4) : Dev nD := ⟨4 * g.val + j.val, by have := g.2; have := j.2; show _ < 32; omega⟩

theorem off1_eq : ∀ (d : Dev nD), k0_off1 d = ![64 * d.val, 0] := by decide +kernel
theorem dev1_eq : ∀ (d : Dev nD) (t : Fin k0_t1_loop.trips), k0_dev1 d t = (hop d t.val).val := by decide +kernel
theorem cond1_eq : ∀ (d : Dev nD) (t : Fin k0_t2_loop.trips), k0_cond1 d t = 1#1 ↔ far d t.val ≠ d := by decide +kernel
theorem dev2_eq : ∀ (d : Dev nD) (t : Fin k0_t2_loop.trips), k0_dev2 d t = (far d t.val).val := by decide +kernel
theorem off2_eq : ∀ (d : Dev nD) (t : Fin k0_t2_loop.trips), k0_off2 d t = ![(far d t.val).val] := by decide +kernel
theorem off3_eq : ∀ (d : Dev nD), k0_off3 d = ![d.val] := by decide +kernel
theorem off4_eq : ∀ (d : Dev nD), k0_off4 d = ![64 * d.val, 0] := by decide +kernel
theorem cond2_eq : ∀ (d : Dev nD) (t : Fin k0_t3_loop.trips), k0_cond2 d t = 1#1 ↔ mem (grp d t.val) 0 ≠ d := by decide +kernel
theorem off5_eq : ∀ (d : Dev nD) (t : Fin k0_t3_loop.trips), k0_off5 d t = ![(mem (grp d t.val) 0).val] := by decide +kernel
theorem off6_eq : ∀ (d : Dev nD) (t : Fin k0_t3_loop.trips), k0_off6 d t = ![64 * (mem (grp d t.val) 0).val, 0] := by decide +kernel
theorem cond3_eq : ∀ (d : Dev nD) (t : Fin k0_t3_loop.trips), k0_cond3 d t = 1#1 ↔ mem (grp d t.val) 1 ≠ d := by decide +kernel
theorem off7_eq : ∀ (d : Dev nD) (t : Fin k0_t3_loop.trips), k0_off7 d t = ![(mem (grp d t.val) 1).val] := by decide +kernel
theorem off8_eq : ∀ (d : Dev nD) (t : Fin k0_t3_loop.trips), k0_off8 d t = ![64 * (mem (grp d t.val) 1).val, 0] := by decide +kernel
theorem cond4_eq : ∀ (d : Dev nD) (t : Fin k0_t3_loop.trips), k0_cond4 d t = 1#1 ↔ mem (grp d t.val) 2 ≠ d := by decide +kernel
theorem off9_eq : ∀ (d : Dev nD) (t : Fin k0_t3_loop.trips), k0_off9 d t = ![(mem (grp d t.val) 2).val] := by decide +kernel
theorem off10_eq : ∀ (d : Dev nD) (t : Fin k0_t3_loop.trips), k0_off10 d t = ![64 * (mem (grp d t.val) 2).val, 0] := by decide +kernel
theorem cond5_eq : ∀ (d : Dev nD) (t : Fin k0_t3_loop.trips), k0_cond5 d t = 1#1 ↔ mem (grp d t.val) 3 ≠ d := by decide +kernel
theorem off11_eq : ∀ (d : Dev nD) (t : Fin k0_t3_loop.trips), k0_off11 d t = ![(mem (grp d t.val) 3).val] := by decide +kernel
theorem off12_eq : ∀ (d : Dev nD) (t : Fin k0_t3_loop.trips), k0_off12 d t = ![64 * (mem (grp d t.val) 3).val, 0] := by decide +kernel
theorem off13_eq : ∀ (d : Dev nD) (t : Fin k0_t3_loop.trips), k0_off13 d t = ![256 * (grp d t.val).val, 0] := by decide +kernel
theorem off14_eq : ∀ (d : Dev nD) (t : Fin k0_t3_loop.trips), k0_off14 d t = ![256 * (grp d t.val).val, 0] := by decide +kernel
theorem cond6_eq : ∀ (d : Dev nD) (t : Fin k0_t3_loop.trips), k0_cond6 d t = 1#1 ↔ (grp d t.val).val = d.val / 4 := by decide +kernel
theorem off15_eq : ∀ (d : Dev nD), k0_off15 d = ![64 * d.val, 0] := by decide +kernel
theorem cond7_eq : ∀ (d : Dev nD) (t : Fin k0_t3_loop.trips), k0_cond7 d t = 1#1 ↔ mem (grp d t.val) 0 ≠ d := by decide +kernel
theorem dev3_eq : ∀ (d : Dev nD) (t : Fin k0_t3_loop.trips), k0_dev3 d t = (mem (grp d t.val) 0).val := by decide +kernel
theorem off16_eq : ∀ (d : Dev nD) (t : Fin k0_t3_loop.trips), k0_off16 d t = ![(mem (grp d t.val) 0).val] := by decide +kernel
theorem off17_eq : ∀ (d : Dev nD), k0_off17 d = ![d.val] := by decide +kernel
theorem off18_eq : ∀ (d : Dev nD), k0_off18 d = ![64 * d.val, 0] := by decide +kernel
theorem off19_eq : ∀ (d : Dev nD) (t : Fin k0_t3_loop.trips), k0_off19 d t = ![64 * (mem (grp d t.val) 0).val, 0] := by decide +kernel
theorem cond8_eq : ∀ (d : Dev nD) (t : Fin k0_t3_loop.trips), k0_cond8 d t = 1#1 ↔ mem (grp d t.val) 1 ≠ d := by decide +kernel
theorem dev4_eq : ∀ (d : Dev nD) (t : Fin k0_t3_loop.trips), k0_dev4 d t = (mem (grp d t.val) 1).val := by decide +kernel
theorem off20_eq : ∀ (d : Dev nD) (t : Fin k0_t3_loop.trips), k0_off20 d t = ![(mem (grp d t.val) 1).val] := by decide +kernel
theorem off21_eq : ∀ (d : Dev nD), k0_off21 d = ![d.val] := by decide +kernel
theorem off22_eq : ∀ (d : Dev nD), k0_off22 d = ![64 * d.val, 0] := by decide +kernel
theorem off23_eq : ∀ (d : Dev nD) (t : Fin k0_t3_loop.trips), k0_off23 d t = ![64 * (mem (grp d t.val) 1).val, 0] := by decide +kernel
theorem cond9_eq : ∀ (d : Dev nD) (t : Fin k0_t3_loop.trips), k0_cond9 d t = 1#1 ↔ mem (grp d t.val) 2 ≠ d := by decide +kernel
theorem dev5_eq : ∀ (d : Dev nD) (t : Fin k0_t3_loop.trips), k0_dev5 d t = (mem (grp d t.val) 2).val := by decide +kernel
theorem off24_eq : ∀ (d : Dev nD) (t : Fin k0_t3_loop.trips), k0_off24 d t = ![(mem (grp d t.val) 2).val] := by decide +kernel
theorem off25_eq : ∀ (d : Dev nD), k0_off25 d = ![d.val] := by decide +kernel
theorem off26_eq : ∀ (d : Dev nD), k0_off26 d = ![64 * d.val, 0] := by decide +kernel
theorem off27_eq : ∀ (d : Dev nD) (t : Fin k0_t3_loop.trips), k0_off27 d t = ![64 * (mem (grp d t.val) 2).val, 0] := by decide +kernel
theorem cond10_eq : ∀ (d : Dev nD) (t : Fin k0_t3_loop.trips), k0_cond10 d t = 1#1 ↔ mem (grp d t.val) 3 ≠ d := by decide +kernel
theorem dev6_eq : ∀ (d : Dev nD) (t : Fin k0_t3_loop.trips), k0_dev6 d t = (mem (grp d t.val) 3).val := by decide +kernel
theorem off28_eq : ∀ (d : Dev nD) (t : Fin k0_t3_loop.trips), k0_off28 d t = ![(mem (grp d t.val) 3).val] := by decide +kernel
theorem off29_eq : ∀ (d : Dev nD), k0_off29 d = ![d.val] := by decide +kernel
theorem off30_eq : ∀ (d : Dev nD), k0_off30 d = ![64 * d.val, 0] := by decide +kernel
theorem off31_eq : ∀ (d : Dev nD) (t : Fin k0_t3_loop.trips), k0_off31 d t = ![64 * (mem (grp d t.val) 3).val, 0] := by decide +kernel
theorem off32_eq : ∀ (d : Dev nD) (t : Fin k0_t4_loop.trips), k0_off32 d t = ![(hop d t.val).val] := by decide +kernel
theorem off33_eq : ∀ (d : Dev nD) (t : Fin k0_t4_loop.trips), k0_off33 d t = ![64 * (hop d t.val).val, 0] := by decide +kernel
theorem off34_eq : ∀ (d : Dev nD), k0_off34 d = ![64 * d.val, 0] := by decide +kernel
theorem off35_eq : ∀ (d : Dev nD) (t : Fin k0_t5_loop.trips), k0_off35 d t = ![(hop d t.val).val] := by decide +kernel
theorem off36_eq : ∀ (d : Dev nD) (t : Fin k0_t5_loop.trips), k0_off36 d t = ![64 * (hop d t.val).val, 0] := by decide +kernel
theorem off37_eq : ∀ (d : Dev nD), k0_off37 d = ![64 * d.val, 0] := by decide +kernel
theorem cond11_eq : ∀ (d : Dev nD) (t : Fin k0_t6_loop.trips), k0_cond11 d t = 1#1 ↔ far d t.val ≠ d := by decide +kernel
theorem dev7_eq : ∀ (d : Dev nD) (t : Fin k0_t6_loop.trips), k0_dev7 d t = (far d t.val).val := by decide +kernel
theorem off38_eq : ∀ (d : Dev nD) (t : Fin k0_t6_loop.trips), k0_off38 d t = ![(far d t.val).val] := by decide +kernel
theorem off39_eq : ∀ (d : Dev nD), k0_off39 d = ![d.val] := by decide +kernel
theorem off40_eq : ∀ (d : Dev nD), k0_off40 d = ![64 * d.val, 0] := by decide +kernel
theorem cond12_eq : ∀ (d : Dev nD) (t : Fin k0_t7_loop.trips), k0_cond12 d t = 1#1 ↔ far d t.val ≠ d := by decide +kernel
theorem off41_eq : ∀ (d : Dev nD) (t : Fin k0_t7_loop.trips), k0_off41 d t = ![(far d t.val).val] := by decide +kernel
theorem off42_eq : ∀ (d : Dev nD), k0_off42 d = ![64 * d.val, 0] := by decide +kernel
theorem off119_eq : ∀ (d : Dev nD) (t : Fin k0_t18_loop.trips), k0_off119 d t = ![(hop d t.val).val] := by decide +kernel
theorem off120_eq : ∀ (d : Dev nD) (t : Fin k0_t18_loop.trips), k0_off120 d t = ![64 * (hop d t.val).val, 0] := by decide +kernel
theorem off121_eq : ∀ (d : Dev nD), k0_off121 d = ![64 * d.val, 0] := by decide +kernel
theorem cond35_eq : ∀ (d : Dev nD) (t : Fin k0_t19_loop.trips), k0_cond35 d t = 1#1 ↔ far d t.val ≠ d := by decide +kernel
theorem off122_eq : ∀ (d : Dev nD) (t : Fin k0_t19_loop.trips), k0_off122 d t = ![(far d t.val).val] := by decide +kernel
theorem off123_eq : ∀ (d : Dev nD), k0_off123 d = ![64 * d.val, 0] := by decide +kernel

end Cert.KernelIdeal.Pf
-- ==== Proof.Bodies.lean ====
module
public import proofs.«01_k».proof.Proof.Facts

@[expose] public section

set_option maxRecDepth 65536

/-! # The kernel's loops at its own buffers

The three layers print the same loop bodies at different operands. Here every body is taken at the buffers the launch passes,
and the later layers' bodies are identified with the first layer's. -/

noncomputable section

namespace Cert.KernelIdeal.Pf

open Idealize.ShloMosaic Idealize.SL.Sem Cert.KernelIdeal.Gen

variable {F : FTy → Type} [FloatOps F]

/-- The staged input block, the result block, and the four scratch arrays. -/
abbrev aM : Memref sig .tc .vmem S64x1024 .bf16 := Memref.whole cc0_stg0_0
abbrev oM : Memref sig .tc .vmem S2048x1024 .bf16 := Memref.whole cc0_stg7_0
abbrev xM : Memref sig .tc .vmem S2048x1024 .bf16 := Memref.whole cc0_scratch0
abbrev hM : Memref sig .tc .vmem S2048x2048 .bf16 := Memref.whole cc0_scratch1
abbrev pM : Memref sig .tc .vmem S2048x1024 .bf16 := Memref.whole cc0_scratch2
abbrev rM : Memref sig .tc .vmem S2048x1024 .bf16 := Memref.whole cc0_scratch3
/-- The staged weights of layer `k`. -/
abbrev wM : ℕ → Memref sig .tc .vmem S1024x2048 .bf16
  | 0 => Memref.whole cc0_stg1_0
  | 1 => Memref.whole cc0_stg2_0
  | _ => Memref.whole cc0_stg3_0
abbrev zM : ℕ → Memref sig .tc .vmem S2048x1024 .bf16
  | 0 => Memref.whole cc0_stg4_0
  | 1 => Memref.whole cc0_stg5_0
  | _ => Memref.whole cc0_stg6_0
/-- The array of semaphores the rows of layer `k`'s input arrive on. -/
abbrev gS : ℕ → DmaSems sig S32
  | 0 => cc0_scratch5
  | _ => cc0_scratch9
theorem aM_whole : aM.IsWhole := Memref.isWhole_whole _
theorem oM_whole : oM.IsWhole := Memref.isWhole_whole _
theorem xM_whole : xM.IsWhole := Memref.isWhole_whole _
theorem hM_whole : hM.IsWhole := Memref.isWhole_whole _
theorem pM_whole : pM.IsWhole := Memref.isWhole_whole _
theorem rM_whole : rM.IsWhole := Memref.isWhole_whole _
theorem wM_whole : ∀ k, (wM k).IsWhole
  | 0 => Memref.isWhole_whole _
  | 1 => Memref.isWhole_whole _
  | _ + 2 => Memref.isWhole_whole _
theorem zM_whole : ∀ k, (zM k).IsWhole
  | 0 => Memref.isWhole_whole _
  | 1 => Memref.isWhole_whole _
  | _ + 2 => Memref.isWhole_whole _

/-- Signal every other device. -/
abbrev L1 (c : Dev nD) := k0_t1_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c (SemArray.scalar (sig.barrier 0 rfl))

/-- Send the own input block to every other device. -/
abbrev L2 (c : Dev nD) := k0_t2_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c

/-- One group of layer `k`'s matmul pass. -/
abbrev L3 (k : ℕ) (c : Dev nD) (v2 v3 : BitVec 32) := k0_t3_body (F := F) aM aM_whole (wM k) (wM_whole k) (wM 1) (wM_whole 1) (wM 2) (wM_whole 2) (zM k) (zM_whole k) (zM 1) (zM_whole 1) (zM 2) (zM_whole 2) oM oM_whole xM xM_whole hM hM_whole pM pM_whole rM rM_whole cc0_scratch4 (gS k) cc0_scratch6 cc0_scratch7 cc0_scratch8 cc0_scratch9 c v2 v3

/-- Wait for one partial product. -/
abbrev L4 (c : Dev nD) := k0_t4_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c

/-- Wait for one partial product to have left. -/
abbrev L5 (c : Dev nD) := k0_t5_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c

/-- Send the own finished rows of `M` to every other device. -/
abbrev L6 (M : Memref sig .tc .vmem S2048x1024 .bf16) (h : M.IsWhole) (c : Dev nD) (v2 v3 : BitVec 32) (v : FVec F S2048x1024 .f32) := k0_t6_body (F := F) aM aM_whole (wM 0) (wM_whole 0) (wM 1) (wM_whole 1) (wM 2) (wM_whole 2) (zM 0) (zM_whole 0) (zM 1) (zM_whole 1) (zM 2) (zM_whole 2) oM oM_whole M h hM hM_whole pM pM_whole rM rM_whole cc0_scratch4 cc0_scratch5 cc0_scratch6 cc0_scratch7 cc0_scratch8 cc0_scratch9 c v2 v3 v

/-- Wait for the own finished rows to have left. -/
abbrev L7 (M : Memref sig .tc .vmem S2048x1024 .bf16) (h : M.IsWhole) (c : Dev nD) (v2 v3 : BitVec 32) (v : FVec F S2048x1024 .f32) := k0_t7_body (F := F) aM aM_whole (wM 0) (wM_whole 0) (wM 1) (wM_whole 1) (wM 2) (wM_whole 2) (zM 0) (zM_whole 0) (zM 1) (zM_whole 1) (zM 2) (zM_whole 2) oM oM_whole M h hM hM_whole pM pM_whole rM rM_whole cc0_scratch4 cc0_scratch5 cc0_scratch6 cc0_scratch7 cc0_scratch8 cc0_scratch9 c v2 v3 v

/-- Wait for one block of the result. -/
abbrev L18 (c : Dev nD) := k0_t18_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c

/-- Wait for the own input block to have left. -/
abbrev L19 (c : Dev nD) := k0_t19_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c

theorem t8_eq (c : Dev nD) (v2 v3 : BitVec 32) (v : FVec F S2048x1024 .f32) : k0_t8_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c v2 v3 v = L3 1 c v2 v3 := rfl

theorem t13_eq (c : Dev nD) (v2 v3 : BitVec 32) (v : FVec F S64x1024 .bf16) (u : BitVec 32) : k0_t13_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c v2 v3 v u = L3 2 c v2 v3 := rfl

theorem t9_eq (c : Dev nD) (v2 v3 : BitVec 32) (v : FVec F S2048x1024 .f32) : k0_t9_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c v2 v3 v = L4 c := rfl

theorem t10_eq (c : Dev nD) (v2 v3 : BitVec 32) (v : FVec F S2048x1024 .f32) : k0_t10_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c v2 v3 v = L5 c := rfl

theorem t14_eq (c : Dev nD) (v2 v3 : BitVec 32) (v : FVec F S64x1024 .bf16) (u : BitVec 32) : k0_t14_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c v2 v3 v u = L4 c := rfl

theorem t15_eq (c : Dev nD) (v2 v3 : BitVec 32) (v : FVec F S64x1024 .bf16) (u : BitVec 32) : k0_t15_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c v2 v3 v u = L5 c := rfl

theorem t11_eq (c : Dev nD) (v2 v3 : BitVec 32) (v : FVec F S64x1024 .bf16) (u : BitVec 32) (f : FVec F S2048x1024 .f32) : k0_t11_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c v2 v3 v u = L6 xM xM_whole c v2 v3 f := rfl

theorem t12_eq (c : Dev nD) (v2 v3 : BitVec 32) (v : FVec F S64x1024 .bf16) (u : BitVec 32) (f : FVec F S2048x1024 .f32) : k0_t12_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c v2 v3 v u = L7 xM xM_whole c v2 v3 f := rfl

theorem t16_eq (c : Dev nD) (v2 v3 : BitVec 32) (f : FVec F S2048x1024 .f32) : k0_t16_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c = L6 oM oM_whole c v2 v3 f := rfl

theorem t17_eq (c : Dev nD) (v2 v3 : BitVec 32) (f : FVec F S2048x1024 .f32) : k0_t17_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c = L7 oM oM_whole c v2 v3 f := rfl

end Cert.KernelIdeal.Pf
-- ==== Proof.Sched.lean ====
module
public import proofs.«01_k».proof.Proof.Bodies
public import Idealize.ShloMosaic.Lib.Rounds
public import Idealize.ShloMosaic.Lib.Ring
public import Idealize.ShloMosaic.Lib.StableHlo
public import Idealize.ShloMosaic.Lib.Tactic
public import Idealize.ShloMosaic.Lib.Pipeline.Regions
public import Idealize.ShloMosaic.Lib.Pipeline.Kit
public import Idealize.ShloMosaic.Lib.Pipeline.RegionTalk
public import Idealize.ShloMosaic.Lib.Pipeline.Value
public import Idealize.ShloMosaic.Harness.Basic

@[expose] public section

set_option maxRecDepth 65536

/-! # What travels between the devices, and when

The contents every buffer holds at every step, the semaphore cells with the payload each of their rounds carries, and what
each device still owes at each of its eight phases (the barrier, the input broadcast, and for each layer the exchange of
partial products and the broadcast of finished rows). -/

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Transfers (dealOf)
open Idealize.ShloMosaic.Shape (pair)

variable {F : FTy → Type} [FloatOps F]

/-! ## Contents -/

/-- The values the kernel reads: the input blocks and the weights of the three layers, by device. -/
structure Ins (F : FTy → Type) where
  x : Dev nD → Vec F S64x1024 .bf16
  w : ℕ → Dev nD → Vec F S1024x2048 .bf16
  z : ℕ → Dev nD → Vec F S2048x1024 .bf16

/-- An index of the full array from its block of 64 rows and the index in the block, -/
abbrev row64 (q : Dev nD) (j : S64x1024.Idx) : S2048x1024.Idx :=
  pair (d := ![2048, 1024]) ⟨64 * q.val + (j 0).val, by have h1 : (j 0).val < 64 := (j 0).isLt; have h2 : q.val < 32 := q.isLt; show _ < 2048; omega⟩ (j 1)
/-- or from its group of 256 rows. -/
abbrev row256 (g : Fin 8) (j : S256x1024.Idx) : S2048x1024.Idx :=
  pair (d := ![2048, 1024]) ⟨256 * g.val + (j 0).val, by have h1 : (j 0).val < 256 := (j 0).isLt; have h2 : g.val < 8 := g.isLt; show _ < 2048; omega⟩ (j 1)
/-- The block of 64 rows an index lies in, and the index in it. -/
abbrev blk64 (i : S2048x1024.Idx) : Dev nD := ⟨(i 0).val / 64, by have h1 : (i 0).val < 2048 := (i 0).isLt; show _ < 32; omega⟩
abbrev in64 (i : S2048x1024.Idx) : S64x1024.Idx := pair (d := ![64, 1024]) ⟨(i 0).val % 64, Nat.mod_lt _ (by decide)⟩ (i 1)
abbrev blk256 (i : S2048x1024.Idx) : Fin 8 := ⟨(i 0).val / 256, by have h1 : (i 0).val < 2048 := (i 0).isLt; omega⟩
abbrev in256 (i : S2048x1024.Idx) : S256x1024.Idx := pair (d := ![256, 1024]) ⟨(i 0).val % 256, Nat.mod_lt _ (by decide)⟩ (i 1)

/-- 32 blocks stacked. -/
def cat (f : Dev nD → Vec F S64x1024 .bf16) : Vec F S2048x1024 .bf16 := fun i => f (blk64 i) (in64 i)
/-- A group of 256 rows. -/
def sub (X : Vec F S2048x1024 .bf16) (g : Fin 8) : Vec F S256x1024 .bf16 := fun j => X (row256 g j)
/-- A device's partial product of layer: its hidden columns' share. -/
def part (w : Vec F S1024x2048 .bf16) (z : Vec F S2048x1024 .bf16) (X : Vec F S2048x1024 .bf16) : Vec F S2048x1024 .bf16 :=
  fun i => k0_pay5 (k0_pay1 (sub X (blk256 i)) w) z (in256 i)
/-- Row block `q` of every device's partial product, stacked. -/
def gath (P : Dev nD → Vec F S2048x1024 .bf16) (q : Dev nD) : Vec F S2048x1024 .bf16 := fun i => P (blk64 i) (row64 q (in64 i))

/-- What every device's full input to layer `k` holds. -/
def X (I : Ins F) : ℕ → Vec F S2048x1024 .bf16
  | 0 => cat I.x
  | k + 1 => cat fun q => k0_pay11 (gath (fun c => part (I.w k c) (I.z k c) (X I k)) q)
/-- Device `c`'s partial product in layer `k`, -/
def Pt (I : Ins F) (k : ℕ) (c : Dev nD) : Vec F S2048x1024 .bf16 := part (I.w k c) (I.z k c) (X I k)
/-- and what it has collected of the others'. -/
def Rb (I : Ins F) (k : ℕ) (q : Dev nD) : Vec F S2048x1024 .bf16 := gath (Pt I k) q
theorem X_succ (I : Ins F) (k : ℕ) : X I (k + 1) = cat fun q => k0_pay11 (Rb I k q) := rfl

/-! ## Rows -/

theorem row_inb (q : Dev nD) : ∀ a, (![64 * q.val, 0] : Fin 2 → ℕ) a + S64x1024.size a ≤ S2048x1024.size a := by
  intro a; have h : q.val < 32 := q.isLt; fin_cases a <;> simp [S64x1024, S2048x1024] <;> omega
/-- The rectangle of a block of 64 rows. -/
abbrev rowR (q : Dev nD) : Rect S2048x1024 := Rect.unit (s := S2048x1024) ![64 * q.val, 0] S64x1024.size (row_inb q)
/-- Block `q` of rows of the four arrays. -/
abbrev xV (q : Dev nD) : Memref sig .tc .vmem S64x1024 .bf16 := xM.slice (rowR q) (fun _ => rfl)
abbrev pV (q : Dev nD) : Memref sig .tc .vmem S64x1024 .bf16 := pM.slice (rowR q) (fun _ => rfl)
abbrev rV (q : Dev nD) : Memref sig .tc .vmem S64x1024 .bf16 := rM.slice (rowR q) (fun _ => rfl)
abbrev oV (q : Dev nD) : Memref sig .tc .vmem S64x1024 .bf16 := oM.slice (rowR q) (fun _ => rfl)

/-! ## Resources -/

abbrev UU : Type := UR sig nD τ × URounds (GSem nD τ sig) (Dev nD)

local notation "𝕄" => MT nD τ sig ℕ (Elt F) ℕ UU ℕ

abbrev EP : Emb (UR sig nD τ) (MT nD τ sig ℕ (Elt F) ℕ UU ℕ) := embL
abbrev ER : Emb (URounds (GSem nD τ sig) (Dev nD)) (MT nD τ sig ℕ (Elt F) ℕ UU ℕ) := embR

variable (I : Ins F)

/-- The devices other than `c`. -/
abbrev peers (c : Dev nD) : Finset (Dev nD) := Finset.univ.erase c
/-- The share of a buffer read by one of the sends to every peer. -/
abbrev shr (c q : Dev nD) : PosShare TreeShare := dealOf fullShare (peers c) q

abbrev xrowS (s : PosShare TreeShare) (c q : Dev nD) (f : Vec F S2048x1024 .bf16) : sProp 𝕄 := (xV q).view.loc (c : Thread nD τ) ↦[(xV q).view.set]{s} f
abbrev orowS (s : PosShare TreeShare) (c q : Dev nD) (f : Vec F S2048x1024 .bf16) : sProp 𝕄 := (oV q).view.loc (c : Thread nD τ) ↦[(oV q).view.set]{s} f
abbrev xrow (c q : Dev nD) (f : Vec F S2048x1024 .bf16) : sProp 𝕄 := xrowS fullShare c q f
abbrev orow (c q : Dev nD) (f : Vec F S2048x1024 .bf16) : sProp 𝕄 := orowS fullShare c q f
abbrev prow (c q : Dev nD) (f : Vec F S2048x1024 .bf16) : sProp 𝕄 := (pV q).view.loc (c : Thread nD τ) ↦[(pV q).view.set]{fullShare} f
abbrev rrow (c q : Dev nD) (f : Vec F S2048x1024 .bf16) : sProp 𝕄 := (rV q).view.loc (c : Thread nD τ) ↦[(rV q).view.set]{fullShare} f
abbrev ablk (s : PosShare TreeShare) (c : Dev nD) (f : Vec F S64x1024 .bf16) : sProp 𝕄 := aM.view.loc (c : Thread nD τ) ↦[aM.view.set]{s} f

/-- Semaphore `q` of array `a`, and the cells. -/
abbrev dsem (a : Fin 6) (q : Dev nD) : DmaSem sig := ⟨8 + 32 * a.val + q.val, by have := q.isLt; have := a.isLt; show _ < 200; have h : q.val < 32 := q.isLt; omega⟩
abbrev dcell (c : Dev nD) (a : Fin 6) (q : Dev nD) : GSem nD τ sig := ((c : Thread nD τ), .dma (dsem a q))
abbrev bcell (c : Dev nD) : GSem nD τ sig := ((c : Thread nD τ), .reg barrier0)

/-- The amount one block of rows moves. -/
abbrev N : ℕ := (xV 0).view.dmaCredit
theorem N_pos : 0 < N := View.dmaCredit_pos _ (by decide)
theorem N_x (q : Dev nD) : (xV q).view.dmaCredit = N := rfl
theorem N_p (q : Dev nD) : (pV q).view.dmaCredit = N := rfl
theorem N_r (q : Dev nD) : (rV q).view.dmaCredit = N := rfl
theorem N_o (q : Dev nD) : (oV q).view.dmaCredit = N := rfl
theorem N_a : aM.view.dmaCredit = N := rfl

/-- What device `d` pays into the barrier of `c`: its own row blocks `c`, to be written by `c`, and that its receiving cells are open. -/
def barPay (c d : Dev nD) : sProp 𝕄 :=
  iprop((∃ f, xrow d c f) ∗ (∃ f, rrow d c f) ∗ (∃ f, orow d c f)
    ∗ reached ER (dcell d 1 c) 0 ∗ reached ER (dcell d 3 c) 0 ∗ reached ER (dcell d 5 c) 0)

/-- What round `k` of semaphore `q` of array `a` on device `c` carries. -/
def pay (c : Dev nD) (a : ℕ) (q : Dev nD) (k : ℕ) : sProp 𝕄 :=
  match a with
  | 0 => ablk (shr c q) c (I.x c)
  | 1 => xrow c q (X I 0)
  | 2 => prow c q (Pt I k c)
  | 3 => iprop(rrow c q (Rb I k c) ∗ reached ER (dcell q 5 c) k ∗ (if k < 2 then iprop(∃ f, xrow q c f) else iprop(emp)))
  | 4 => if k < 2 then xrowS (shr c q) c c (X I (k + 1)) else orowS (shr c q) c c (X I 3)
  | _ => if k < 2 then iprop(xrow c q (X I (k + 1)) ∗ (∃ f, rrow q c f) ∗ reached ER (dcell q 3 c) (k + 1)) else orow c q (X I 3)

/-- Array and place of a semaphore, and how many rounds its array runs. -/
abbrev arrOf (n : DmaSem sig) : ℕ := (n.val - 8) / 32
abbrev idxOf (n : DmaSem sig) : Dev nD := ⟨(n.val - 8) % 32, Nat.mod_lt _ (by decide)⟩
abbrev nr (a : ℕ) : ℕ := if a ≤ 1 then 1 else 3

/-- The duties of a round, by the semaphore. -/
def dut (c : Dev nD) (s : SemLoc sig) (r : ℕ) : Finset (Dev nD) :=
  match s with
  | .reg _ => if r = 0 then peers c else ∅
  | .dma n => if 8 ≤ n.val ∧ idxOf n ≠ c ∧ r < nr (arrOf n) then {0} else ∅
def amt (s : SemLoc sig) : ℕ := match s with | .reg _ => 1 | .dma _ => N
def payl (c : Dev nD) (s : SemLoc sig) (r : ℕ) (d : Dev nD) : sProp 𝕄 :=
  match s with
  | .reg _ => barPay c d
  | .dma n => pay I c (arrOf n) (idxOf n) r

/-- The rounds of every cell. -/
def Rd : Rounds.Schedule (GSem nD τ sig) (Dev nD) 𝕄 where
  duties g r := if g.1.2 = .tc then dut g.1.1 g.2 r else ∅
  unitless _ := False
  amount g _ _ := amt g.2
  payload g r d := payl I g.1.1 g.2 r d
  amount_pos g _ _ _ := by unfold amt; split; exacts [Nat.one_pos, N_pos]

instance Rd_storable (g : GSem nD τ sig) (r : ℕ) (d : Dev nD) : BI.Storable (upEmb : UEmb _ 𝕄) ((Rd I).payload g r d) := by
  show BI.Storable upEmb (payl I g.1.1 g.2 r d)
  unfold payl barPay pay
  (repeat' split) <;> infer_instance

section
variable (c q : Dev nD)

theorem arrOf_dsem (a : Fin 6) : arrOf (dsem a q) = a.val := by
  have h : q.val < 32 := q.isLt; show (8 + 32 * a.val + q.val - 8) / 32 = a.val; omega
theorem idxOf_dsem (a : Fin 6) : idxOf (dsem a q) = q := by
  have h : q.val < 32 := q.isLt; apply Fin.ext; show (8 + 32 * a.val + q.val - 8) % 32 = q.val; omega

theorem duties_bar : (Rd I).duties (bcell c) 0 = peers c := rfl
theorem duties_dma (a : Fin 6) (r : ℕ) (hq : q ≠ c) (hr : r < nr a.val) : (Rd I).duties (dcell c a q) r = {0} := by
  show (if 8 ≤ (dsem a q).val ∧ idxOf (dsem a q) ≠ c ∧ r < nr (arrOf (dsem a q)) then {0} else ∅) = _
  rw [idxOf_dsem, arrOf_dsem]; exact if_pos ⟨by show 8 ≤ 8 + 32 * a.val + q.val; omega, hq, hr⟩
theorem duties_dma_later (a : Fin 6) (r : ℕ) (h : q = c ∨ nr a.val ≤ r) : (Rd I).duties (dcell c a q) r = ∅ := by
  show (if 8 ≤ (dsem a q).val ∧ idxOf (dsem a q) ≠ c ∧ r < nr (arrOf (dsem a q)) then {0} else ∅) = _
  rw [idxOf_dsem, arrOf_dsem]; exact if_neg (by rintro ⟨-, h1, h2⟩; rcases h with h | h; exacts [h1 h, absurd h2 (by omega)])
theorem duties_bar_later (r : ℕ) (h : 1 ≤ r) : (Rd I).duties (bcell c) r = ∅ := by
  show (if r = 0 then _ else _) = _; exact if_neg (by omega)
theorem amount_bar (r : ℕ) (d : Dev nD) : (Rd I).amount (bcell c) r d = 1 := rfl
theorem amount_dma (a : Fin 6) (r : ℕ) (d : Dev nD) : (Rd I).amount (dcell c a q) r d = N := rfl
theorem payload_bar (r : ℕ) (d : Dev nD) : (Rd I).payload (bcell c) r d = barPay c d := rfl
theorem payload_dma (a : Fin 6) (r : ℕ) (d : Dev nD) : (Rd I).payload (dcell c a q) r d = pay I c a.val q r := by
  show pay I c (arrOf (dsem a q)) (idxOf (dsem a q)) r = _
  rw [idxOf_dsem, arrOf_dsem]
theorem card_peers : (peers c).card = 31 := by revert c; decide
theorem expect_bar : (Rd I).expect (bcell c) 0 = 31 := by
  unfold Schedule.expect Schedule.amountOf
  rw [duties_bar, Finset.sum_congr rfl fun d _ => amount_bar I c 0 d, Finset.sum_const, card_peers]; rfl
theorem expect_dma (a : Fin 6) (r : ℕ) (hq : q ≠ c) (hr : r < nr a.val) : (Rd I).expect (dcell c a q) r = N := by
  unfold Schedule.expect Schedule.amountOf
  rw [duties_dma I c q a r hq hr, Finset.sum_singleton, amount_dma]
theorem rest_bar : bigSep ((Rd I).duties (bcell c) 0 \ ∅) (fun u => (Rd I).payload (bcell c) 0 u) = bigSep (peers c) (fun d => barPay c d) := by
  rw [Finset.sdiff_empty, duties_bar]; rfl
theorem rest_dma (a : Fin 6) (r : ℕ) (hq : q ≠ c) (hr : r < nr a.val) :
    bigSep ((Rd I).duties (dcell c a q) r \ ∅) (fun u => (Rd I).payload (dcell c a q) r u) = pay I c a.val q r := by
  rw [Finset.sdiff_empty, duties_dma I c q a r hq hr, bigSep_singleton, payload_dma]
end

/-! ## What is owed, and the levels -/

/-- The cell of peer `q` that device `c` pays in phase `j`. -/
def rcell (j : ℕ) (c q : Dev nD) : GSem nD τ sig :=
  if j = 1 then bcell q else if j = 2 then dcell q 1 c else if j % 2 = 1 then dcell q 3 c else dcell q 5 c
def tl (j : ℕ) (c q : Dev nD) : CellTallies nD τ sig ℕ := tallyAt (rcell j c q) j (if j = 1 then 1 else N)
/-- What device `c` owes from phase `j` on. -/
def owed (j : ℕ) (c : Dev nD) : CellTallies nD τ sig ℕ := ∑ i ∈ Finset.Ico j 9, ∑ q ∈ peers c, tl i c q

theorem owed_step (j : ℕ) (hj : j < 9) (c : Dev nD) : owed j c = owed (j + 1) c + ∑ q ∈ peers c, tl j c q := by
  unfold owed; rw [← Finset.sum_sdiff (Finset.Ico_subset_Ico_left (Nat.le_succ j)), show Finset.Ico j 9 \ Finset.Ico (j + 1) 9 = {j} by ext i; simp; omega, Finset.sum_singleton, add_comm]
theorem owed_end (c : Dev nD) : owed 9 c = 0 := by unfold owed; rw [Finset.Ico_self, Finset.sum_empty]

def L (g : GSem nD τ sig) : Finset ℕ := if g.1.2 = .tc then Finset.range 9 else ∅
def lv (_ : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 9 := if_pos rfl
theorem rcell_tc (j : ℕ) (c q : Dev nD) : (rcell j c q).1.2 = .tc := by
  unfold rcell; (repeat' split) <;> rfl

theorem tl_pos (j : ℕ) (c q : Dev nD) (g : GSem nD τ sig) (u : ℕ) (h : 0 < tl j c q g u) : g.1.2 = .tc ∧ u = j := by
  unfold tl at h; rw [tallyAt_apply] at h
  by_cases hh : g = rcell j c q ∧ u = j
  · exact ⟨by rw [hh.1]; exact rcell_tc j c q, hh.2⟩
  · rw [if_neg hh] at h; exact absurd h (Nat.lt_irrefl 0)

end Cert.KernelIdeal.Pf
-- ==== Proof.Ops.lean ====
module
public import proofs.«01_k».proof.Proof.Sched

@[expose] public section

set_option maxRecDepth 65536

/-! # The kernel's operations against the schedule

A wait on any semaphore of the kernel returns that round's payload; a send pays the receiving cell; a signal pays a barrier. Then the
loop over the other devices, once for all loops. -/

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Transfers (dealOf)
open Idealize.ShloMosaic.Shape (pair)

variable {F : FTy → Type} [FloatOps F]

local notation "𝕄" => MT nD τ sig ℕ (Elt F) ℕ UU ℕ

variable (I : Ins F)

abbrev 𝒱₀ : Variants := Variants.none

/-- The weakest precondition of a piece of the kernel on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem wp_retI {α : Type} (c : Dev nD) (a : α) (Q : α → sProp 𝕄) : Q a ⊢ WP c (.ret a) Q := le_wp_ret _ _ _ a Q

theorem wandI {α : Type} (c : Dev nD) {p : Prog (TpuEff nD τ sig (Elt F) Λ₀ .tc) α} {P Q : α → sProp 𝕄} :
    iprop(WP c p P ∗ (∀ a, P a -∗ Q a)) ⊢ WP c p Q := wp_wand_r frame _ Set.univ

/-! ## Addresses -/

/-- The kernel's six arrays of semaphores. -/
def arr (a : Fin 6) : DmaSems sig S32 := SemArray.consecutive (8 + 32 * a.val) S32 (by have := a.isLt; show 8 + 32 * a.val + 32 ≤ 200; omega)

theorem sem_eq (a : Fin 6) (q : Dev nD) (off : Fin 1 → ℕ) (inb : ∀ i, off i + S1.size i ≤ S32.size i) (h : off = ![q.val]) :
    (((arr a).slice (Rect.unit (s := S32) off S1.size inb)).squeeze S_ squeezes_S1_S_).sem = dsem a q := by
  subst h; revert q a; decide +kernel

theorem slice_eq (M : Memref sig .tc .vmem S2048x1024 .bf16) (q : Dev nD) (off : Fin 2 → ℕ) (inb : ∀ i, off i + S64x1024.size i ≤ S2048x1024.size i)
    (h : off = ![64 * q.val, 0]) : M.slice (Rect.unit (s := S2048x1024) off S64x1024.size inb) (fun _ => rfl) = M.slice (rowR q) (fun _ => rfl) := by
  subst h; rfl

theorem dev_eq (n : ℕ) (hn : n < nD) (q : Dev nD) (h : n = q.val) : (⟨n, hn⟩ : Dev nD) = q := Fin.ext h

/-! ## Invariants -/

/-- Every cell's invariant, at the names `K`, and the levels. -/
def recs (K : GSem nD τ sig → ℕ) : sProp 𝕄 :=
  iprop(levAts L lv ∗ (bigSep Finset.univ fun c : Dev nD => cellInv ER (Rd I) (K (bcell c)) (bcell c))
    ∗ (bigSep Finset.univ fun p : Dev nD × Fin 6 × Dev nD => cellInv ER (Rd I) (K (dcell p.1 p.2.1 p.2.2)) (dcell p.1 p.2.1 p.2.2)))

instance recs_persistent (K : GSem nD τ sig → ℕ) : BI.Persistent (recs I K) := by unfold recs; infer_instance

variable (K : GSem nD τ sig → ℕ)

/-- A member of a separating conjunction of copies. -/
theorem bigE {T : Type} [DecidableEq T] {S : Finset T} {i : T} (h : i ∈ S) (Φ : T → sProp 𝕄) : bigSep S Φ ⊢ Φ i := bigSep_elim h

theorem bigU {T : Type} [DecidableEq T] {S S' : Finset T} (h : Disjoint S S') {Φ : T → sProp 𝕄} :
    bigSep (S ∪ S') Φ = iprop(bigSep S Φ ∗ bigSep S' Φ) := bigSep_union h

theorem recs_lev : recs I K ⊢ levAts L lv := by unfold recs; iintro ⟨H, -⟩; iexact H
theorem recs_bar (c : Dev nD) : recs I K ⊢ cellInv ER (Rd I) (K (bcell c)) (bcell c) := by
  unfold recs; iintro ⟨-, H, -⟩; iapply (bigE (Finset.mem_univ c) fun c : Dev nD => cellInv ER (Rd I) (K (bcell c)) (bcell c)) $$ H
theorem recs_dma (c : Dev nD) (a : Fin 6) (q : Dev nD) : recs I K ⊢ cellInv ER (Rd I) (K (dcell c a q)) (dcell c a q) := by
  unfold recs; iintro ⟨-, -, H⟩
  iapply (bigE (Finset.mem_univ (c, a, q)) fun p : Dev nD × Fin 6 × Dev nD => cellInv ER (Rd I) (K (dcell p.1 p.2.1 p.2.2)) (dcell p.1 p.2.1 p.2.2)) $$ H

/-! ## What is owed -/

/-- What device `c` owes, whatever it has waited for. -/
def owesX (c : Dev nD) (O : CellTallies nD τ sig ℕ) : sProp 𝕄 := iprop(∃ W, owes (c : Thread nD τ) O W)

/-- Everything owed is of a phase after `i`. -/
def Above (i : ℕ) (O : CellTallies nD τ sig ℕ) : Prop := ∀ (g : GSem nD τ sig) (u : ℕ), 0 < O g u → g.1.2 = .tc ∧ i < u ∧ u < 9

theorem Above.zero (i : ℕ) : Above i 0 := fun _ _ h => absurd h (Nat.lt_irrefl 0)
theorem Above.add {i : ℕ} {O O' : CellTallies nD τ sig ℕ} (h : Above i O) (h' : Above i O') : Above i (O + O') := fun g u hp => by
  have e : (O + O') g u = O g u + O' g u := rfl
  rw [e] at hp
  rcases Nat.eq_zero_or_pos (O g u) with h0 | h0
  · exact h' g u (by omega)
  · exact h g u h0
theorem Above.sum {i : ℕ} {T : Type} (S : Finset T) (f : T → CellTallies nD τ sig ℕ) (h : ∀ t ∈ S, Above i (f t)) : Above i (∑ t ∈ S, f t) := by
  classical
  induction S using Finset.induction_on with
  | empty => rw [Finset.sum_empty]; exact Above.zero i
  | insert t S ht ih =>
    rw [Finset.sum_insert ht]
    exact (h t (Finset.mem_insert_self _ _)).add (ih fun s hs => h s (Finset.mem_insert_of_mem hs))
theorem above_tl {i j : ℕ} (hij : i < j) (hj : j < 9) (c q : Dev nD) : Above i (tl j c q) := fun g u hp => by
  obtain ⟨h1, h2⟩ := tl_pos j c q g u hp; exact ⟨h1, by omega, by omega⟩
theorem above_owed {i j : ℕ} (hij : i < j) (c : Dev nD) : Above i (owed j c) :=
  Above.sum _ _ fun u hu => Above.sum _ _ fun q _ => by
    rw [Finset.mem_Ico] at hu; exact above_tl (by omega) hu.2 c q

theorem mayWait {i : ℕ} (hi : i < 9) (c : Dev nD) (s : SemLoc sig) {O : CellTallies nD τ sig ℕ} (h : Above i O) :
    (levAts L lv : sProp 𝕄) ⊢ MayWait (c : Thread nD τ) s i O :=
  MayOwe.of_cut (L := L) (lev := lv) i (fun p hp => by rw [Finset.mem_singleton.mp hp, L_tc]; exact Finset.mem_range.mpr hi)
    (fun g u hg => by unfold L; rw [if_pos (h g u hg).1]; exact Finset.mem_range.mpr (h g u hg).2.2)
    (fun p hp => by rw [Finset.mem_singleton.mp hp]; exact le_refl _)
    (fun g u hg => (h g u hg).2.1)

/-! ## Operations -/

/-- A wait on semaphore `q` of array `a` in its round `r`. -/
theorem wait_dma (c q : Dev nD) (a : Fin 6) (r i : ℕ) (hq : q ≠ c) (hr : r < nr a.val) (hi : i < 9) {O : CellTallies nD τ sig ℕ} (hO : Above i O)
    {sem : DmaSem sig} (hs : sem = dsem a q) {sp sp' : Space} {s : Shape} {e : EltTy} {src : Memref sig .tc sp s e} {dst : Memref sig .tc sp' s e}
    {h1 : src.view.WordExact} {h2 : dst.view.WordExact} (hN : dst.view.dmaCredit = N) (Q : PUnit → sProp 𝕄) :
    iprop(recs I K ∗ atPos ER (dcell c a q) r ∅ 0 ∗ cred (tallyAt (dcell c a q) i N) ∗ owesX c O
      ∗ ((owesX c O ∗ atPos ER (dcell c a q) (r + 1) ∅ 0 ∗ reached ER (dcell c a q) (r + 1) ∗ pay I c a.val q r) -∗ Q ⟨⟩))
      ⊢ WP c (Prog.lift (.waitDma2 sem src dst h1 h2)) Q := by
  subst hs
  unfold owesX
  show _ ⊢ wp frame _ Set.univ (.op _ .ret) _
  iintro ⟨#HR, Hat, Hc, ⟨%W, HO⟩, HQ⟩
  ihave #Hinv := (recs_dma I K c a q) $$ HR
  ihave #Hlev := (recs_lev I K) $$ HR
  iapply (Rounds.wp_wait_rest_token 𝒱₀ ER (Rd I) (c : Thread nD τ) none (κ := K (dcell c a q))
      (wpE_waitDma2_eq 𝒱₀ (c : Thread nD τ) none Set.univ) (Set.mem_univ _) i (O := O) (W := W) (R := r) (m := 0) (T := ∅)
      (by rw [hN, expect_dma I c q a r hq hr]; exact Nat.zero_add _)) $$ [Hc HO Hat]
  · isplitr; · iexact Hinv
    isplitl [Hc]; · rw [hN]; iexact Hc
    isplitl [HO]; · iexact HO
    isplitr; · iapply (mayWait hi c (.dma (dsem a q)) hO); iexact Hlev
    iexact Hat
  iintro ⟨HO, Hat, Hr, Hp⟩
  ihave Hp := (Entails.of_eq (rest_dma I c q a r hq hr)) $$ Hp
  iapply (wp_retI c)
  iapply HQ
  isplitl [HO]; · iexists _; iexact HO
  isplitl [Hat]; · iexact Hat
  isplitl [Hr]; · iexact Hr
  iexact Hp

/-- A send of round `k` to device `q`: the source's share is lent to the own cell, the rewritten block and `G` go to the receiver's. -/
theorem send_core (c q : Dev nD) (a₁ a₂ : Fin 6) (k j : ℕ) (hq : q ≠ c) (hk₁ : k < nr a₁.val) (hk₂ : k < nr a₂.val)
    (hj : tl j c q = tallyAt (dcell q a₂ c) j N)
    {src dst : Memref sig .tc .vmem S64x1024 .bf16} {hsc : dst.view.ref.isScScratch = false} {sS sem : DmaSem sig}
    (hS : sS = dsem a₁ q) (hR : sem = dsem a₂ c) {dev : Dev nD} (hdev : dev = q)
    {h1 : src.view.WordExact} {h2 : dst.view.WordExact} {h3 : DmaTarget.Typed .vmem (.dma sem) (.remote (Dev.tc dev) dst (.dma sS) hsc)}
    (hN : dst.view.dmaCredit = N) (s : PosShare TreeShare) (fs : Buf (Elt F) (src.view.loc (c : Thread nD τ))) (G : sProp 𝕄)
    (hpay₁ : (src.view.loc (c : Thread nD τ) ↦[src.view.set]{s} fs) ⊢ pay I c a₁.val q k)
    (hpay₂ : ∀ fd : Buf (Elt F) (dst.view.loc (q : Thread nD τ)),
      iprop((dst.view.loc (q : Thread nD τ) ↦[dst.view.set]{fullShare} (dst.view.write (Elt F) fd (src.view.read (Elt F) fs) Finset.univ)) ∗ G)
        ⊢ pay I q a₂.val c k) (O : CellTallies nD τ sig ℕ) (Q : PUnit → sProp 𝕄) :
    iprop(recs I K ∗ (src.view.loc (c : Thread nD τ) ↦[src.view.set]{s} fs)
        ∗ (∃ fd : Buf (Elt F) (dst.view.loc (q : Thread nD τ)), dst.view.loc (q : Thread nD τ) ↦[dst.view.set]{fullShare} fd) ∗ G
        ∗ dutyTok ER (dcell c a₁ q) k 0 ∗ reached ER (dcell c a₁ q) k ∗ dutyTok ER (dcell q a₂ c) k 0 ∗ reached ER (dcell q a₂ c) k
        ∗ owesX c (O + tl j c q) ∗ ((cred (tallyAt (dcell c a₁ q) 0 N) ∗ owesX c O) -∗ Q ⟨⟩))
      ⊢ WP c (Prog.lift (.enqueueDma src (.remote (Dev.tc dev) dst (.dma sS) hsc) (.dma sem) h1 h2 h3)) Q := by
  subst hS hR hdev
  unfold owesX
  show _ ⊢ wp frame _ Set.univ (.op _ .ret) _
  iintro ⟨#HR, Hs, ⟨%fd, Hd⟩, HG, Ht1, Hr1, Ht2, Hr2, ⟨%W, HO⟩, HQ⟩
  ihave #Hi1 := (recs_dma I K c a₁ dev) $$ HR
  ihave #Hi2 := (recs_dma I K dev a₂ c) $$ HR
  iapply (Rounds.wp_send_pointsTo_with 𝒱₀ ER (Rd I) (c : Thread nD τ) none (c' := (dev : Thread nD τ)) (src := src) (dst := dst)
      (sS := .dma (dsem a₁ dev)) (sem := .dma (dsem a₂ c)) (q := s) (fs := fs) (fd := fd) (F := G) (κ₁ := K (dcell c a₁ dev)) (κ₂ := K (dcell dev a₂ c))
      (r₁ := k) (r₂ := k) (d₁ := 0) (d₂ := 0)
      (by rw [duties_dma I c dev a₁ k hq hk₁]; exact Finset.mem_singleton_self _)
      (by rw [duties_dma I dev c a₂ k (Ne.symm hq) hk₂]; exact Finset.mem_singleton_self _)
      j 0 N hN rfl rfl O (O₀ := O + tl j c dev) (congrArg (O + ·) hj) (W := W)
      (by rw [payload_dma]; exact hpay₁) (by rw [payload_dma]; exact hpay₂ fd)) $$ [Hs Hd HG HO Ht1 Hr1 Ht2 Hr2]
  · isplitr; · iexact Hi1
    isplitr; · iexact Hi2
    isplitl [Hs]; · iexact Hs
    isplitl [Hd HG]; · isplitl [Hd] <;> iassumption
    isplitl [HO]; · iexact HO
    isplitl [Ht1]; · iexact Ht1
    isplitl [Hr1]; · iexact Hr1
    isplitl [Ht2]; · iexact Ht2
    iexact Hr2
  iintro ⟨Hc, HO⟩
  iapply (wp_retI c)
  iapply HQ
  isplitl [Hc]; · iexact Hc
  iexists _; iexact HO

/-! ## Loops -/

/-- A counted loop that visits each member of `S` in one trip (member `q` in trip `pos q`): what each trip takes and gives for the members it
    visits, and what it discharges of what is owed, adds up over `S`. -/
theorem loop_over {n : ℕ} {lb ub st : BitVec 32} (hok : Scf.OK lb ub st) (hn : Scf.trips lb ub st = n)
    (body : Fin (Scf.trips lb ub st) → Unit → Prog (TpuEff nD τ sig (Elt F) Λ₀ .tc) Unit)
    (c : Dev nD) (S : Finset (Dev nD)) (pos : Dev nD → ℕ) (hpos : ∀ q ∈ S, pos q < n) (R : sProp 𝕄) (Pre Post : Dev nD → sProp 𝕄)
    (T : Dev nD → CellTallies nD τ sig ℕ) (D : CellTallies nD τ sig ℕ) (i : ℕ) (hD : Above i D) (hT : ∀ q ∈ S, Above i (T q))
    (htrip : ∀ (t : Fin (Scf.trips lb ub st)) (O : CellTallies nD τ sig ℕ), Above i O →
      iprop(R ∗ bigSep (S.filter fun q => pos q = t.val) Pre ∗ owesX c (O + ∑ q ∈ S.filter (fun q => pos q = t.val), T q))
        ⊢ WP c (body t ()) fun _ => iprop(R ∗ bigSep (S.filter fun q => pos q = t.val) Post ∗ owesX c O))
    {β : Type} (kk : Unit → Prog (TpuEff nD τ sig (Elt F) Λ₀ .tc) β) (Q : β → sProp 𝕄) :
    iprop(R ∗ bigSep S Pre ∗ owesX c (D + ∑ q ∈ S, T q) ∗ ((R ∗ bigSep S Post ∗ owesX c D) -∗ WP c (kk ⟨⟩) Q))
      ⊢ WP c (Scf.for lb ub st hok ⟨⟩ body >>= kk) Q := by
  iintro ⟨HR, HS, HO, HQ⟩
  iapply (Scf.wp_for_bind frame (wpE (defs₀ (F := F)) 𝒱₀ (c : Thread nD τ) none) Set.univ lb ub st hok () body
    (fun t _ => iprop(R ∗ bigSep (S.filter fun q => pos q < t) Post ∗ bigSep (S.filter fun q => t ≤ pos q) Pre
      ∗ owesX c (D + ∑ q ∈ S.filter (fun q => t ≤ pos q), T q))) ?_) $$ [HR HS HO]
  · intro t _
    have e1 : S.filter (fun q => t.val ≤ pos q) = S.filter (fun q => pos q = t.val) ∪ S.filter (fun q => t.val + 1 ≤ pos q) := by
      ext q; simp only [Finset.mem_filter, Finset.mem_union]; constructor
      · rintro ⟨h, h'⟩; rcases Nat.eq_or_lt_of_le h' with e | e
        · exact .inl ⟨h, e.symm⟩
        · exact .inr ⟨h, e⟩
      · rintro (⟨h, h'⟩ | ⟨h, h'⟩) <;> exact ⟨h, by omega⟩
    have d1 : Disjoint (S.filter fun q => pos q = t.val) (S.filter fun q => t.val + 1 ≤ pos q) := by
      rw [Finset.disjoint_left]; intro q h h'; rw [Finset.mem_filter] at h h'; omega
    have e2 : S.filter (fun q => pos q < t.val + 1) = S.filter (fun q => pos q < t.val) ∪ S.filter (fun q => pos q = t.val) := by
      ext q; simp only [Finset.mem_filter, Finset.mem_union]; constructor
      · rintro ⟨h, h'⟩; rcases Nat.lt_succ_iff_lt_or_eq.mp h' with e | e
        · exact .inl ⟨h, e⟩
        · exact .inr ⟨h, e⟩
      · rintro (⟨h, h'⟩ | ⟨h, h'⟩) <;> exact ⟨h, by omega⟩
    have d2 : Disjoint (S.filter fun q => pos q < t.val) (S.filter fun q => pos q = t.val) := by
      rw [Finset.disjoint_left]; intro q h h'; rw [Finset.mem_filter] at h h'; omega
    rw [e1, bigU d1, Finset.sum_union d1, add_comm (∑ q ∈ S.filter (fun q => pos q = t.val), T q), ← add_assoc, e2, bigU d2]
    iintro ⟨HR, Hdone, ⟨Hnow, Hlater⟩, HO⟩
    iapply (wandI c (P := fun _ => iprop(R ∗ bigSep (S.filter fun q => pos q = t.val) Post ∗ owesX c (D + ∑ q ∈ S.filter (fun q => t.val + 1 ≤ pos q), T q))))
    isplitl [HR Hnow HO]
    · iapply (htrip t (D + ∑ q ∈ S.filter (fun q => t.val + 1 ≤ pos q), T q) (hD.add (Above.sum _ _ fun q hq => hT q (Finset.mem_filter.mp hq).1)))
      isplitl [HR]; · iexact HR
      isplitl [Hnow] <;> iassumption
    iintro %_ ⟨HR, Hpost, HO⟩
    isplitl [HR]; · iexact HR
    isplitl [Hdone Hpost]; · isplitl [Hdone] <;> iassumption
    isplitl [Hlater] <;> iassumption
  · have e0 : S.filter (fun q => 0 ≤ pos q) = S := Finset.filter_true_of_mem fun _ _ => Nat.zero_le _
    have e1 : S.filter (fun q => pos q < 0) = ∅ := Finset.filter_false_of_mem fun _ _ => Nat.not_lt_zero _
    rw [e0, e1, bigSep_empty]
    isplitl [HR]; · iexact HR
    isplitr; · iempintro
    isplitl [HS] <;> iassumption
  iintro %_ ⟨HR, HS, -, HO⟩
  have e0 : S.filter (fun q => pos q < Scf.trips lb ub st) = S := Finset.filter_true_of_mem fun q h => by rw [hn]; exact hpos q h
  have e1 : S.filter (fun q => Scf.trips lb ub st ≤ pos q) = ∅ := Finset.filter_false_of_mem fun q h h' => by have := hpos q h; omega
  rw [e0, e1, Finset.sum_empty, add_zero]
  iapply HQ
  isplitl [HR]; · iexact HR
  isplitl [HS] <;> iassumption

end Cert.KernelIdeal.Pf
-- ==== Proof.Comm.lean ====
module
public import proofs.«01_k».proof.Proof.Ops

@[expose] public section

set_option maxRecDepth 65536

/-! # The communication loops

Each loop over the other devices: what it takes for each peer, what it gives for each peer, and the phase of what is owed that
it discharges. -/

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Transfers (dealOf)
open Idealize.ShloMosaic.Shape (pair)

variable {F : FTy → Type} [FloatOps F]

local notation "𝕄" => MT nD τ sig ℕ (Elt F) ℕ UU ℕ

variable (I : Ins F) (K : GSem nD τ sig → ℕ)

/-! ## Rows -/

/-- Writing what another buffer shows through a view leaves that buffer's contents on the view. -/
theorem land {sp : Space} {s : Shape} {e : EltTy} (v : View sig .tc sp s e) (c : Dev nD) (sh : PosShare TreeShare) (f g : v.ty.Contents (Elt F)) :
    (v.loc (c : Thread nD τ) ↦[v.set]{sh} v.write (Elt F) f (v.read (Elt F) g) Finset.univ : sProp 𝕄) = (v.loc (c : Thread nD τ) ↦[v.set]{sh} g) := by
  refine pointsTo_congr fun i hi => ?_
  rw [View.write_read_eq_piecewise, View.setOn_univ, Finset.piecewise_eq_of_mem _ _ _ hi]

theorem emb_row (q : Dev nD) (j : S64x1024.Idx) : (rowR q).emb j = row64 q j := by
  funext a
  fin_cases a
  · apply Fin.ext; show 64 * q.val + 1 * (j 0).val = 64 * q.val + (j 0).val; omega
  · apply Fin.ext; show 0 + 1 * (j 1).val = (j 1).val; omega
theorem read_xV (q : Dev nD) (f : Vec F S2048x1024 .bf16) : (xV q).view.read (Elt F) f = fun j => f (row64 q j) :=
  funext fun j => congrArg f (emb_row q j)
theorem read_pV (q : Dev nD) (f : Vec F S2048x1024 .bf16) : (pV q).view.read (Elt F) f = fun j => f (row64 q j) :=
  funext fun j => congrArg f (emb_row q j)
theorem read_rV (q : Dev nD) (f : Vec F S2048x1024 .bf16) : (rV q).view.read (Elt F) f = fun j => f (row64 q j) :=
  funext fun j => congrArg f (emb_row q j)

theorem blk_row (q : Dev nD) (j : S64x1024.Idx) : blk64 (row64 q j) = q := by
  have h1 : (j 0).val < 64 := (j 0).isLt
  apply Fin.ext; show (64 * q.val + (j 0).val) / 64 = q.val; omega
theorem in_row (q : Dev nD) (j : S64x1024.Idx) : in64 (row64 q j) = j := by
  have h1 : (j 0).val < 64 := (j 0).isLt
  funext a
  fin_cases a
  · apply Fin.ext; show (64 * q.val + (j 0).val) % 64 = (j 0).val; omega
  · rfl
theorem cat_row (f : Dev nD → Vec F S64x1024 .bf16) (q : Dev nD) (j : S64x1024.Idx) : cat f (row64 q j) = f q j := by
  unfold cat; rw [blk_row, in_row]
theorem gath_row (P : Dev nD → Vec F S2048x1024 .bf16) (q c : Dev nD) (j : S64x1024.Idx) : gath P q (row64 c j) = P c (row64 q j) := by
  unfold gath; rw [blk_row, in_row]

theorem pay0 (c q : Dev nD) (k : ℕ) : pay I c (0 : Fin 6).val q k = ablk (shr c q) c (I.x c) := rfl
theorem pay1 (c q : Dev nD) (k : ℕ) : pay I c (1 : Fin 6).val q k = xrow c q (X I 0) := rfl
theorem pay2 (c q : Dev nD) (k : ℕ) : pay I c (2 : Fin 6).val q k = prow c q (Pt I k c) := rfl
theorem pay3 (c q : Dev nD) (k : ℕ) : pay I c (3 : Fin 6).val q k
    = iprop(rrow c q (Rb I k c) ∗ reached ER (dcell q 5 c) k ∗ (if k < 2 then iprop(∃ f, xrow q c f) else iprop(emp))) := rfl
theorem pay4x (c q : Dev nD) (k : ℕ) (hk : k < 2) : pay I c (4 : Fin 6).val q k = xrowS (shr c q) c c (X I (k + 1)) := if_pos hk
theorem pay4o (c q : Dev nD) : pay I c (4 : Fin 6).val q 2 = orowS (shr c q) c c (X I 3) := rfl
theorem pay5x (c q : Dev nD) (k : ℕ) (hk : k < 2) : pay I c (5 : Fin 6).val q k
    = iprop(xrow c q (X I (k + 1)) ∗ (∃ f, rrow q c f) ∗ reached ER (dcell q 3 c) (k + 1)) := if_pos hk
theorem pay5o (c q : Dev nD) : pay I c (5 : Fin 6).val q 2 = orow c q (X I 3) := rfl

/-! ## Which trip visits which device -/

/-- The trip of a cyclic loop on `c` that visits `q`, -/
abbrev hopPos (c q : Dev nD) : ℕ := (q.val + 31 - c.val) % 32
/-- of a broadcast loop, -/
abbrev farPos (c q : Dev nD) : ℕ := 4 * ((c.val / 4 + 8 - q.val / 4) % 8) + q.val % 4
/-- and of the matmul loop. -/
abbrev grpPos (c q : Dev nD) : ℕ := (q.val / 4 + 8 - c.val / 4) % 8

theorem hop_iff (c q : Dev nD) (t : ℕ) (ht : t < 31) : hopPos c q = t ↔ q = hop c t := by
  have h1 : q.val < 32 := q.isLt
  have h2 : c.val < 32 := c.isLt
  rw [Fin.ext_iff]
  show (q.val + 31 - c.val) % 32 = t ↔ q.val = (c.val + t + 1) % 32
  omega
theorem hop_mem (c : Dev nD) (t : ℕ) (ht : t < 31) : hop c t ≠ c := by
  have h2 : c.val < 32 := c.isLt
  intro h; rw [Fin.ext_iff] at h
  have h : (c.val + t + 1) % 32 = c.val := h
  omega
theorem hop_lt (c q : Dev nD) (h : q ≠ c) : hopPos c q < 31 := by
  have h1 : q.val < 32 := q.isLt
  have h2 : c.val < 32 := c.isLt
  have h3 : q.val ≠ c.val := fun e => h (Fin.ext e)
  show (q.val + 31 - c.val) % 32 < 31
  omega
theorem far_iff (c q : Dev nD) (t : ℕ) (ht : t < 32) : farPos c q = t ↔ q = far c t := by
  have h1 : q.val < 32 := q.isLt
  have h2 : c.val < 32 := c.isLt
  rw [Fin.ext_iff]
  show 4 * ((c.val / 4 + 8 - q.val / 4) % 8) + q.val % 4 = t ↔ q.val = (4 * ((c.val / 4 + 8 - t / 4) % 8) + t % 4) % 32
  omega
theorem far_lt (c q : Dev nD) : farPos c q < 32 := by show 4 * ((c.val / 4 + 8 - q.val / 4) % 8) + q.val % 4 < 32; omega

/-! ## Loops that visit one device per trip -/

/-- `loop_over` where trip `t` visits `r t`, if that is in `S`, and nothing else. -/
theorem loop_each {n : ℕ} {lb ub st : BitVec 32} (hok : Scf.OK lb ub st) (hn : Scf.trips lb ub st = n)
    (body : Fin (Scf.trips lb ub st) → Unit → Prog (TpuEff nD τ sig (Elt F) Λ₀ .tc) Unit)
    (c : Dev nD) (S : Finset (Dev nD)) (pos : Dev nD → ℕ) (hpos : ∀ q ∈ S, pos q < n) (r : ℕ → Dev nD) (hr : ∀ q, ∀ t < n, pos q = t ↔ q = r t)
    (R : sProp 𝕄) (Pre Post : Dev nD → sProp 𝕄)
    (T : Dev nD → CellTallies nD τ sig ℕ) (D : CellTallies nD τ sig ℕ) (i : ℕ) (hD : Above i D) (hT : ∀ q ∈ S, Above i (T q))
    (hin : ∀ (t : Fin (Scf.trips lb ub st)) (O : CellTallies nD τ sig ℕ), Above i O → r t.val ∈ S →
      iprop(R ∗ Pre (r t.val) ∗ owesX c (O + T (r t.val))) ⊢ WP c (body t ()) fun _ => iprop(R ∗ Post (r t.val) ∗ owesX c O))
    (hout : ∀ (t : Fin (Scf.trips lb ub st)) (Z : sProp 𝕄), r t.val ∉ S → Z ⊢ WP c (body t ()) fun _ => Z)
    {β : Type} (kk : Unit → Prog (TpuEff nD τ sig (Elt F) Λ₀ .tc) β) (Q : β → sProp 𝕄) :
    iprop(R ∗ bigSep S Pre ∗ owesX c (D + ∑ q ∈ S, T q) ∗ ((R ∗ bigSep S Post ∗ owesX c D) -∗ WP c (kk ⟨⟩) Q))
      ⊢ WP c (Scf.for lb ub st hok ⟨⟩ body >>= kk) Q := by
  refine loop_over hok hn body c S pos hpos R Pre Post T D i hD hT (fun t O hO => ?_) kk Q
  have ht : t.val < n := hn ▸ t.isLt
  by_cases hm : r t.val ∈ S
  · have e : S.filter (fun q => pos q = t.val) = {r t.val} := by
      ext q; rw [Finset.mem_filter, Finset.mem_singleton, hr q t.val ht]; constructor
      · exact fun h => h.2
      · rintro rfl; exact ⟨hm, rfl⟩
    rw [e, bigSep_singleton, bigSep_singleton, Finset.sum_singleton]
    exact hin t O hO hm
  · have e : S.filter (fun q => pos q = t.val) = ∅ := by
      ext q; rw [Finset.mem_filter, hr q t.val ht]; constructor
      · rintro ⟨h, rfl⟩; exact absurd h hm
      · intro h; exact absurd h (Finset.notMem_empty q)
    rw [e, bigSep_empty, bigSep_empty, Finset.sum_empty, add_zero]
    exact hout t _ hm

theorem WP_bind {α β : Type} (c : Dev nD) (p : Prog (TpuEff nD τ sig (Elt F) Λ₀ .tc) α) (k : α → Prog (TpuEff nD τ sig (Elt F) Λ₀ .tc) β) (Q : β → sProp 𝕄) :
    WP c (p >>= k) Q = WP c p fun a => WP c (k a) Q := wp_bind frame _ _ p k Q

theorem skipI (c : Dev nD) (Z : sProp 𝕄) : Z ⊢ WP c (.ret PUnit.unit) fun _ => Z := wp_retI c PUnit.unit fun _ => Z

theorem trips1 : k0_t1_loop.trips = 31 := by decide
theorem trips2 : k0_t2_loop.trips = 32 := by decide

theorem trips3 : k0_t3_loop.trips = 8 := by decide
theorem trips4 : k0_t4_loop.trips = 31 := by decide
theorem trips5 : k0_t5_loop.trips = 31 := by decide
theorem trips6 : k0_t6_loop.trips = 32 := by decide
theorem trips7 : k0_t7_loop.trips = 32 := by decide
theorem trips18 : k0_t18_loop.trips = 31 := by decide
theorem trips19 : k0_t19_loop.trips = 32 := by decide

theorem mem_peers {c q : Dev nD} : q ∈ peers c ↔ q ≠ c := by simp [peers]

/-! ## The barrier -/

/-- The barrier's semaphore. -/
abbrev bS : Sems sig S_ := SemArray.scalar (sig.barrier 0 rfl)

theorem t1_run (c : Dev nD) {β : Type} (kk : Unit → Prog (TpuEff nD τ sig (Elt F) Λ₀ .tc) β) (Q : β → sProp 𝕄) :
    iprop(recs I K ∗ (bigSep (peers c) fun q => iprop(barPay q c ∗ dutyTok ER (bcell q) 0 c ∗ reached ER (bcell q) 0)) ∗ owesX c (owed 1 c)
        ∗ (owesX c (owed 2 c) -∗ WP c (kk ⟨⟩) Q))
      ⊢ WP c (Scf.Loop.for k0_t1_loop k0_t1_ok ⟨⟩ (L1 (F := F) c) >>= kk) Q := by
  rw [owed_step 1 (by decide) c]
  iintro ⟨#HR, HS, HO, HQ⟩
  iapply (loop_each (n := 31) (lb := k0_t1_loop.lb) (ub := k0_t1_loop.ub) (st := k0_t1_loop.st) k0_t1_ok trips1 (L1 (F := F) c) c (peers c) (hopPos c) (fun q hq => hop_lt c q (mem_peers.mp hq)) (hop c) (fun q t ht => hop_iff c q t ht)
    (recs I K) (fun q => iprop(barPay q c ∗ dutyTok ER (bcell q) 0 c ∗ reached ER (bcell q) 0)) (fun _ => iprop(emp)) (tl 1 c) (owed 2 c) 0
    (above_owed (by decide) c) (fun q _ => above_tl (by decide) (by decide) c q) ?_ ?_ kk Q)
  · intro t O hO hm
    have hq : hop c t.val ≠ c := mem_peers.mp hm
    unfold L1 k0_t1_body
    rw [dev_eq _ (k0_dev1_lt c t) _ (dev1_eq c t), WP_bind]
    unfold semSignalWord
    unfold owesX
    iintro ⟨#HR, ⟨HB, HT, #Hr⟩, ⟨%W, HO⟩⟩
    ihave #Hi := (recs_bar I K (hop c t.val)) $$ HR
    iapply (Rounds.wp_signal 𝒱₀ ER (Rd I) (c : Thread nD τ) none (dst := (hop c t.val : Thread nD τ)) (sem := barrier0) (r := 0) (d := c) (κ := K (bcell (hop c t.val)))
      (by rw [duties_bar]; exact mem_peers.mpr hq.symm) rfl 1 O (O₀ := O + tl 1 c (hop c t.val)) rfl (W := W)) $$ [HB HT HO]
    · isplitr; · iexact Hi
      isplitl [HO]; · iexact HO
      isplitl [HT]; · iexact HT
      isplitl [HB]; · rw [payload_bar]; iexact HB
      iexact Hr
    iintro HO
    iapply (wp_retI c)
    iapply (wp_retI c)
    isplitr; · iexact HR
    isplitr; · iempintro
    iexists _; iexact HO
  · intro t Z hm
    exact absurd (mem_peers.mpr (hop_mem c t.val t.isLt)) hm
  isplitr; · iexact HR
  isplitl [HS]; · iexact HS
  isplitl [HO]; · iexact HO
  iintro ⟨-, -, HO⟩
  iapply HQ; iexact HO

/-- Waiting for every peer's signal. -/
theorem bar_wait (c : Dev nD) (Q : PUnit → sProp 𝕄) :
    iprop(recs I K ∗ cred (tallyAt (bcell c) 1 31) ∗ owesX c (owed 2 c) ∗ atPos ER (bcell c) 0 ∅ 0
        ∗ ((owesX c (owed 2 c) ∗ atPos ER (bcell c) 1 ∅ 0 ∗ bigSep (peers c) fun d => barPay c d) -∗ Q ⟨⟩))
      ⊢ WP c (semWaitWord bS.sem 31#32) Q := by
  show _ ⊢ wp frame _ Set.univ (.op _ .ret) _
  unfold owesX
  iintro ⟨#HR, Hc, ⟨%W, HO⟩, Hat, HQ⟩
  ihave #Hi := (recs_bar I K c) $$ HR
  ihave #Hlev := (recs_lev I K) $$ HR
  iapply (Rounds.wp_wait_rest_token 𝒱₀ ER (Rd I) (c : Thread nD τ) none (κ := K (bcell c))
      (wpE_semWait_eq 𝒱₀ (c : Thread nD τ) none Set.univ) (Set.mem_univ _) 1 (O := owed 2 c) (W := W) (R := 0) (m := 0) (T := ∅)
      ((Nat.zero_add 31).trans (expect_bar I c).symm)) $$ [Hc HO Hat]
  · isplitr; · iexact Hi
    isplitl [Hc]; · iexact Hc
    isplitl [HO]; · iexact HO
    isplitr; · iapply (mayWait (by decide) c (.reg barrier0) (above_owed (i := 1) (by decide) c)); iexact Hlev
    iexact Hat
  iintro ⟨HO, Hat, -, Hp⟩
  ihave Hp := (Entails.of_eq (rest_bar I c)) $$ Hp
  iapply (wp_retI c)
  iapply HQ
  isplitl [HO]; · iexists _; iexact HO
  isplitl [Hat] <;> iassumption

/-! ## The input broadcast -/

/-- Sending the own input block into a peer's row. -/
theorem send_in (c q : Dev nD) (hq : q ≠ c) {dst : Memref sig .tc .vmem S64x1024 .bf16} {hsc : dst.view.ref.isScScratch = false} {sS sem : DmaSem sig}
    (hS : sS = dsem 0 q) (hR : sem = dsem 1 c) {dev : Dev nD} (hdev : dev = q)
    {h1 : aM.view.WordExact} {h2 : dst.view.WordExact} {h3 : DmaTarget.Typed .vmem (.dma sem) (.remote (Dev.tc dev) dst (.dma sS) hsc)}
    (hdst : dst = xV c) (O : CellTallies nD τ sig ℕ) (Q : PUnit → sProp 𝕄) :
    iprop(recs I K ∗ ablk (shr c q) c (I.x c) ∗ (∃ f, xrow q c f)
        ∗ dutyTok ER (dcell c 0 q) 0 0 ∗ reached ER (dcell c 0 q) 0 ∗ dutyTok ER (dcell q 1 c) 0 0 ∗ reached ER (dcell q 1 c) 0
        ∗ owesX c (O + tl 2 c q) ∗ ((cred (tallyAt (dcell c 0 q) 0 N) ∗ owesX c O) -∗ Q ⟨⟩))
      ⊢ WP c (Prog.lift (.enqueueDma aM (.remote (Dev.tc dev) dst (.dma sS) hsc) (.dma sem) h1 h2 h3)) Q := by
  subst hdst
  iintro ⟨#HR, Ha, Hx, HT1, Hr1, HT2, Hr2, HO, HQ⟩
  iapply (send_core I K c q 0 1 0 2 hq (by decide) (by decide) rfl (src := aM) (dst := xV c) hS hR hdev rfl (shr c q) (I.x c) iprop(emp)
    (Entails.of_eq (pay0 I c q 0).symm) ?_ O Q)
  · intro fd
    rw [pay1, show aM.view.read (Elt F) (I.x c) = (xV c).view.read (Elt F) (X I 0) from by
      rw [read_xV]; funext j; exact (cat_row I.x c j).symm, land]
    iintro ⟨H, -⟩; iexact H
  isplitr; · iexact HR
  isplitl [Ha]; · iexact Ha
  isplitl [Hx]; · iexact Hx
  isplitr; · iempintro
  isplitl [HT1]; · iexact HT1
  isplitl [Hr1]; · iexact Hr1
  isplitl [HT2]; · iexact HT2
  isplitl [Hr2]; · iexact Hr2
  isplitl [HO]; · iexact HO
  iexact HQ

theorem t2_run (c : Dev nD) {β : Type} (kk : Unit → Prog (TpuEff nD τ sig (Elt F) Λ₀ .tc) β) (Q : β → sProp 𝕄) :
    iprop(recs I K ∗ (bigSep (peers c) fun q => iprop(ablk (shr c q) c (I.x c) ∗ (∃ f, xrow q c f)
          ∗ dutyTok ER (dcell c 0 q) 0 0 ∗ reached ER (dcell c 0 q) 0 ∗ dutyTok ER (dcell q 1 c) 0 0 ∗ reached ER (dcell q 1 c) 0)) ∗ owesX c (owed 2 c)
        ∗ (((bigSep (peers c) fun q => cred (tallyAt (dcell c 0 q) 0 N)) ∗ owesX c (owed 3 c)) -∗ WP c (kk ⟨⟩) Q))
      ⊢ WP c (Scf.Loop.for k0_t2_loop k0_t2_ok ⟨⟩ (L2 (F := F) c) >>= kk) Q := by
  rw [owed_step 2 (by decide) c]
  iintro ⟨#HR, HS, HO, HQ⟩
  iapply (loop_each (n := 32) (lb := k0_t2_loop.lb) (ub := k0_t2_loop.ub) (st := k0_t2_loop.st) k0_t2_ok trips2 (L2 (F := F) c) c (peers c) (farPos c) (fun q _ => far_lt c q) (far c) (fun q t ht => far_iff c q t ht)
    (recs I K) (fun q => iprop(ablk (shr c q) c (I.x c) ∗ (∃ f, xrow q c f)
          ∗ dutyTok ER (dcell c 0 q) 0 0 ∗ reached ER (dcell c 0 q) 0 ∗ dutyTok ER (dcell q 1 c) 0 0 ∗ reached ER (dcell q 1 c) 0))
    (fun q => cred (tallyAt (dcell c 0 q) 0 N)) (tl 2 c) (owed 3 c) 0
    (above_owed (by decide) c) (fun q _ => above_tl (by decide) (by decide) c q) ?_ ?_ kk Q)
  · intro t O hO hm
    have hq : far c t.val ≠ c := mem_peers.mp hm
    have hc : k0_cond1 c t = 1#1 := (cond1_eq c t).mpr hq
    unfold L2 k0_t2_body
    rw [dif_pos hc]; dsimp only; rw [WP_bind]
    iintro ⟨#HR, ⟨Ha, Hx, HT1, Hr1, HT2, Hr2⟩, HO⟩
    iapply (send_in I K c (far c t.val) hq (sem_eq 0 _ _ _ (off2_eq c t)) (sem_eq 1 _ _ _ (off3_eq c)) (dev_eq _ _ _ (dev2_eq c t))
      (slice_eq xM c _ _ (off4_eq c)) O)
    isplitr; · iexact HR
    isplitl [Ha]; · iexact Ha
    isplitl [Hx]; · iexact Hx
    isplitl [HT1]; · iexact HT1
    isplitl [Hr1]; · iexact Hr1
    isplitl [HT2]; · iexact HT2
    isplitl [Hr2]; · iexact Hr2
    isplitl [HO]; · iexact HO
    iintro ⟨Hc, HO⟩
    iapply (wp_retI c)
    isplitr; · iexact HR
    isplitl [Hc] <;> iassumption
  · intro t Z hm
    have hc : ¬k0_cond1 c t = 1#1 := fun h => hm (mem_peers.mpr ((cond1_eq c t).mp h))
    unfold L2 k0_t2_body
    rw [dif_neg hc]
    exact skipI c Z
  isplitr; · iexact HR
  isplitl [HS]; · iexact HS
  isplitl [HO]; · iexact HO
  iintro ⟨-, HS, HO⟩
  iapply HQ; isplitl [HS] <;> iassumption

/-! ## Loops that wait -/

/-- One trip that waits for semaphore `q` of array `a`. -/
theorem wait_trip (c q : Dev nD) (a : Fin 6) (r i : ℕ) (hq : q ≠ c) (hr : r < nr a.val) (hi : i < 9) {O : CellTallies nD τ sig ℕ} (hO : Above i O)
    {sem : DmaSem sig} (hs : sem = dsem a q) {sp sp' : Space} {s : Shape} {e : EltTy} {src : Memref sig .tc sp s e} {dst : Memref sig .tc sp' s e}
    {h1 : src.view.WordExact} {h2 : dst.view.WordExact} (hN : dst.view.dmaCredit = N) :
    iprop(recs I K ∗ (atPos ER (dcell c a q) r ∅ 0 ∗ cred (tallyAt (dcell c a q) i N)) ∗ owesX c (O + 0))
      ⊢ WP c (Prog.lift (.waitDma2 sem src dst h1 h2) >>= fun _ => .ret PUnit.unit) fun _ =>
        iprop(recs I K ∗ (atPos ER (dcell c a q) (r + 1) ∅ 0 ∗ reached ER (dcell c a q) (r + 1) ∗ pay I c a.val q r) ∗ owesX c O) := by
  rw [add_zero, WP_bind]
  iintro ⟨#HR, ⟨Hat, Hc⟩, HO⟩
  iapply (wait_dma I K c q a r i hq hr hi hO hs hN)
  isplitr; · iexact HR
  isplitl [Hat]; · iexact Hat
  isplitl [Hc]; · iexact Hc
  isplitl [HO]; · iexact HO
  iintro ⟨HO, Hat, Hr, Hp⟩
  iapply (wp_retI c)
  isplitr; · iexact HR
  isplitl [Hat Hr Hp]
  · isplitl [Hat]; · iexact Hat
    isplitl [Hr] <;> iassumption
  iexact HO

/-- A loop that waits for one peer's semaphore of array `a` per trip. -/
theorem wait_loop (a : Fin 6) (r : ℕ) {n : ℕ} {lb ub st : BitVec 32} (hok : Scf.OK lb ub st) (hn : Scf.trips lb ub st = n)
    (body : Fin (Scf.trips lb ub st) → Unit → Prog (TpuEff nD τ sig (Elt F) Λ₀ .tc) Unit)
    (c : Dev nD) (pos : Dev nD → ℕ) (hpos : ∀ q ∈ peers c, pos q < n) (v : ℕ → Dev nD) (hv : ∀ q, ∀ t < n, pos q = t ↔ q = v t)
    (D : CellTallies nD τ sig ℕ) (i : ℕ) (hD : Above i D)
    (hin : ∀ (t : Fin (Scf.trips lb ub st)) (O : CellTallies nD τ sig ℕ), Above i O → v t.val ≠ c →
      iprop(recs I K ∗ (atPos ER (dcell c a (v t.val)) r ∅ 0 ∗ cred (tallyAt (dcell c a (v t.val)) i N)) ∗ owesX c (O + 0))
        ⊢ WP c (body t ()) fun _ => iprop(recs I K ∗ (atPos ER (dcell c a (v t.val)) (r + 1) ∅ 0 ∗ reached ER (dcell c a (v t.val)) (r + 1) ∗ pay I c a.val (v t.val) r) ∗ owesX c O))
    (hout : ∀ (t : Fin (Scf.trips lb ub st)) (Z : sProp 𝕄), v t.val = c → Z ⊢ WP c (body t ()) fun _ => Z)
    {β : Type} (kk : Unit → Prog (TpuEff nD τ sig (Elt F) Λ₀ .tc) β) (Q : β → sProp 𝕄) :
    iprop(recs I K ∗ (bigSep (peers c) fun q => iprop(atPos ER (dcell c a q) r ∅ 0 ∗ cred (tallyAt (dcell c a q) i N))) ∗ owesX c D
        ∗ (((bigSep (peers c) fun q => iprop(atPos ER (dcell c a q) (r + 1) ∅ 0 ∗ reached ER (dcell c a q) (r + 1) ∗ pay I c a.val q r)) ∗ owesX c D) -∗ WP c (kk ⟨⟩) Q))
      ⊢ WP c (Scf.for lb ub st hok ⟨⟩ body >>= kk) Q := by
  iintro ⟨#HR, HS, HO, HQ⟩
  iapply (loop_each hok hn body c (peers c) pos hpos v hv (recs I K) (fun q => iprop(atPos ER (dcell c a q) r ∅ 0 ∗ cred (tallyAt (dcell c a q) i N)))
    (fun q => iprop(atPos ER (dcell c a q) (r + 1) ∅ 0 ∗ reached ER (dcell c a q) (r + 1) ∗ pay I c a.val q r)) (fun _ => 0) D i hD (fun _ _ => Above.zero i)
    (fun t O hO hm => hin t O hO (mem_peers.mp hm)) (fun t Z hm => hout t Z (not_not.mp fun h => hm (mem_peers.mpr h))) kk Q)
  isplitr; · iexact HR
  isplitl [HS]; · iexact HS
  isplitl [HO]; · rw [Finset.sum_const_zero, add_zero]; iexact HO
  iintro ⟨-, HS, HO⟩
  iapply HQ; isplitl [HS] <;> iassumption

theorem t4_run (k : ℕ) (hk : k < 3) (c : Dev nD) {β : Type} (kk : Unit → Prog (TpuEff nD τ sig (Elt F) Λ₀ .tc) β) (Q : β → sProp 𝕄) :
    iprop(recs I K ∗ (bigSep (peers c) fun q => iprop(atPos ER (dcell c 3 q) k ∅ 0 ∗ cred (tallyAt (dcell c 3 q) (3 + 2 * k) N))) ∗ owesX c (owed (4 + 2 * k) c)
        ∗ (((bigSep (peers c) fun q => iprop(atPos ER (dcell c 3 q) (k + 1) ∅ 0 ∗ reached ER (dcell c 3 q) (k + 1) ∗ pay I c (3 : Fin 6).val q k)) ∗ owesX c (owed (4 + 2 * k) c)) -∗ WP c (kk ⟨⟩) Q))
      ⊢ WP c (Scf.Loop.for k0_t4_loop k0_t4_ok ⟨⟩ (L4 (F := F) c) >>= kk) Q := by
  refine wait_loop I K 3 k (n := 31) (lb := k0_t4_loop.lb) (ub := k0_t4_loop.ub) (st := k0_t4_loop.st) k0_t4_ok trips4 (L4 (F := F) c) c (hopPos c) (fun q hq => hop_lt c q (mem_peers.mp hq)) (hop c)
    (fun q t ht => hop_iff c q t ht) (owed (4 + 2 * k) c) (3 + 2 * k) (above_owed (by omega) c) ?_ ?_ kk Q
  · intro t O hO hq
    unfold L4 k0_t4_body
    exact wait_trip I K c (hop c t.val) 3 k (3 + 2 * k) hq (by show k < 3; exact hk) (by omega) hO (sem_eq 3 _ _ _ (off32_eq c t)) rfl
  · exact fun t Z hm => absurd hm (hop_mem c t.val t.isLt)

theorem t5_run (k : ℕ) (hk : k < 3) (D : CellTallies nD τ sig ℕ) (hD : Above 0 D) (c : Dev nD) {β : Type} (kk : Unit → Prog (TpuEff nD τ sig (Elt F) Λ₀ .tc) β) (Q : β → sProp 𝕄) :
    iprop(recs I K ∗ (bigSep (peers c) fun q => iprop(atPos ER (dcell c 2 q) k ∅ 0 ∗ cred (tallyAt (dcell c 2 q) 0 N))) ∗ owesX c D
        ∗ (((bigSep (peers c) fun q => iprop(atPos ER (dcell c 2 q) (k + 1) ∅ 0 ∗ reached ER (dcell c 2 q) (k + 1) ∗ pay I c (2 : Fin 6).val q k)) ∗ owesX c D) -∗ WP c (kk ⟨⟩) Q))
      ⊢ WP c (Scf.Loop.for k0_t5_loop k0_t5_ok ⟨⟩ (L5 (F := F) c) >>= kk) Q := by
  refine wait_loop I K 2 k (n := 31) (lb := k0_t5_loop.lb) (ub := k0_t5_loop.ub) (st := k0_t5_loop.st) k0_t5_ok trips5 (L5 (F := F) c) c (hopPos c) (fun q hq => hop_lt c q (mem_peers.mp hq)) (hop c)
    (fun q t ht => hop_iff c q t ht) D 0 hD ?_ ?_ kk Q
  · intro t O hO hq
    unfold L5 k0_t5_body
    exact wait_trip I K c (hop c t.val) 2 k 0 hq (by show k < 3; exact hk) (by omega) hO (sem_eq 2 _ _ _ (off35_eq c t)) rfl
  · exact fun t Z hm => absurd hm (hop_mem c t.val t.isLt)

theorem t7_run (c : Dev nD) (k : ℕ) (hk : k < 3) (D : CellTallies nD τ sig ℕ) (hD : Above 0 D) (M : Memref sig .tc .vmem S2048x1024 .bf16) (hM : M.IsWhole) (hN : ∀ (off : Fin 2 → ℕ) (inb : ∀ i, off i + S64x1024.size i ≤ S2048x1024.size i), off = ![64 * c.val, 0] →
      (M.slice (Rect.unit (s := S2048x1024) off S64x1024.size inb) (fun _ => rfl)).view.dmaCredit = N) (v2 v3 : BitVec 32) (v : FVec F S2048x1024 .f32) {β : Type} (kk : Unit → Prog (TpuEff nD τ sig (Elt F) Λ₀ .tc) β) (Q : β → sProp 𝕄) :
    iprop(recs I K ∗ (bigSep (peers c) fun q => iprop(atPos ER (dcell c 4 q) k ∅ 0 ∗ cred (tallyAt (dcell c 4 q) 0 N))) ∗ owesX c D
        ∗ (((bigSep (peers c) fun q => iprop(atPos ER (dcell c 4 q) (k + 1) ∅ 0 ∗ reached ER (dcell c 4 q) (k + 1) ∗ pay I c (4 : Fin 6).val q k)) ∗ owesX c D) -∗ WP c (kk ⟨⟩) Q))
      ⊢ WP c (Scf.Loop.for k0_t7_loop k0_t7_ok ⟨⟩ (L7 (F := F) M hM c v2 v3 v) >>= kk) Q := by
  refine wait_loop I K 4 k (n := 32) (lb := k0_t7_loop.lb) (ub := k0_t7_loop.ub) (st := k0_t7_loop.st) k0_t7_ok trips7 (L7 (F := F) M hM c v2 v3 v) c (farPos c) (fun q _ => far_lt c q) (far c)
    (fun q t ht => far_iff c q t ht) D 0 hD ?_ ?_ kk Q
  · intro t O hO hq
    unfold L7 k0_t7_body
    rw [dif_pos ((cond12_eq c t).mpr hq)]
    exact wait_trip I K c (far c t.val) 4 k 0 hq (by show k < 3; exact hk) (by omega) hO (sem_eq 4 _ _ _ (off41_eq c t)) (hN _ _ (off42_eq c))
  · intro t Z hm
    unfold L7 k0_t7_body
    rw [dif_neg fun h => (cond12_eq c t).mp h hm]
    exact skipI c Z

theorem t18_run  (c : Dev nD) {β : Type} (kk : Unit → Prog (TpuEff nD τ sig (Elt F) Λ₀ .tc) β) (Q : β → sProp 𝕄) :
    iprop(recs I K ∗ (bigSep (peers c) fun q => iprop(atPos ER (dcell c 5 q) 2 ∅ 0 ∗ cred (tallyAt (dcell c 5 q) 8 N))) ∗ owesX c (owed 9 c)
        ∗ (((bigSep (peers c) fun q => iprop(atPos ER (dcell c 5 q) (2 + 1) ∅ 0 ∗ reached ER (dcell c 5 q) (2 + 1) ∗ pay I c (5 : Fin 6).val q 2)) ∗ owesX c (owed 9 c)) -∗ WP c (kk ⟨⟩) Q))
      ⊢ WP c (Scf.Loop.for k0_t18_loop k0_t18_ok ⟨⟩ (L18 (F := F) c) >>= kk) Q := by
  refine wait_loop I K 5 2 (n := 31) (lb := k0_t18_loop.lb) (ub := k0_t18_loop.ub) (st := k0_t18_loop.st) k0_t18_ok trips18 (L18 (F := F) c) c (hopPos c) (fun q hq => hop_lt c q (mem_peers.mp hq)) (hop c)
    (fun q t ht => hop_iff c q t ht) (owed 9 c) 8 (by rw [owed_end]; exact Above.zero _) ?_ ?_ kk Q
  · intro t O hO hq
    unfold L18 k0_t18_body
    exact wait_trip I K c (hop c t.val) 5 2 8 hq (by decide) (by omega) hO (sem_eq 5 _ _ _ (off119_eq c t)) rfl
  · exact fun t Z hm => absurd hm (hop_mem c t.val t.isLt)

theorem t19_run  (c : Dev nD) {β : Type} (kk : Unit → Prog (TpuEff nD τ sig (Elt F) Λ₀ .tc) β) (Q : β → sProp 𝕄) :
    iprop(recs I K ∗ (bigSep (peers c) fun q => iprop(atPos ER (dcell c 0 q) 0 ∅ 0 ∗ cred (tallyAt (dcell c 0 q) 0 N))) ∗ owesX c (owed 9 c)
        ∗ (((bigSep (peers c) fun q => iprop(atPos ER (dcell c 0 q) (0 + 1) ∅ 0 ∗ reached ER (dcell c 0 q) (0 + 1) ∗ pay I c (0 : Fin 6).val q 0)) ∗ owesX c (owed 9 c)) -∗ WP c (kk ⟨⟩) Q))
      ⊢ WP c (Scf.Loop.for k0_t19_loop k0_t19_ok ⟨⟩ (L19 (F := F) c) >>= kk) Q := by
  refine wait_loop I K 0 0 (n := 32) (lb := k0_t19_loop.lb) (ub := k0_t19_loop.ub) (st := k0_t19_loop.st) k0_t19_ok trips19 (L19 (F := F) c) c (farPos c) (fun q _ => far_lt c q) (far c)
    (fun q t ht => far_iff c q t ht) (owed 9 c) 0 (by rw [owed_end]; exact Above.zero _) ?_ ?_ kk Q
  · intro t O hO hq
    unfold L19 k0_t19_body
    rw [dif_pos ((cond35_eq c t).mpr hq)]
    exact wait_trip I K c (far c t.val) 0 0 0 hq (by decide) (by omega) hO (sem_eq 0 _ _ _ (off122_eq c t)) rfl
  · intro t Z hm
    unfold L19 k0_t19_body
    rw [dif_neg fun h => (cond35_eq c t).mp h hm]
    exact skipI c Z

/-! ## The broadcast of finished rows -/

theorem tl_rs (k : ℕ) (c q : Dev nD) : tl (3 + 2 * k) c q = tallyAt (dcell q 3 c) (3 + 2 * k) N := by
  unfold tl rcell; rw [if_neg (show ¬3 + 2 * k = 1 by omega), if_neg (show ¬3 + 2 * k = 2 by omega), if_pos (show (3 + 2 * k) % 2 = 1 by omega), if_neg (show ¬3 + 2 * k = 1 by omega)]
theorem tl_ag (k : ℕ) (c q : Dev nD) : tl (4 + 2 * k) c q = tallyAt (dcell q 5 c) (4 + 2 * k) N := by
  unfold tl rcell; rw [if_neg (show ¬4 + 2 * k = 1 by omega), if_neg (show ¬4 + 2 * k = 2 by omega), if_neg (show ¬(4 + 2 * k) % 2 = 1 by omega), if_neg (show ¬4 + 2 * k = 1 by omega)]

/-- A block of rows of an array of the full shape. -/
abbrev yV (M : Memref sig .tc .vmem S2048x1024 .bf16) (q : Dev nD) : Memref sig .tc .vmem S64x1024 .bf16 := M.slice (rowR q) (fun _ => rfl)

/-- Sending the own finished rows to one peer. -/
theorem send_fin (c q : Dev nD) (k : ℕ) (hk : k < 3) (hq : q ≠ c) (M : Memref sig .tc .vmem S2048x1024 .bf16) (hN : (yV M c).view.dmaCredit = N)
    (fs : Buf (Elt F) ((yV M c).view.loc (c : Thread nD τ))) (G : sProp 𝕄)
    (hp4 : ((yV M c).view.loc (c : Thread nD τ) ↦[(yV M c).view.set]{shr c q} fs) ⊢ pay I c (4 : Fin 6).val q k)
    (hp5 : ∀ fd : Buf (Elt F) ((yV M c).view.loc (q : Thread nD τ)),
      iprop(((yV M c).view.loc (q : Thread nD τ) ↦[(yV M c).view.set]{fullShare} ((yV M c).view.write (Elt F) fd ((yV M c).view.read (Elt F) fs) Finset.univ)) ∗ G)
        ⊢ pay I q (5 : Fin 6).val c k)
    {dst : Memref sig .tc .vmem S64x1024 .bf16} {hsc : dst.view.ref.isScScratch = false} {sS sem : DmaSem sig}
    (hS : sS = dsem 4 q) (hR : sem = dsem 5 c) {dev : Dev nD} (hdev : dev = q)
    {h1 : dst.view.WordExact} {h2 : dst.view.WordExact} {h3 : DmaTarget.Typed .vmem (.dma sem) (.remote (Dev.tc dev) dst (.dma sS) hsc)}
    (hdst : dst = yV M c) (O : CellTallies nD τ sig ℕ) (Q : PUnit → sProp 𝕄) :
    iprop(recs I K ∗ ((yV M c).view.loc (c : Thread nD τ) ↦[(yV M c).view.set]{shr c q} fs)
        ∗ (∃ fd : Buf (Elt F) ((yV M c).view.loc (q : Thread nD τ)), (yV M c).view.loc (q : Thread nD τ) ↦[(yV M c).view.set]{fullShare} fd) ∗ G
        ∗ dutyTok ER (dcell c 4 q) k 0 ∗ reached ER (dcell c 4 q) k ∗ dutyTok ER (dcell q 5 c) k 0 ∗ reached ER (dcell q 5 c) k
        ∗ owesX c (O + tl (4 + 2 * k) c q) ∗ ((cred (tallyAt (dcell c 4 q) 0 N) ∗ owesX c O) -∗ Q ⟨⟩))
      ⊢ WP c (Prog.lift (.enqueueDma dst (.remote (Dev.tc dev) dst (.dma sS) hsc) (.dma sem) h1 h2 h3)) Q := by
  subst hdst
  exact send_core I K c q 4 5 k (4 + 2 * k) hq (by show k < 3; exact hk) (by show k < 3; exact hk) (tl_ag k c q) hS hR hdev hN (shr c q) fs G hp4 hp5 O Q

/-- Sending the own finished rows of `M` to every peer: the payloads are given as what the send leaves (`hp4`, `hp5`). -/
theorem t6_run (c : Dev nD) (k : ℕ) (hk : k < 3) (M : Memref sig .tc .vmem S2048x1024 .bf16) (hM : M.IsWhole) (hN : (yV M c).view.dmaCredit = N)
    (fs : Buf (Elt F) ((yV M c).view.loc (c : Thread nD τ))) (G : Dev nD → sProp 𝕄)
    (hp4 : ∀ q : Dev nD, ((yV M c).view.loc (c : Thread nD τ) ↦[(yV M c).view.set]{shr c q} fs) ⊢ pay I c (4 : Fin 6).val q k)
    (hp5 : ∀ q : Dev nD, ∀ fd : Buf (Elt F) ((yV M c).view.loc (q : Thread nD τ)),
      iprop(((yV M c).view.loc (q : Thread nD τ) ↦[(yV M c).view.set]{fullShare} ((yV M c).view.write (Elt F) fd ((yV M c).view.read (Elt F) fs) Finset.univ)) ∗ G q)
        ⊢ pay I q (5 : Fin 6).val c k)
    (v2 v3 : BitVec 32) (v : FVec F S2048x1024 .f32) {β : Type} (kk : Unit → Prog (TpuEff nD τ sig (Elt F) Λ₀ .tc) β) (Q : β → sProp 𝕄) :
    iprop(recs I K ∗ (bigSep (peers c) fun q => iprop(((yV M c).view.loc (c : Thread nD τ) ↦[(yV M c).view.set]{shr c q} fs)
          ∗ (∃ fd : Buf (Elt F) ((yV M c).view.loc (q : Thread nD τ)), (yV M c).view.loc (q : Thread nD τ) ↦[(yV M c).view.set]{fullShare} fd) ∗ G q
          ∗ dutyTok ER (dcell c 4 q) k 0 ∗ reached ER (dcell c 4 q) k ∗ dutyTok ER (dcell q 5 c) k 0 ∗ reached ER (dcell q 5 c) k)) ∗ owesX c (owed (4 + 2 * k) c)
        ∗ (((bigSep (peers c) fun q => cred (tallyAt (dcell c 4 q) 0 N)) ∗ owesX c (owed (5 + 2 * k) c)) -∗ WP c (kk ⟨⟩) Q))
      ⊢ WP c (Scf.Loop.for k0_t6_loop k0_t6_ok ⟨⟩ (L6 (F := F) M hM c v2 v3 v) >>= kk) Q := by
  rw [owed_step (4 + 2 * k) (by omega) c, show 4 + 2 * k + 1 = 5 + 2 * k by omega]
  iintro ⟨#HR, HS, HO, HQ⟩
  iapply (loop_each (n := 32) (lb := k0_t6_loop.lb) (ub := k0_t6_loop.ub) (st := k0_t6_loop.st) k0_t6_ok trips6 (L6 (F := F) M hM c v2 v3 v) c (peers c) (farPos c) (fun q _ => far_lt c q) (far c) (fun q t ht => far_iff c q t ht)
    (recs I K) (fun q => iprop(((yV M c).view.loc (c : Thread nD τ) ↦[(yV M c).view.set]{shr c q} fs)
          ∗ (∃ fd : Buf (Elt F) ((yV M c).view.loc (q : Thread nD τ)), (yV M c).view.loc (q : Thread nD τ) ↦[(yV M c).view.set]{fullShare} fd) ∗ G q
          ∗ dutyTok ER (dcell c 4 q) k 0 ∗ reached ER (dcell c 4 q) k ∗ dutyTok ER (dcell q 5 c) k 0 ∗ reached ER (dcell q 5 c) k))
    (fun q => cred (tallyAt (dcell c 4 q) 0 N)) (tl (4 + 2 * k) c) (owed (5 + 2 * k) c) 0
    (above_owed (by omega) c) (fun q _ => above_tl (by omega) (by omega) c q) ?_ ?_ kk Q)
  · intro t O hO hm
    have hq : far c t.val ≠ c := mem_peers.mp hm
    unfold L6 k0_t6_body
    rw [dif_pos ((cond11_eq c t).mpr hq)]; dsimp only; rw [WP_bind]
    iintro ⟨#HR, ⟨Ha, Hx, HG, HT1, Hr1, HT2, Hr2⟩, HO⟩
    iapply (send_fin I K c (far c t.val) k hk hq M hN fs (G (far c t.val)) (hp4 _) (hp5 _) (sem_eq 4 _ _ _ (off38_eq c t)) (sem_eq 5 _ _ _ (off39_eq c)) (dev_eq _ _ _ (dev7_eq c t))
      (slice_eq M c _ _ (off40_eq c)) O)
    isplitr; · iexact HR
    isplitl [Ha]; · iexact Ha
    isplitl [Hx]; · iexact Hx
    isplitl [HG]; · iexact HG
    isplitl [HT1]; · iexact HT1
    isplitl [Hr1]; · iexact Hr1
    isplitl [HT2]; · iexact HT2
    isplitl [Hr2]; · iexact Hr2
    isplitl [HO]; · iexact HO
    iintro ⟨Hc, HO⟩
    iapply (wp_retI c)
    isplitr; · iexact HR
    isplitl [Hc] <;> iassumption
  · intro t Z hm
    unfold L6 k0_t6_body
    rw [dif_neg fun h => hm (mem_peers.mpr ((cond11_eq c t).mp h))]
    exact skipI c Z
  isplitr; · iexact HR
  isplitl [HS]; · iexact HS
  isplitl [HO]; · iexact HO
  iintro ⟨-, HS, HO⟩
  iapply HQ; isplitl [HS] <;> iassumption

end Cert.KernelIdeal.Pf
-- ==== Proof.Mem.lean ====
module
public import proofs.«01_k».proof.Proof.Comm

@[expose] public section

set_option maxRecDepth 65536

/-! # Loads and stores of row blocks

A block of 64 rows, a group of 256 rows (four blocks), and whole buffers. -/

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Transfers (dealOf)
open Idealize.ShloMosaic.Shape (pair)

variable {F : FTy → Type} [FloatOps F]

local notation "𝕄" => MT nD τ sig ℕ (Elt F) ℕ UU ℕ

/-! ## One operation -/

/-- A load through a rectangle of a held view. -/
theorem load_rect (c : Dev nD) {s : Shape} {e : EltTy} {M : Memref sig .tc .vmem s e} {r : Rect s} {hl : M.view.LoadsAt r.toLoadRect}
    (sh : PosShare TreeShare) (f : Buf (Elt F) ((M.access r).loc (c : Thread nD τ))) (Q : (r.shape.Idx → Elt F e) → sProp 𝕄) :
    iprop(((M.access r).loc (c : Thread nD τ) ↦[(M.access r).set]{sh} f)
        ∗ (((M.access r).loc (c : Thread nD τ) ↦[(M.access r).set]{sh} f) -∗ Q ((M.access r).read (Elt F) f)))
      ⊢ WP c (Prog.lift (.load M r.toLoadRect hl)) Q := by
  show _ ⊢ wp frame _ Set.univ (.op _ .ret) _
  iintro ⟨H, HQ⟩
  iapply (wp_load_rect 𝒱₀ (c : Thread nD τ) none Set.univ (m := M) (r := r) (q := sh) (f := f) (Finset.Subset.refl _)) $$ H
  iintro H
  iapply (wp_retI c)
  iapply HQ; iexact H

/-- A store of what `g` shows through the rectangle leaves `g` there. -/
theorem store_rect (c : Dev nD) {s : Shape} {e : EltTy} {M : Memref sig .tc .vmem s e} {r : Rect s} {w : r.shape.Idx → Elt F e}
    {hx : (M.access r).Stores Finset.univ} {hm : Finset.univ = (Finset.univ : Finset r.shape.Idx) ∨ ∀ a, r.stride a = 1}
    (f g : Buf (Elt F) ((M.access r).loc (c : Thread nD τ))) (hw : w = (M.access r).read (Elt F) g) (Q : PUnit → sProp 𝕄) :
    iprop(((M.access r).loc (c : Thread nD τ) ↦[(M.access r).set]{fullShare} f)
        ∗ (((M.access r).loc (c : Thread nD τ) ↦[(M.access r).set]{fullShare} g) -∗ Q ⟨⟩))
      ⊢ WP c (Prog.lift (.store M r w Finset.univ hx hm)) Q := by
  subst hw
  show _ ⊢ wp frame _ Set.univ (.op _ .ret) _
  iintro ⟨H, HQ⟩
  iapply (wp_store 𝒱₀ (c : Thread nD τ) none Set.univ (m := M) (r := r) (w := (M.access r).read (Elt F) g) (Mk := Finset.univ) (S := (M.access r).set) (f := f) (Finset.Subset.refl _)) $$ H
  iintro H
  iapply (wp_retI c)
  iapply HQ
  iapply (Entails.of_eq (land (M.access r) c fullShare f g)) $$ H

/-! ## Rows of an array of the full shape -/

variable (M : Memref sig .tc .vmem S2048x1024 .bf16)

abbrev rowP (sh : PosShare TreeShare) (c q : Dev nD) (f : Buf (Elt F) ((yV M q).view.loc (c : Thread nD τ))) : sProp 𝕄 :=
  (yV M q).view.loc (c : Thread nD τ) ↦[(yV M q).view.set]{sh} f

/-- Loading block `q`. -/
theorem load64 (c q : Dev nD) {off : Fin 2 → ℕ} {inb : ∀ i, off i + S64x1024.size i ≤ S2048x1024.size i} (h : off = ![64 * q.val, 0])
    {hl : M.view.LoadsAt (Rect.unit (s := S2048x1024) off S64x1024.size inb).toLoadRect} (sh : PosShare TreeShare)
    (f : Buf (Elt F) ((yV M q).view.loc (c : Thread nD τ))) (Q : Vec F S64x1024 .bf16 → sProp 𝕄) :
    iprop(rowP M sh c q f ∗ (rowP M sh c q f -∗ Q ((yV M q).view.read (Elt F) f)))
      ⊢ WP c (Prog.lift (.load M (Rect.unit (s := S2048x1024) off S64x1024.size inb).toLoadRect hl)) Q := by
  subst h
  exact load_rect c sh f Q

/-- Storing block `q`. -/
theorem store64 (c q : Dev nD) {off : Fin 2 → ℕ} {inb : ∀ i, off i + S64x1024.size i ≤ S2048x1024.size i} (h : off = ![64 * q.val, 0])
    {w : Vec F S64x1024 .bf16} {hx : (M.access (Rect.unit (s := S2048x1024) off S64x1024.size inb)).Stores Finset.univ} {hm}
    (f g : Buf (Elt F) ((yV M q).view.loc (c : Thread nD τ))) (hw : w = (yV M q).view.read (Elt F) g) (Q : PUnit → sProp 𝕄) :
    iprop(rowP M fullShare c q f ∗ (rowP M fullShare c q g -∗ Q ⟨⟩))
      ⊢ WP c (Prog.lift (.store M (Rect.unit (s := S2048x1024) off S64x1024.size inb) w Finset.univ hx hm)) Q := by
  subst h
  exact store_rect c f g hw Q

theorem grp_inb (g : Fin 8) : ∀ a, (![256 * g.val, 0] : Fin 2 → ℕ) a + S256x1024.size a ≤ S2048x1024.size a := by
  intro a; have h := g.isLt; fin_cases a <;> simp [S256x1024, S2048x1024] <;> omega
/-- The rectangle of a group of 256 rows, and its view. -/
abbrev grpR (g : Fin 8) : Rect S2048x1024 := Rect.unit (s := S2048x1024) ![256 * g.val, 0] S256x1024.size (grp_inb g)
abbrev gV (g : Fin 8) : View sig .tc .vmem S256x1024 .bf16 := M.access (grpR g)
/-- The four devices of a group. -/
abbrev grpS (g : Fin 8) : Finset (Dev nD) := Finset.univ.filter fun q => q.val / 4 = g.val

theorem mem_rowR (q : Dev nD) (i : S2048x1024.Idx) : i ∈ (rowR q).set ↔ blk64 i = q := by
  have h0 : (i 0).val < 2048 := (i 0).isLt
  have h1 : (i 1).val < 1024 := (i 1).isLt
  rw [Rect.mem_set_unit, Fin.ext_iff]
  show (∀ a, _) ↔ (i 0).val / 64 = q.val
  constructor
  · intro h; have h := h 0
    have e1 : 64 * q.val ≤ (i 0).val := h.1
    have e2 : (i 0).val < 64 * q.val + 64 := h.2
    omega
  · intro h a
    fin_cases a
    · exact ⟨show 64 * q.val ≤ (i 0).val by omega, show (i 0).val < 64 * q.val + 64 by omega⟩
    · exact ⟨Nat.zero_le _, show (i 1).val < 0 + 1024 by omega⟩
theorem mem_grpR (g : Fin 8) (i : S2048x1024.Idx) : i ∈ (grpR g).set ↔ blk256 i = g := by
  have h0 : (i 0).val < 2048 := (i 0).isLt
  have h1 : (i 1).val < 1024 := (i 1).isLt
  rw [Rect.mem_set_unit, Fin.ext_iff]
  show (∀ a, _) ↔ (i 0).val / 256 = g.val
  constructor
  · intro h; have h := h 0
    have e1 : 256 * g.val ≤ (i 0).val := h.1
    have e2 : (i 0).val < 256 * g.val + 256 := h.2
    omega
  · intro h a
    fin_cases a
    · exact ⟨show 256 * g.val ≤ (i 0).val by omega, show (i 0).val < 256 * g.val + 256 by omega⟩
    · exact ⟨Nat.zero_le _, show (i 1).val < 0 + 1024 by omega⟩
theorem grp_rows (g : Fin 8) : ((grpS g).biUnion fun q => (yV M q).view.set) = (gV M g).set := by
  have e : ∀ q, (yV M q).view.set = (rowR q).set.map M.view.emb := fun q => View.set_slice _ _
  rw [show (gV M g).set = (grpR g).set.map M.view.emb from View.set_slice _ _]
  ext i
  simp only [Finset.mem_biUnion, e, Finset.mem_map, mem_rowR, mem_grpR, Finset.mem_filter, Finset.mem_univ, true_and]
  constructor
  · rintro ⟨q, hq, j, rfl, rfl⟩
    refine ⟨j, Fin.ext ?_, rfl⟩
    have hq : (j 0).val / 64 / 4 = g.val := hq
    show (j 0).val / 256 = g.val; omega
  · rintro ⟨j, rfl, rfl⟩
    refine ⟨blk64 j, ?_, j, rfl, rfl⟩
    show (j 0).val / 64 / 4 = (j 0).val / 256; omega
theorem row_disj (q q' : Dev nD) (h : q ≠ q') : Disjoint (yV M q).view.set (yV M q').view.set := by
  rw [View.set_slice, View.set_slice, Finset.disjoint_map, Finset.disjoint_left]
  intro i hi hi'
  rw [mem_rowR] at hi hi'
  exact h (hi.symm.trans hi')

abbrev grpP (c : Dev nD) (g : Fin 8) (f : Buf (Elt F) ((gV M g).loc (c : Thread nD τ))) : sProp 𝕄 :=
  (gV M g).loc (c : Thread nD τ) ↦[(gV M g).set]{fullShare} f

/-- Four blocks are a group, at the same contents, -/
theorem grp_eq (c : Dev nD) (g : Fin 8) (f : Buf (Elt F) (M.view.loc (c : Thread nD τ))) :
    bigSep (grpS g) (fun q => rowP (F := F) M fullShare c q f) = grpP M c g f := by
  unfold grpP; rw [← grp_rows M g]
  exact (pointsTo_biUnion (ℓ := M.view.loc (c : Thread nD τ)) (grpS g) (fun q => (yV M q).view.set) fun t _ t' _ h => row_disj M t t' h).symm
/-- or at any. -/
theorem grp_any (c : Dev nD) (g : Fin 8) (f₀ : Buf (Elt F) (M.view.loc (c : Thread nD τ))) :
    bigSep (grpS g) (fun q => iprop(∃ f : Buf (Elt F) (M.view.loc (c : Thread nD τ)), rowP (F := F) M fullShare c q f)) ⊢ iprop(∃ f, grpP (F := F) M c g f) := by
  have : Nonempty (Buf (Elt F) (M.view.loc (c : Thread nD τ))) := ⟨f₀⟩
  refine (bigSep_exists_pi (grpS g) (fun q (f : Buf (Elt F) (M.view.loc (c : Thread nD τ))) => rowP (F := F) M fullShare c q f)).trans ?_
  iintro ⟨%fs, H⟩
  ihave ⟨%f, -, H⟩ := (pointsTo_biUnion_join (ℓ := M.view.loc (c : Thread nD τ)) (grpS g) (fun q => (yV M q).view.set) fs f₀ fun t _ t' _ h => row_disj M t t' h) $$ H
  iexists f
  unfold grpP; rw [← grp_rows M g]; iexact H
/-- All 32 blocks, at any contents, are the whole of a whole buffer, -/
theorem rows_cover : ((Finset.univ : Finset (Dev nD)).biUnion fun q => (yV M q).view.set) = M.view.set := by
  have e : ∀ q, (yV M q).view.set = (rowR q).set.map M.view.emb := fun q => View.set_slice _ _
  show _ = Finset.univ.map M.view.emb
  ext i
  simp only [Finset.mem_biUnion, e, Finset.mem_map, mem_rowR, Finset.mem_univ, true_and]
  constructor
  · rintro ⟨q, j, -, h⟩; exact ⟨j, h⟩
  · rintro ⟨j, h⟩; exact ⟨blk64 j, j, rfl, h⟩
theorem rows_any (hM : M.IsWhole) (c : Dev nD) (f₀ : Buf (Elt F) (M.view.loc (c : Thread nD τ))) :
    bigSep Finset.univ (fun q => iprop(∃ f : Buf (Elt F) (M.view.loc (c : Thread nD τ)), rowP (F := F) M fullShare c q f)) ⊢ iprop(∃ f, M.view.loc (c : Thread nD τ) ↦{fullShare} f) :=
  Ring.pointsTo_blocks_join_exists (ℓ := M.view.loc (c : Thread nD τ)) (fun q => (yV M q).view.set) (fun q q' h => row_disj M q q' h) ((rows_cover M).trans hM.set_eq_univ) f₀
/-- or at one content. -/
theorem rows_eq (hM : M.IsWhole) (c : Dev nD) (f : Buf (Elt F) (M.view.loc (c : Thread nD τ))) :
    (M.view.loc (c : Thread nD τ) ↦{fullShare} f : sProp 𝕄) = bigSep Finset.univ (fun q => rowP (F := F) M fullShare c q f) :=
  Ring.pointsTo_blocks (ℓ := M.view.loc (c : Thread nD τ)) (fun q => (yV M q).view.set) (fun q q' h => row_disj M q q' h) ((rows_cover M).trans hM.set_eq_univ) f

/-- Loading a group. -/
theorem load256 (c : Dev nD) (g : Fin 8) {off : Fin 2 → ℕ} {inb : ∀ i, off i + S256x1024.size i ≤ S2048x1024.size i} (h : off = ![256 * g.val, 0])
    {hl : M.view.LoadsAt (Rect.unit (s := S2048x1024) off S256x1024.size inb).toLoadRect}
    (f : Buf (Elt F) ((gV M g).loc (c : Thread nD τ))) (Q : Vec F S256x1024 .bf16 → sProp 𝕄) :
    iprop(grpP M c g f ∗ (grpP M c g f -∗ Q ((gV M g).read (Elt F) f)))
      ⊢ WP c (Prog.lift (.load M (Rect.unit (s := S2048x1024) off S256x1024.size inb).toLoadRect hl)) Q := by
  subst h
  exact load_rect c fullShare f Q

/-- Storing a group. -/
theorem store256 (c : Dev nD) (g : Fin 8) {off : Fin 2 → ℕ} {inb : ∀ i, off i + S256x1024.size i ≤ S2048x1024.size i} (h : off = ![256 * g.val, 0])
    {w : Vec F S256x1024 .bf16} {hx : (M.access (Rect.unit (s := S2048x1024) off S256x1024.size inb)).Stores Finset.univ} {hm}
    (f f' : Buf (Elt F) ((gV M g).loc (c : Thread nD τ))) (hw : w = (gV M g).read (Elt F) f') (Q : PUnit → sProp 𝕄) :
    iprop(grpP M c g f ∗ (grpP M c g f' -∗ Q ⟨⟩))
      ⊢ WP c (Prog.lift (.store M (Rect.unit (s := S2048x1024) off S256x1024.size inb) w Finset.univ hx hm)) Q := by
  subst h
  exact store_rect c f f' hw Q

theorem emb_grp (g : Fin 8) (j : S256x1024.Idx) : (grpR g).emb j = row256 g j := by
  funext a
  fin_cases a
  · apply Fin.ext; show 256 * g.val + 1 * (j 0).val = 256 * g.val + (j 0).val; omega
  · apply Fin.ext; show 0 + 1 * (j 1).val = (j 1).val; omega
theorem blk_grp (g : Fin 8) (j : S256x1024.Idx) : blk256 (row256 g j) = g := by
  have h1 : (j 0).val < 256 := (j 0).isLt
  apply Fin.ext; show (256 * g.val + (j 0).val) / 256 = g.val; omega
theorem in_grp (g : Fin 8) (j : S256x1024.Idx) : in256 (row256 g j) = j := by
  have h1 : (j 0).val < 256 := (j 0).isLt
  funext a
  fin_cases a
  · apply Fin.ext; show (256 * g.val + (j 0).val) % 256 = (j 0).val; omega
  · rfl
theorem read_gx (g : Fin 8) (f : Vec F S2048x1024 .bf16) : (gV xM g).read (Elt F) f = sub f g := funext fun j => congrArg f (emb_grp g j)
theorem read_gp (g : Fin 8) (f : Vec F S2048x1024 .bf16) : (gV pM g).read (Elt F) f = sub f g := funext fun j => congrArg f (emb_grp g j)
/-- A group of a partial product is the two matmuls of that group. -/
theorem sub_part (w : Vec F S1024x2048 .bf16) (z Y : Vec F S2048x1024 .bf16) (g : Fin 8) : sub (part w z Y) g = k0_pay5 (k0_pay1 (sub Y g) w) z := by
  funext j; show part w z Y (row256 g j) = _; unfold part; rw [blk_grp, in_grp]

/-! ## Whole buffers -/

/-- Loading a whole buffer. -/
theorem load_all (c : Dev nD) {s : Shape} {e : EltTy} {M : Memref sig .tc .vmem s e} {r : Rect s} {hl : M.view.LoadsAt r.toLoadRect}
    (sh : PosShare TreeShare) (f : Buf (Elt F) (M.view.loc (c : Thread nD τ))) (Q : (r.shape.Idx → Elt F e) → sProp 𝕄) :
    iprop((M.view.loc (c : Thread nD τ) ↦{sh} f) ∗ ((M.view.loc (c : Thread nD τ) ↦{sh} f) -∗ Q (M.view.readAt (Elt F) r.toLoadRect f)))
      ⊢ WP c (Prog.lift (.load M r.toLoadRect hl)) Q := by
  show _ ⊢ wp frame _ Set.univ (.op _ .ret) _
  iintro ⟨H, HQ⟩
  iapply (wp_load 𝒱₀ (c : Thread nD τ) none Set.univ (m := M) (r := r.toLoadRect) (q := sh) (f := f) (Finset.subset_univ _)) $$ H
  iintro H
  iapply (wp_retI c)
  iapply HQ; iexact H

/-- Storing into a rectangle of a whole buffer. -/
theorem store_all (c : Dev nD) {s : Shape} {e : EltTy} {M : Memref sig .tc .vmem s e} {r : Rect s} {w : r.shape.Idx → Elt F e}
    {hx : (M.access r).Stores Finset.univ} {hm : Finset.univ = (Finset.univ : Finset r.shape.Idx) ∨ ∀ a, r.stride a = 1}
    (f : Buf (Elt F) (M.view.loc (c : Thread nD τ))) (Q : PUnit → sProp 𝕄) :
    iprop((M.view.loc (c : Thread nD τ) ↦{fullShare} f)
        ∗ ((M.view.loc (c : Thread nD τ) ↦{fullShare} ((M.access r).write (Elt F) f w Finset.univ)) -∗ Q ⟨⟩))
      ⊢ WP c (Prog.lift (.store M r w Finset.univ hx hm)) Q := by
  show _ ⊢ wp frame _ Set.univ (.op _ .ret) _
  iintro ⟨H, HQ⟩
  iapply (wp_store 𝒱₀ (c : Thread nD τ) none Set.univ (m := M) (r := r) (f := f) (Finset.subset_univ _)) $$ H
  iintro H
  iapply (wp_retI c)
  iapply HQ; iexact H

end Cert.KernelIdeal.Pf
-- ==== Proof.Step.lean ====
module
public import proofs.«01_k».proof.Proof.Mem

@[expose] public section

set_option maxRecDepth 65536

/-! # The matmul loop of a layer

Each trip waits for the four row blocks of one group, multiplies the group by the layer's two weights, keeps the own block's
product and sends the other three to the devices that own them. -/

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Transfers (dealOf)
open Idealize.ShloMosaic.Shape (pair)

variable {F : FTy → Type} [FloatOps F]

local notation "𝕄" => MT nD τ sig ℕ (Elt F) ℕ UU ℕ

variable (I : Ins F) (K : GSem nD τ sig → ℕ)

/-! ## What a trip holds -/

/-- The array the rows of layer `k`'s input arrive on, and the round of it. -/
abbrev J : ℕ → Fin 6
  | 0 => 1
  | _ => 5
theorem gsem_eq (k : ℕ) (q : Dev nD) (off : Fin 1 → ℕ) (inb : ∀ i, off i + S1.size i ≤ S32.size i) (h : off = ![q.val]) :
    (((gS k).slice (Rect.unit (s := S32) off S1.size inb)).squeeze S_ squeezes_S1_S_).sem = dsem (J k) q := by
  match k with
  | 0 => exact sem_eq 1 q off inb h
  | _ + 1 => exact sem_eq 5 q off inb h
theorem J_round (k : ℕ) (hk : k < 3) : k - 1 < nr (J k).val := by
  match k with
  | 0 => decide
  | k + 1 => show k < 3; omega

/-- The block of each peer before its wait. -/
abbrev stepAcc (k : ℕ) (c q : Dev nD) : sProp 𝕄 :=
  if k = 0 then iprop((∃ f, rrow q c f) ∗ reached ER (dcell q 3 c) 0 ∗ reached ER (dcell c 5 q) 0) else iprop(emp)
abbrev stepToks (k : ℕ) (c q : Dev nD) : sProp 𝕄 :=
  iprop(dutyTok ER (dcell c 2 q) k 0 ∗ reached ER (dcell c 2 q) k ∗ dutyTok ER (dcell q 3 c) k 0)
def stepPre (k : ℕ) (c q : Dev nD) : sProp 𝕄 :=
  iprop((∃ f, prow c q f) ∗ if q = c then iprop(xrow c c (X I k) ∗ ∃ f, rrow c c f)
    else iprop((atPos ER (dcell c (J k) q) (k - 1) ∅ 0 ∗ cred (tallyAt (dcell c (J k) q) (2 + 2 * k) N)) ∗ stepAcc k c q ∗ stepToks k c q))
/-- What else is held of it after, -/
def midR (k : ℕ) (c q : Dev nD) (own : sProp 𝕄) : sProp 𝕄 :=
  if q = c then own
    else iprop((∃ f, rrow q c f) ∗ reached ER (dcell q 3 c) k ∗ reached ER (dcell c 5 q) k ∗ atPos ER (dcell c (J k) q) (k - 1 + 1) ∅ 0 ∗ stepToks k c q)
def mid1 (k : ℕ) (c q : Dev nD) : sProp 𝕄 := iprop(xrow c q (X I k) ∗ (∃ f, prow c q f) ∗ midR k c q iprop(∃ f, rrow c c f))
def mid2 (k : ℕ) (c q : Dev nD) : sProp 𝕄 := iprop(xrow c q (X I k) ∗ prow c q (Pt I k c) ∗ midR k c q iprop(∃ f, rrow c c f))
def mid3 (k : ℕ) (c q : Dev nD) : sProp 𝕄 := iprop(xrow c q (X I k) ∗ prow c q (Pt I k c) ∗ midR k c q (rrow c c (Rb I k c)))
/-- and at the end of the trip. -/
def stepPost (k : ℕ) (c q : Dev nD) : sProp 𝕄 :=
  if q = c then iprop(xrow c c (X I k) ∗ prow c c (Pt I k c) ∗ rrow c c (Rb I k c))
    else iprop(atPos ER (dcell c (J k) q) (k - 1 + 1) ∅ 0 ∗ cred (tallyAt (dcell c 2 q) 0 N) ∗ if k < 2 then iprop(emp) else xrow c q (X I k))

/-! ## Waiting for a block -/

theorem pay_J (k : ℕ) (hk : k < 3) (c q : Dev nD) :
    iprop(pay I c (J k).val q (k - 1) ∗ reached ER (dcell c (J k) q) (k - 1 + 1) ∗ stepAcc k c q)
      ⊢ iprop(xrow c q (X I k) ∗ (∃ f, rrow q c f) ∗ reached ER (dcell q 3 c) k ∗ reached ER (dcell c 5 q) k) := by
  match k, hk with
  | 0, _ =>
    rw [show stepAcc (F := F) 0 c q = iprop((∃ f, rrow q c f) ∗ reached ER (dcell q 3 c) 0 ∗ reached ER (dcell c 5 q) 0) from if_pos rfl]
    rw [show pay I c (J 0).val q (0 - 1) = xrow c q (X I 0) from rfl]
    iintro ⟨HX, -, HR, Ha, Hb⟩
    isplitl [HX]; · iexact HX
    isplitl [HR]; · iexact HR
    isplitl [Ha]; · iexact Ha
    iexact Hb
  | k + 1, hk =>
    rw [show pay I c (J (k + 1)).val q (k + 1 - 1) = iprop(xrow c q (X I (k + 1)) ∗ (∃ f, rrow q c f) ∗ reached ER (dcell q 3 c) (k + 1)) from pay5x I c q k (by omega)]
    iintro ⟨⟨HX, HR, Ha⟩, Hb, -⟩
    isplitl [HX]; · iexact HX
    isplitl [HR]; · iexact HR
    isplitl [Ha]; · iexact Ha
    iexact Hb

/-- One of a trip's four conditional waits. -/
theorem wait_if (k : ℕ) (hk : k < 3) (c q : Dev nD) {P : Prop} [Decidable P] (hP : P ↔ q ≠ c) {O : CellTallies nD τ sig ℕ} (hO : Above (2 + 2 * k) O)
    {sem : P → DmaSem sig} (hs : ∀ h, sem h = dsem (J k) q) {dst : P → Memref sig .tc .vmem S64x1024 .bf16}
    {h1 : aM.view.WordExact} {h2 : ∀ h, (dst h).view.WordExact} (hN : ∀ h, (dst h).view.dmaCredit = N)
    {α : Type} {rest : Prog (TpuEff nD τ sig (Elt F) Λ₀ .tc) α} (Q : α → sProp 𝕄) :
    iprop(recs I K ∗ stepPre I k c q ∗ owesX c O ∗ ((mid1 I k c q ∗ owesX c O) -∗ WP c rest Q))
      ⊢ WP c (if h : P then (Prog.lift (.waitDma2 (sem h) aM (dst h) h1 (h2 h)) >>= fun _ => rest) else rest) Q := by
  by_cases hq : q = c
  · rw [dif_neg (fun h => hP.mp h hq)]
    subst hq
    unfold stepPre mid1 midR; rw [if_pos rfl, if_pos rfl]
    iintro ⟨-, ⟨HP, HX, HR⟩, HO, HQ⟩
    iapply HQ
    isplitr [HO]
    · isplitl [HX]; · iexact HX
      isplitl [HP] <;> iassumption
    iexact HO
  · rw [dif_pos (hP.mpr hq), WP_bind]
    unfold stepPre mid1 midR; rw [if_neg hq, if_neg hq]
    iintro ⟨#HR, ⟨HP, ⟨Hat, Hc⟩, HA, HT⟩, HO, HQ⟩
    iapply (wait_dma I K c q (J k) (k - 1) (2 + 2 * k) hq (J_round k hk) (by omega) hO (hs _) (hN _))
    isplitr; · iexact HR
    isplitl [Hat]; · iexact Hat
    isplitl [Hc]; · iexact Hc
    isplitl [HO]; · iexact HO
    iintro ⟨HO, Hat, Hr, Hp⟩
    ihave ⟨HX, Hrr, Ha, Hb⟩ := (pay_J I k hk c q) $$ [Hp Hr HA]
    · isplitl [Hp]; · iexact Hp
      isplitl [Hr] <;> iassumption
    iapply HQ
    isplitr [HO]
    · isplitl [HX]; · iexact HX
      isplitl [HP]; · iexact HP
      isplitl [Hrr]; · iexact Hrr
      isplitl [Ha]; · iexact Ha
      isplitl [Hb]; · iexact Hb
      isplitl [Hat] <;> iassumption
    iexact HO

/-! ## Sending a block's product -/

/-- What is owed for block `q`. -/
abbrev stepT (k : ℕ) (c q : Dev nD) : CellTallies nD τ sig ℕ := if q = c then 0 else tl (3 + 2 * k) c q

/-- Sending the product's block to the device that owns it. -/
theorem send_part (k : ℕ) (hk : k < 3) (c q : Dev nD) (hq : q ≠ c)
    {src dst : Memref sig .tc .vmem S64x1024 .bf16} {hsc : dst.view.ref.isScScratch = false} {sS sem : DmaSem sig}
    (hS : sS = dsem 2 q) (hR : sem = dsem 3 c) {dev : Dev nD} (hdev : dev = q)
    {h1 : src.view.WordExact} {h2 : dst.view.WordExact} {h3 : DmaTarget.Typed .vmem (.dma sem) (.remote (Dev.tc dev) dst (.dma sS) hsc)}
    (hsrc : src = pV q) (hdst : dst = rV c) (O : CellTallies nD τ sig ℕ) (Q : PUnit → sProp 𝕄) :
    iprop(recs I K ∗ prow c q (Pt I k c) ∗ (∃ f, rrow q c f) ∗ (reached ER (dcell c 5 q) k ∗ (if k < 2 then iprop(∃ f, xrow c q f) else iprop(emp)))
        ∗ dutyTok ER (dcell c 2 q) k 0 ∗ reached ER (dcell c 2 q) k ∗ dutyTok ER (dcell q 3 c) k 0 ∗ reached ER (dcell q 3 c) k
        ∗ owesX c (O + tl (3 + 2 * k) c q) ∗ ((cred (tallyAt (dcell c 2 q) 0 N) ∗ owesX c O) -∗ Q ⟨⟩))
      ⊢ WP c (Prog.lift (.enqueueDma src (.remote (Dev.tc dev) dst (.dma sS) hsc) (.dma sem) h1 h2 h3)) Q := by
  subst hsrc hdst
  refine send_core I K c q 2 3 k (3 + 2 * k) hq (by show k < 3; exact hk) (by show k < 3; exact hk) (tl_rs k c q) (src := pV q) (dst := rV c) hS hR hdev rfl fullShare (Pt I k c)
    iprop(reached ER (dcell c 5 q) k ∗ (if k < 2 then iprop(∃ f, xrow c q f) else iprop(emp))) (Entails.of_eq (pay2 I c q k).symm) ?_ O Q
  intro fd
  rw [pay3, show (pV q).view.read (Elt F) (Pt I k c) = (rV c).view.read (Elt F) (Rb I k q) from by
    rw [read_pV, read_rV]; funext j; exact (gath_row (Pt I k) q c j).symm, land]

/-- One of a trip's four conditional sends. -/
theorem send_if (k : ℕ) (hk : k < 3) (c q : Dev nD) {P : Prop} [Decidable P] (hP : P ↔ q ≠ c) (O : CellTallies nD τ sig ℕ)
    {src dst : P → Memref sig .tc .vmem S64x1024 .bf16} {hsc : ∀ h, (dst h).view.ref.isScScratch = false} {sS sem : P → DmaSem sig}
    (hS : ∀ h, sS h = dsem 2 q) (hR : ∀ h, sem h = dsem 3 c) {dev : P → Dev nD} (hdev : ∀ h, dev h = q)
    {h1 : ∀ h, (src h).view.WordExact} {h2 : ∀ h, (dst h).view.WordExact}
    {h3 : ∀ h, DmaTarget.Typed .vmem (.dma (sem h)) (.remote (Dev.tc (dev h)) (dst h) (.dma (sS h)) (hsc h))}
    (hsrc : ∀ h, src h = pV q) (hdst : ∀ h, dst h = rV c)
    {α : Type} {rest : Prog (TpuEff nD τ sig (Elt F) Λ₀ .tc) α} (Q : α → sProp 𝕄) :
    iprop(recs I K ∗ mid3 I k c q ∗ owesX c (O + stepT k c q) ∗ ((stepPost I k c q ∗ owesX c O) -∗ WP c rest Q))
      ⊢ WP c (if h : P then (Prog.lift (.enqueueDma (src h) (.remote (Dev.tc (dev h)) (dst h) (.dma (sS h)) (hsc h)) (.dma (sem h)) (h1 h) (h2 h) (h3 h)) >>= fun _ => rest)
          else rest) Q := by
  by_cases hq : q = c
  · rw [dif_neg (fun h => hP.mp h hq)]
    subst hq
    unfold mid3 midR stepPost stepT; rw [if_pos rfl, if_pos rfl, if_pos rfl, add_zero]
    iintro ⟨-, HM, HO, HQ⟩
    iapply HQ
    isplitl [HM] <;> iassumption
  · have hp := hP.mpr hq
    rw [dif_pos hp, WP_bind]
    unfold mid3 midR stepPost stepT; rw [if_neg hq, if_neg hq, if_neg hq]
    iintro ⟨#HR, ⟨HX, HP, HRr, Hr3, Hr5, Hat, HT2, Hr2, HT3⟩, HO, HQ⟩
    have hsplit : (xrow c q (X I k) : sProp 𝕄) ⊢ iprop((if k < 2 then iprop(∃ f, xrow c q f) else iprop(emp)) ∗ (if k < 2 then iprop(emp) else xrow c q (X I k))) := by
      split
      · iintro H; isplitl [H]
        · iexists _; iexact H
        · iempintro
      · iintro H; isplitr [H]
        · iempintro
        · iexact H
    ihave ⟨HG, HX⟩ := hsplit $$ HX
    iapply (send_part I K k hk c q hq (hS hp) (hR hp) (hdev hp) (hsrc hp) (hdst hp) O)
    isplitr; · iexact HR
    isplitl [HP]; · iexact HP
    isplitl [HRr]; · iexact HRr
    isplitl [Hr5 HG]; · isplitl [Hr5] <;> iassumption
    isplitl [HT2]; · iexact HT2
    isplitl [Hr2]; · iexact Hr2
    isplitl [HT3]; · iexact HT3
    isplitl [Hr3]; · iexact Hr3
    isplitl [HO]; · iexact HO
    iintro ⟨Hc, HO⟩
    iapply HQ
    isplitr [HO]
    · isplitl [Hat]; · iexact Hat
      isplitl [Hc] <;> iassumption
    iexact HO

/-! ## A group's four blocks -/

theorem bigI {T : Type} [DecidableEq T] {i : T} {S : Finset T} (h : i ∉ S) {Φ : T → sProp 𝕄} : bigSep (insert i S) Φ = iprop(Φ i ∗ bigSep S Φ) := bigSep_insert h
theorem bigD {T : Type} [DecidableEq T] {i : T} {S : Finset T} (h : i ∈ S) {Φ : T → sProp 𝕄} : bigSep S Φ = iprop(Φ i ∗ bigSep (S.erase i) Φ) := bigSep_erase h
theorem bigS2 {T : Type} (S : Finset T) (Φ Ψ : T → sProp 𝕄) : bigSep S (fun i => iprop(Φ i ∗ Ψ i)) = iprop(bigSep S Φ ∗ bigSep S Ψ) := bigSep_sep S Φ Ψ

theorem mem_ne (g : Fin 8) (i j : Fin 4) (h : i ≠ j) : mem g i ≠ mem g j := fun e => h (Fin.ext (by have := congrArg Fin.val e; show i.val = j.val; simp only [mem] at this; omega))
theorem grpS_eq (g : Fin 8) : grpS g = {mem g 0, mem g 1, mem g 2, mem g 3} := by revert g; decide +kernel
theorem grp4 (g : Fin 8) (Φ : Dev nD → sProp 𝕄) : bigSep (grpS g) Φ = iprop(Φ (mem g 0) ∗ Φ (mem g 1) ∗ Φ (mem g 2) ∗ Φ (mem g 3)) := by
  have e (i j : Fin 4) (h : i ≠ j) : mem g i ≠ mem g j := mem_ne g i j h
  rw [grpS_eq, bigI (by simp only [Finset.mem_insert, Finset.mem_singleton, not_or]; exact ⟨e 0 1 (by decide), e 0 2 (by decide), e 0 3 (by decide)⟩),
    bigI (by simp only [Finset.mem_insert, Finset.mem_singleton, not_or]; exact ⟨e 1 2 (by decide), e 1 3 (by decide)⟩),
    bigI (by simp only [Finset.mem_singleton]; exact e 2 3 (by decide)), bigSep_singleton]
theorem sum4 (g : Fin 8) (T : Dev nD → CellTallies nD τ sig ℕ) : ∑ q ∈ grpS g, T q = T (mem g 3) + T (mem g 2) + T (mem g 1) + T (mem g 0) := by
  have e (i j : Fin 4) (h : i ≠ j) : mem g i ≠ mem g j := mem_ne g i j h
  rw [grpS_eq, Finset.sum_insert (by simp only [Finset.mem_insert, Finset.mem_singleton, not_or]; exact ⟨e 0 1 (by decide), e 0 2 (by decide), e 0 3 (by decide)⟩),
    Finset.sum_insert (by simp only [Finset.mem_insert, Finset.mem_singleton, not_or]; exact ⟨e 1 2 (by decide), e 1 3 (by decide)⟩),
    Finset.sum_insert (by simp only [Finset.mem_singleton]; exact e 2 3 (by decide)), Finset.sum_singleton]
  ac_rfl
theorem grp_filter (c : Dev nD) (t : ℕ) (ht : t < 8) : (Finset.univ.filter fun q : Dev nD => grpPos c q = t) = grpS (grp c t) := by
  ext q
  have h1 : q.val < 32 := q.isLt
  have h2 : c.val < 32 := c.isLt
  simp only [Finset.mem_filter, Finset.mem_univ, true_and]
  show (q.val / 4 + 8 - c.val / 4) % 8 = t ↔ q.val / 4 = (c.val / 4 + t) % 8
  omega
theorem grp_lt (c q : Dev nD) : grpPos c q < 8 := Nat.mod_lt _ (by decide)

/-- One member of a separating conjunction changed. -/
theorem bigSep_upd {S : Finset (Dev nD)} {i : Dev nD} (h : i ∈ S) {Φ Ψ : Dev nD → sProp 𝕄} (e : ∀ q ∈ S, q ≠ i → Φ q = Ψ q) :
    bigSep S Φ ⊢ iprop(Φ i ∗ (Ψ i -∗ bigSep S Ψ)) := by
  rw [bigD h (Φ := Φ), bigD h (Φ := Ψ), bigSep_congr (s := S.erase i) fun q hq => e q (Finset.mem_of_mem_erase hq) (Finset.ne_of_mem_erase hq)]
  iintro ⟨H, HS⟩
  isplitl [H]; · iexact H
  iintro H
  isplitl [H] <;> iassumption

/-! ## The weights -/

/-- The staged weights of layer `k`. -/
def wP (k : ℕ) (c : Dev nD) : sProp 𝕄 :=
  match k with
  | 0 => (wM 0).view.loc (c : Thread nD τ) ↦{fullShare} I.w 0 c
  | 1 => (wM 1).view.loc (c : Thread nD τ) ↦{fullShare} I.w 1 c
  | _ => (wM 2).view.loc (c : Thread nD τ) ↦{fullShare} I.w 2 c
def zP (k : ℕ) (c : Dev nD) : sProp 𝕄 :=
  match k with
  | 0 => (zM 0).view.loc (c : Thread nD τ) ↦{fullShare} I.z 0 c
  | 1 => (zM 1).view.loc (c : Thread nD τ) ↦{fullShare} I.z 1 c
  | _ => (zM 2).view.loc (c : Thread nD τ) ↦{fullShare} I.z 2 c

/-- The rectangle that starts at the origin and has the array's extents names every element. -/
theorem unit_origin {n m : ℕ} (inb : ∀ a, (![0, 0] : Fin 2 → ℕ) a + (⟨2, ![n, m]⟩ : Shape).size a ≤ (⟨2, ![n, m]⟩ : Shape).size a) (i : (⟨2, ![n, m]⟩ : Shape).Idx) :
    (Rect.unit (s := ⟨2, ![n, m]⟩) ![0, 0] (⟨2, ![n, m]⟩ : Shape).size inb).emb i = i := by
  funext a
  fin_cases a
  · apply Fin.ext; show 0 + 1 * (i 0).val = (i 0).val; omega
  · apply Fin.ext; show 0 + 1 * (i 1).val = (i 1).val; omega

theorem load_w (k : ℕ) (hk : k < 3) (c : Dev nD) {hl : (wM k).view.LoadsAt (Rect.unit (s := S1024x2048) ![0, 0] S1024x2048.size inb_S1024x2048_S1024x2048_0_0).toLoadRect}
    (Q : Vec F S1024x2048 .bf16 → sProp 𝕄) :
    iprop(wP I k c ∗ (wP I k c -∗ Q (I.w k c)))
      ⊢ WP c (Prog.lift (.load (wM k) (Rect.unit (s := S1024x2048) ![0, 0] S1024x2048.size inb_S1024x2048_S1024x2048_0_0).toLoadRect hl)) Q := by
  have e (f : Vec F S1024x2048 .bf16) : (fun x => f ((Rect.unit (s := S1024x2048) ![0, 0] S1024x2048.size inb_S1024x2048_S1024x2048_0_0).emb x)) = f :=
    funext fun x => congrArg f (unit_origin _ x)
  match k, hk with
  | 0, _ =>
    have h := load_all c (hl := hl) fullShare (I.w 0 c) Q
    rw [show (wM 0).view.readAt (Elt F) (Rect.unit (s := S1024x2048) ![0, 0] S1024x2048.size inb_S1024x2048_S1024x2048_0_0).toLoadRect (I.w 0 c) = I.w 0 c from e _] at h
    exact h
  | 1, _ =>
    have h := load_all c (hl := hl) fullShare (I.w 1 c) Q
    rw [show (wM 1).view.readAt (Elt F) (Rect.unit (s := S1024x2048) ![0, 0] S1024x2048.size inb_S1024x2048_S1024x2048_0_0).toLoadRect (I.w 1 c) = I.w 1 c from e _] at h
    exact h
  | 2, _ =>
    have h := load_all c (hl := hl) fullShare (I.w 2 c) Q
    rw [show (wM 2).view.readAt (Elt F) (Rect.unit (s := S1024x2048) ![0, 0] S1024x2048.size inb_S1024x2048_S1024x2048_0_0).toLoadRect (I.w 2 c) = I.w 2 c from e _] at h
    exact h
theorem load_z (k : ℕ) (hk : k < 3) (c : Dev nD) {hl : (zM k).view.LoadsAt (Rect.unit (s := S2048x1024) ![0, 0] S2048x1024.size inb_S2048x1024_S2048x1024_0_0).toLoadRect}
    (Q : Vec F S2048x1024 .bf16 → sProp 𝕄) :
    iprop(zP I k c ∗ (zP I k c -∗ Q (I.z k c)))
      ⊢ WP c (Prog.lift (.load (zM k) (Rect.unit (s := S2048x1024) ![0, 0] S2048x1024.size inb_S2048x1024_S2048x1024_0_0).toLoadRect hl)) Q := by
  have e (f : Vec F S2048x1024 .bf16) : (fun x => f ((Rect.unit (s := S2048x1024) ![0, 0] S2048x1024.size inb_S2048x1024_S2048x1024_0_0).emb x)) = f :=
    funext fun x => congrArg f (unit_origin _ x)
  match k, hk with
  | 0, _ =>
    have h := load_all c (hl := hl) fullShare (I.z 0 c) Q
    rw [show (zM 0).view.readAt (Elt F) (Rect.unit (s := S2048x1024) ![0, 0] S2048x1024.size inb_S2048x1024_S2048x1024_0_0).toLoadRect (I.z 0 c) = I.z 0 c from e _] at h
    exact h
  | 1, _ =>
    have h := load_all c (hl := hl) fullShare (I.z 1 c) Q
    rw [show (zM 1).view.readAt (Elt F) (Rect.unit (s := S2048x1024) ![0, 0] S2048x1024.size inb_S2048x1024_S2048x1024_0_0).toLoadRect (I.z 1 c) = I.z 1 c from e _] at h
    exact h
  | 2, _ =>
    have h := load_all c (hl := hl) fullShare (I.z 2 c) Q
    rw [show (zM 2).view.readAt (Elt F) (Rect.unit (s := S2048x1024) ![0, 0] S2048x1024.size inb_S2048x1024_S2048x1024_0_0).toLoadRect (I.z 2 c) = I.z 2 c from e _] at h
    exact h

/-! ## A trip -/

theorem bindI {α β : Type} (c : Dev nD) {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := Entails.of_eq (WP_bind c p k Q).symm

theorem mid1_split (k : ℕ) (c : Dev nD) (g : Fin 8) : bigSep (grpS g) (mid1 I k c)
    = iprop(bigSep (grpS g) (fun q => xrow c q (X I k)) ∗ bigSep (grpS g) fun q => iprop((∃ f, prow c q f) ∗ midR k c q iprop(∃ f, rrow c c f))) := by
  unfold mid1; exact bigS2 _ _ _

/-- What a rectangle shows after a store through it. -/
theorem read_back {s : Shape} {e : EltTy} (M : Memref sig .tc .vmem s e) (r : Rect s) (f : M.view.ty.Contents (Elt F)) (w : r.shape.Idx → Elt F e) :
    M.view.readAt (Elt F) r.toLoadRect ((M.access r).write (Elt F) f w Finset.univ) = w := by
  rw [View.readAt_rect]; exact View.read_write_univ _ _

/-- The hidden activations' buffer, at any contents. -/
abbrev hP (c : Dev nD) : sProp 𝕄 := iprop(∃ f : Buf (Elt F) (hM.view.loc (c : Thread nD τ)), hM.view.loc (c : Thread nD τ) ↦{fullShare} f)

set_option maxHeartbeats 4000000 in
/-- The first half of a trip: the four waits and the first matmul. -/
theorem part1_run (k : ℕ) (hk : k < 3) (c : Dev nD) (t : Fin k0_t3_loop.trips) (v2 v3 : BitVec 32) {O : CellTallies nD τ sig ℕ} (hO : Above (2 + 2 * k) O)
    (Q : (Σ' (_ : BitVec 32) (_ : BitVec 32) (_ : BitVec 32), Vec F S256x2048 .bf16) → sProp 𝕄) :
    iprop(recs I K ∗ bigSep (grpS (grp c t.val)) (stepPre I k c) ∗ hP c ∗ wP I k c ∗ owesX c O
        ∗ (∀ v74 : BitVec 32, ∀ v75 : BitVec 32, ∀ v92 : BitVec 32, (bigSep (grpS (grp c t.val)) (mid1 I k c) ∗ hP c ∗ wP I k c ∗ owesX c O)
            -∗ Q ⟨v74, v75, v92, k0_pay1 (sub (X I k) (grp c t.val)) (I.w k c)⟩))
      ⊢ WP c (k0_part1 (F := F) aM aM_whole (wM k) (wM_whole k) (wM 1) (wM_whole 1) (wM 2) (wM_whole 2) (zM k) (zM_whole k) (zM 1) (zM_whole 1) (zM 2) (zM_whole 2) oM oM_whole xM xM_whole hM hM_whole pM pM_whole rM rM_whole cc0_scratch4 (gS k) cc0_scratch6 cc0_scratch7 cc0_scratch8 cc0_scratch9 c v2 v3 0#32 1#32 t) Q := by
  rw [k0_part1_eq_skeleton]; unfold k0_part1_skel
  rw [grp4]
  iintro ⟨#HR, ⟨H0, H1, H2, H3⟩, ⟨%fh, HH⟩, HW, HO, HQ⟩
  iapply (wait_if I K k hk c (mem (grp c t.val) 0) (cond2_eq c t) hO (fun _ => gsem_eq k _ _ _ (off5_eq c t)) (dst := fun h => xM.slice (Rect.unit (s := S2048x1024) (k0_off6 c t) S64x1024.size (k0_off6_inb c t h)) (fun _ => rfl)) (h2 := fun h => xM_whole.wordExact_slice rfl _ (k0_off6_wordsbf16 c t h)) (fun _ => rfl) (h1 := aM_whole.wordExact))
  isplitr; · iexact HR
  isplitl [H0]; · iexact H0
  isplitl [HO]; · iexact HO
  iintro ⟨H0, HO⟩
  iapply (wait_if I K k hk c (mem (grp c t.val) 1) (cond3_eq c t) hO (fun _ => gsem_eq k _ _ _ (off7_eq c t)) (dst := fun h => xM.slice (Rect.unit (s := S2048x1024) (k0_off8 c t) S64x1024.size (k0_off8_inb c t h)) (fun _ => rfl)) (h2 := fun h => xM_whole.wordExact_slice rfl _ (k0_off8_wordsbf16 c t h)) (fun _ => rfl) (h1 := aM_whole.wordExact))
  isplitr; · iexact HR
  isplitl [H1]; · iexact H1
  isplitl [HO]; · iexact HO
  iintro ⟨H1, HO⟩
  iapply (wait_if I K k hk c (mem (grp c t.val) 2) (cond4_eq c t) hO (fun _ => gsem_eq k _ _ _ (off9_eq c t)) (dst := fun h => xM.slice (Rect.unit (s := S2048x1024) (k0_off10 c t) S64x1024.size (k0_off10_inb c t h)) (fun _ => rfl)) (h2 := fun h => xM_whole.wordExact_slice rfl _ (k0_off10_wordsbf16 c t h)) (fun _ => rfl) (h1 := aM_whole.wordExact))
  isplitr; · iexact HR
  isplitl [H2]; · iexact H2
  isplitl [HO]; · iexact HO
  iintro ⟨H2, HO⟩
  iapply (wait_if I K k hk c (mem (grp c t.val) 3) (cond5_eq c t) hO (fun _ => gsem_eq k _ _ _ (off11_eq c t)) (dst := fun h => xM.slice (Rect.unit (s := S2048x1024) (k0_off12 c t) S64x1024.size (k0_off12_inb c t h)) (fun _ => rfl)) (h2 := fun h => xM_whole.wordExact_slice rfl _ (k0_off12_wordsbf16 c t h)) (fun _ => rfl) (h1 := aM_whole.wordExact))
  isplitr; · iexact HR
  isplitl [H3]; · iexact H3
  isplitl [HO]; · iexact HO
  iintro ⟨H3, HO⟩
  ihave HM := (Entails.of_eq (grp4 (grp c t.val) (mid1 I k c)).symm) $$ [H0 H1 H2 H3]
  · isplitl [H0]; · iexact H0
    isplitl [H1]; · iexact H1
    isplitl [H2] <;> iassumption
  ihave ⟨HX, HP⟩ := (Entails.of_eq (mid1_split I k c (grp c t.val))) $$ HM
  ihave HX := (Entails.of_eq (grp_eq xM c (grp c t.val) (X I k))) $$ HX
  iapply (bindI c)
  iapply (load256 xM c (grp c t.val) (off13_eq c t) (X I k))
  isplitl [HX]; · iexact HX
  iintro HX
  iapply (bindI c)
  iapply (load_w I k hk c)
  isplitl [HW]; · iexact HW
  iintro HW
  iapply (bindI c)
  iapply (load_all c fullShare fh)
  isplitl [HH]; · iexact HH
  iintro HH
  iapply (bindI c)
  iapply (store_all c fh)
  isplitl [HH]; · iexact HH
  iintro HH
  iapply (bindI c)
  iapply (load_all c fullShare _)
  isplitl [HH]; · iexact HH
  iintro HH
  rw [read_back, read_gx]
  iapply (wp_retI c)
  iapply HQ
  isplitl [HX HP]
  · iapply (Entails.of_eq (mid1_split I k c (grp c t.val)).symm)
    isplitl [HX]; · iapply (Entails.of_eq (grp_eq xM c (grp c t.val) (X I k)).symm); iexact HX
    iexact HP
  isplitl [HH]; · iexists _; iexact HH
  isplitl [HW] <;> iassumption

theorem mid2_split (k : ℕ) (c : Dev nD) (g : Fin 8) : bigSep (grpS g) (mid2 I k c)
    = iprop(bigSep (grpS g) (fun q => xrow c q (X I k)) ∗ bigSep (grpS g) (fun q => prow c q (Pt I k c)) ∗ bigSep (grpS g) fun q => midR k c q iprop(∃ f, rrow c c f)) := by
  unfold mid2; rw [bigS2, bigS2]

theorem own_read (k : ℕ) (c : Dev nD) : k0_pay6 ((yV pM c).view.read (Elt F) (Pt I k c)) = (yV rM c).view.read (Elt F) (Rb I k c) := by
  unfold k0_pay6
  rw [shapeCast_self]
  rw [show (yV pM c).view.read (Elt F) (Pt I k c) = fun j => Pt I k c (row64 c j) from read_pV c _,
    show (yV rM c).view.read (Elt F) (Rb I k c) = fun j => Rb I k c (row64 c j) from read_rV c _]
  funext j; exact (gath_row (Pt I k) c c j).symm

/-- Keeping the own block's product, in the trip that made it. -/
theorem own_if (k : ℕ) (c : Dev nD) (g : Fin 8) {P : Prop} [Decidable P] (hP : P ↔ g.val = c.val / 4) {off : Fin 2 → ℕ} (hoff : off = ![64 * c.val, 0])
    {inb : P → ∀ i, off i + S64x1024.size i ≤ S2048x1024.size i}
    {hl1 : ∀ h, pM.view.LoadsAt (Rect.unit (s := S2048x1024) off S64x1024.size (inb h)).toLoadRect}
    {hl2 : ∀ h, rM.view.LoadsAt (Rect.unit (s := S2048x1024) off S64x1024.size (inb h)).toLoadRect}
    {hx : ∀ h, (rM.access (Rect.unit (s := S2048x1024) off S64x1024.size (inb h))).Stores Finset.univ}
    {α : Type} {rest : Prog (TpuEff nD τ sig (Elt F) Λ₀ .tc) α} (Q : α → sProp 𝕄) :
    iprop(bigSep (grpS g) (mid2 I k c) ∗ (bigSep (grpS g) (mid3 I k c) -∗ WP c rest Q))
      ⊢ WP c (if h : P then
          (Prog.lift (.load pM (Rect.unit (s := S2048x1024) off S64x1024.size (inb h)).toLoadRect (hl1 h)) >>= fun v136 =>
            Prog.lift (.load rM (Rect.unit (s := S2048x1024) off S64x1024.size (inb h)).toLoadRect (hl2 h)) >>= fun _ =>
              Prog.lift (.store rM (Rect.unit (s := S2048x1024) off S64x1024.size (inb h)) (k0_pay6 v136) Finset.univ (hx h) (.inl rfl)) >>= fun _ => rest)
        else rest) Q := by
  by_cases hp : P
  · have hc : c ∈ grpS g := Finset.mem_filter.mpr ⟨Finset.mem_univ _, (hP.mp hp).symm⟩
    rw [dif_pos hp, WP_bind]
    iintro ⟨HM, HQ⟩
    ihave ⟨HM, HK⟩ := (bigSep_upd hc (Φ := mid2 I k c) (Ψ := mid3 I k c) fun q _ h => by unfold mid2 mid3 midR; rw [if_neg h, if_neg h]) $$ HM
    ihave ⟨HX, HP, %f, HRr⟩ := (Entails.of_eq (show mid2 I k c c = iprop(xrow c c (X I k) ∗ prow c c (Pt I k c) ∗ ∃ f, rrow c c f) from by unfold mid2 midR; rw [if_pos rfl])) $$ HM
    iapply (load64 pM c c hoff fullShare (Pt I k c))
    isplitl [HP]; · iexact HP
    iintro HP
    iapply (bindI c)
    iapply (load64 rM c c hoff fullShare f)
    isplitl [HRr]; · iexact HRr
    iintro HRr
    iapply (bindI c)
    iapply (store64 rM c c hoff f (Rb I k c) (own_read I k c))
    isplitl [HRr]; · iexact HRr
    iintro HRr
    iapply HQ
    iapply HK
    iapply (Entails.of_eq (show mid3 I k c c = iprop(xrow c c (X I k) ∗ prow c c (Pt I k c) ∗ rrow c c (Rb I k c)) from by unfold mid3 midR; rw [if_pos rfl]).symm)
    isplitl [HX]; · iexact HX
    isplitl [HP]; · iexact HP
    iexact HRr
  · have hc : ∀ q ∈ grpS g, mid2 I k c q = mid3 I k c q := fun q hq => by
      have h : q ≠ c := by rintro rfl; exact hp (hP.mpr (Finset.mem_filter.mp hq).2.symm)
      unfold mid2 mid3 midR; rw [if_neg h, if_neg h]
    rw [dif_neg hp, bigSep_congr hc]
    iintro ⟨HM, HQ⟩
    iapply HQ; iexact HM

set_option maxHeartbeats 4000000 in
/-- One trip. -/
theorem t3_trip (k : ℕ) (hk : k < 3) (c : Dev nD) (t : Fin k0_t3_loop.trips) (v2 v3 : BitVec 32) {O : CellTallies nD τ sig ℕ} (hO : Above (2 + 2 * k) O) :
    iprop((recs I K ∗ hP c ∗ wP I k c ∗ zP I k c) ∗ bigSep (grpS (grp c t.val)) (stepPre I k c) ∗ owesX c (O + ∑ q ∈ grpS (grp c t.val), stepT k c q))
      ⊢ WP c (L3 (F := F) k c v2 v3 t ()) fun _ => iprop((recs I K ∗ hP c ∗ wP I k c ∗ zP I k c) ∗ bigSep (grpS (grp c t.val)) (stepPost I k c) ∗ owesX c O) := by
  have hO' : Above (2 + 2 * k) (O + ∑ q ∈ grpS (grp c t.val), stepT k c q) := hO.add (Above.sum _ _ fun q _ => by
    unfold stepT; split
    · exact Above.zero _
    · exact above_tl (by omega) (by omega) c q)
  unfold L3 k0_t3_body
  rw [WP_bind]
  iintro ⟨⟨#HR, HH, HW, HZ⟩, HS, HO⟩
  iapply (part1_run I K k hk c t v2 v3 hO')
  isplitr; · iexact HR
  isplitl [HS]; · iexact HS
  isplitl [HH]; · iexact HH
  isplitl [HW]; · iexact HW
  isplitl [HO]; · iexact HO
  iintro %v74 %v75 %v92 ⟨HM, HH, HW, HO⟩
  ihave ⟨HX, HM⟩ := (Entails.of_eq (mid1_split I k c (grp c t.val))) $$ HM
  ihave ⟨HP, HM⟩ := (Entails.of_eq (bigS2 _ _ _)) $$ HM
  ihave ⟨%fp, HP⟩ := (grp_any pM c (grp c t.val) (Pt I k c)) $$ HP
  iapply (bindI c)
  iapply (load_z I k hk c)
  isplitl [HZ]; · iexact HZ
  iintro HZ
  iapply (bindI c)
  iapply (load256 pM c (grp c t.val) (off13_eq c t) fp)
  isplitl [HP]; · iexact HP
  iintro HP
  iapply (bindI c)
  iapply (store256 pM c (grp c t.val) (off13_eq c t) fp (Pt I k c) ((sub_part (I.w k c) (I.z k c) (X I k) (grp c t.val)).symm.trans (read_gp _ _).symm))
  isplitl [HP]; · iexact HP
  iintro HP
  ihave HP := (Entails.of_eq (grp_eq pM c (grp c t.val) (Pt I k c)).symm) $$ HP
  ihave HM := (Entails.of_eq (mid2_split I k c (grp c t.val)).symm) $$ [HX HP HM]
  · isplitl [HX]; · iexact HX
    isplitl [HP] <;> iassumption
  iapply (own_if I k c (grp c t.val) (cond6_eq c t) (off15_eq c) (inb := fun h => k0_off15_inb c t h) (hl1 := fun _ => View.loadsAt_vmem h_S64x1024) (hl2 := fun _ => View.loadsAt_vmem h_S64x1024)
    (hx := fun h => View.stores_vmem h_S64x1024 (rM_whole.storeExact_slice rfl _ (k0_off15_packedbf16 c t h)) (fun _ => rfl)))
  isplitl [HM]; · iexact HM
  iintro HM
  ihave ⟨H0, H1, H2, H3⟩ := (Entails.of_eq (grp4 (grp c t.val) (mid3 I k c))) $$ HM
  ihave HO := (Entails.of_eq (congrArg (owesX (F := F) c) (show O + ∑ q ∈ grpS (grp c t.val), stepT k c q
    = O + stepT k c (mem (grp c t.val) 3) + stepT k c (mem (grp c t.val) 2) + stepT k c (mem (grp c t.val) 1) + stepT k c (mem (grp c t.val) 0) from by
      rw [sum4]; simp only [add_assoc]))) $$ HO
  iapply (send_if I K k hk c (mem (grp c t.val) 0) (cond7_eq c t) _
    (src := fun h => pM.slice (Rect.unit (s := S2048x1024) (k0_off19 c t) S64x1024.size (k0_off19_inb c t h)) (fun _ => rfl))
    (dst := fun h => rM.slice (Rect.unit (s := S2048x1024) (k0_off18 c) S64x1024.size (k0_off18_inb c t h)) (fun _ => rfl)) (hsc := fun _ => rfl)
    (fun _ => sem_eq 2 _ _ _ (off16_eq c t)) (fun _ => sem_eq 3 _ _ _ (off17_eq c)) (fun _ => dev_eq _ _ _ (dev3_eq c t))
    (h1 := fun h => pM_whole.wordExact_slice rfl _ (k0_off19_wordsbf16 c t h)) (h2 := fun h => rM_whole.wordExact_slice rfl _ (k0_off18_wordsbf16 c t h))
    (h3 := fun _ => ⟨⟨rfl, Or.inl rfl⟩, trivial⟩)
    (fun _ => slice_eq pM _ _ _ (off19_eq c t)) (fun _ => slice_eq rM _ _ _ (off18_eq c)))
  isplitr; · iexact HR
  isplitl [H0]; · iexact H0
  isplitl [HO]; · iexact HO
  iintro ⟨H0, HO⟩
  iapply (send_if I K k hk c (mem (grp c t.val) 1) (cond8_eq c t) _
    (src := fun h => pM.slice (Rect.unit (s := S2048x1024) (k0_off23 c t) S64x1024.size (k0_off23_inb c t h)) (fun _ => rfl))
    (dst := fun h => rM.slice (Rect.unit (s := S2048x1024) (k0_off22 c) S64x1024.size (k0_off22_inb c t h)) (fun _ => rfl)) (hsc := fun _ => rfl)
    (fun _ => sem_eq 2 _ _ _ (off20_eq c t)) (fun _ => sem_eq 3 _ _ _ (off21_eq c)) (fun _ => dev_eq _ _ _ (dev4_eq c t))
    (h1 := fun h => pM_whole.wordExact_slice rfl _ (k0_off23_wordsbf16 c t h)) (h2 := fun h => rM_whole.wordExact_slice rfl _ (k0_off22_wordsbf16 c t h))
    (h3 := fun _ => ⟨⟨rfl, Or.inl rfl⟩, trivial⟩)
    (fun _ => slice_eq pM _ _ _ (off23_eq c t)) (fun _ => slice_eq rM _ _ _ (off22_eq c)))
  isplitr; · iexact HR
  isplitl [H1]; · iexact H1
  isplitl [HO]; · iexact HO
  iintro ⟨H1, HO⟩
  iapply (send_if I K k hk c (mem (grp c t.val) 2) (cond9_eq c t) _
    (src := fun h => pM.slice (Rect.unit (s := S2048x1024) (k0_off27 c t) S64x1024.size (k0_off27_inb c t h)) (fun _ => rfl))
    (dst := fun h => rM.slice (Rect.unit (s := S2048x1024) (k0_off26 c) S64x1024.size (k0_off26_inb c t h)) (fun _ => rfl)) (hsc := fun _ => rfl)
    (fun _ => sem_eq 2 _ _ _ (off24_eq c t)) (fun _ => sem_eq 3 _ _ _ (off25_eq c)) (fun _ => dev_eq _ _ _ (dev5_eq c t))
    (h1 := fun h => pM_whole.wordExact_slice rfl _ (k0_off27_wordsbf16 c t h)) (h2 := fun h => rM_whole.wordExact_slice rfl _ (k0_off26_wordsbf16 c t h))
    (h3 := fun _ => ⟨⟨rfl, Or.inl rfl⟩, trivial⟩)
    (fun _ => slice_eq pM _ _ _ (off27_eq c t)) (fun _ => slice_eq rM _ _ _ (off26_eq c)))
  isplitr; · iexact HR
  isplitl [H2]; · iexact H2
  isplitl [HO]; · iexact HO
  iintro ⟨H2, HO⟩
  iapply (send_if I K k hk c (mem (grp c t.val) 3) (cond10_eq c t) _
    (src := fun h => pM.slice (Rect.unit (s := S2048x1024) (k0_off31 c t) S64x1024.size (k0_off31_inb c t h)) (fun _ => rfl))
    (dst := fun h => rM.slice (Rect.unit (s := S2048x1024) (k0_off30 c) S64x1024.size (k0_off30_inb c t h)) (fun _ => rfl)) (hsc := fun _ => rfl)
    (fun _ => sem_eq 2 _ _ _ (off28_eq c t)) (fun _ => sem_eq 3 _ _ _ (off29_eq c)) (fun _ => dev_eq _ _ _ (dev6_eq c t))
    (h1 := fun h => pM_whole.wordExact_slice rfl _ (k0_off31_wordsbf16 c t h)) (h2 := fun h => rM_whole.wordExact_slice rfl _ (k0_off30_wordsbf16 c t h))
    (h3 := fun _ => ⟨⟨rfl, Or.inl rfl⟩, trivial⟩)
    (fun _ => slice_eq pM _ _ _ (off31_eq c t)) (fun _ => slice_eq rM _ _ _ (off30_eq c)))
  isplitr; · iexact HR
  isplitl [H3]; · iexact H3
  isplitl [HO]; · iexact HO
  iintro ⟨H3, HO⟩
  iapply (wp_retI c)
  isplitl [HH HW HZ]
  · isplitr; · iexact HR
    isplitl [HH]; · iexact HH
    isplitl [HW] <;> iassumption
  isplitr [HO]
  · iapply (Entails.of_eq (grp4 (grp c t.val) (stepPost I k c)).symm)
    isplitl [H0]; · iexact H0
    isplitl [H1]; · iexact H1
    isplitl [H2] <;> iassumption
  iexact HO

set_option maxHeartbeats 400000 in
/-- The loop: what it takes and gives for each device, the own included. -/
theorem t3_run (k : ℕ) (hk : k < 3) (c : Dev nD) (v2 v3 : BitVec 32) {β : Type} (kk : Unit → Prog (TpuEff nD τ sig (Elt F) Λ₀ .tc) β) (Q : β → sProp 𝕄) :
    iprop(recs I K ∗ hP c ∗ wP I k c ∗ zP I k c ∗ bigSep Finset.univ (stepPre I k c) ∗ owesX c (owed (3 + 2 * k) c)
        ∗ ((hP c ∗ wP I k c ∗ zP I k c ∗ bigSep Finset.univ (stepPost I k c) ∗ owesX c (owed (4 + 2 * k) c)) -∗ WP c (kk ⟨⟩) Q))
      ⊢ WP c (Scf.Loop.for k0_t3_loop k0_t3_ok ⟨⟩ (L3 (F := F) k c v2 v3) >>= kk) Q := by
  have hsum : ∑ q ∈ peers c, tl (3 + 2 * k) c q = ∑ q : Dev nD, stepT k c q := by
    rw [← Finset.add_sum_erase Finset.univ (stepT k c) (Finset.mem_univ c), show stepT k c c = 0 from if_pos rfl, zero_add]
    exact Finset.sum_congr rfl fun q hq => (if_neg (Finset.ne_of_mem_erase hq)).symm
  rw [owed_step (3 + 2 * k) (by omega) c, show 3 + 2 * k + 1 = 4 + 2 * k by omega, hsum]
  iintro ⟨#HR, HH, HW, HZ, HS, HO, HQ⟩
  iapply (loop_over (n := 8) (lb := k0_t3_loop.lb) (ub := k0_t3_loop.ub) (st := k0_t3_loop.st) k0_t3_ok trips3 (L3 (F := F) k c v2 v3) c Finset.univ (grpPos c) (fun q _ => grp_lt c q)
    iprop(recs I K ∗ hP c ∗ wP I k c ∗ zP I k c) (stepPre I k c) (stepPost I k c) (stepT k c) (owed (4 + 2 * k) c) (2 + 2 * k) (above_owed (by omega) c)
    (fun q _ => by
      unfold stepT; split
      · exact Above.zero _
      · exact above_tl (by omega) (by omega) c q) ?_ kk Q)
  · intro t O hO
    rw [grp_filter c t.val (lt_of_lt_of_eq t.isLt trips3)]
    have h := t3_trip I K k hk c t v2 v3 hO
    exact h
  isplitl [HH HW HZ]
  · isplitr; · iexact HR
    isplitl [HH]; · iexact HH
    isplitl [HW] <;> iassumption
  isplitl [HS]; · iexact HS
  isplitl [HO]; · iexact HO
  iintro ⟨⟨-, HH, HW, HZ⟩, HS, HO⟩
  iapply HQ
  isplitl [HH]; · iexact HH
  isplitl [HW]; · iexact HW
  isplitl [HZ]; · iexact HZ
  isplitl [HS] <;> iassumption

end Cert.KernelIdeal.Pf
-- ==== Proof.Layer.lean ====
module
public import proofs.«01_k».proof.Proof.Step

@[expose] public section

set_option maxRecDepth 65536

/-! # A layer

The matmul loop, then the waits for the other devices' products and for the own products to have left; then the own finished rows
go to every device. What is held for each other device at the start of a layer, after its products are exchanged, and at the start of
the next layer. -/

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Transfers (dealOf)
open Idealize.ShloMosaic.Shape (pair)

variable {F : FTy → Type} [FloatOps F]

local notation "𝕄" => MT nD τ sig ℕ (Elt F) ℕ UU ℕ

variable (I : Ins F) (K : GSem nD τ sig → ℕ)

/-! ## Per-device rearrangements -/

theorem bigSplit {S : Finset (Dev nD)} {A P R : Dev nD → sProp 𝕄} (h : ∀ q ∈ S, A q ⊢ iprop(P q ∗ R q)) : bigSep S A ⊢ iprop(bigSep S P ∗ bigSep S R) :=
  (bigSep_mono h).trans (Entails.of_eq (bigS2 S P R))
theorem bigJoin {S : Finset (Dev nD)} {A B C : Dev nD → sProp 𝕄} (h : ∀ q ∈ S, iprop(A q ∗ B q) ⊢ C q) : iprop(bigSep S A ∗ bigSep S B) ⊢ bigSep S C :=
  (Entails.of_eq (bigS2 S A B).symm).trans (bigSep_mono h)
theorem bigZip {S : Finset (Dev nD)} {A B P R : Dev nD → sProp 𝕄} (h : ∀ q ∈ S, iprop(A q ∗ B q) ⊢ iprop(P q ∗ R q)) :
    iprop(bigSep S A ∗ bigSep S B) ⊢ iprop(bigSep S P ∗ bigSep S R) := (bigJoin h).trans (Entails.of_eq (bigS2 S P R))
theorem bigOwn (c : Dev nD) (Φ : Dev nD → sProp 𝕄) : bigSep Finset.univ Φ = iprop(Φ c ∗ bigSep (peers c) Φ) := bigD (Finset.mem_univ c)

/-! ## What is held for each other device -/

/-- The places in the cells of arrays 2, 3 and 4 at round `k`. -/
abbrev stq (k : ℕ) (c q : Dev nD) : sProp 𝕄 :=
  iprop(atPos ER (dcell c 2 q) k ∅ 0 ∗ reached ER (dcell c 2 q) k ∗ atPos ER (dcell c 3 q) k ∅ 0 ∗ atPos ER (dcell c 4 q) k ∅ 0 ∗ reached ER (dcell c 4 q) k)
/-- What the sending of layer `k`'s result uses up, and the credit for what arrives. -/
abbrev at4 (k : ℕ) (c q : Dev nD) : sProp 𝕄 :=
  iprop(dutyTok ER (dcell c 4 q) k 0 ∗ dutyTok ER (dcell q 5 c) k 0 ∗ cred (tallyAt (dcell c 5 q) (4 + 2 * k) N))
/-- What layer `k` uses up: the sends' tokens and the receives' credits. -/
abbrev tkq (k : ℕ) (c q : Dev nD) : sProp 𝕄 :=
  iprop(dutyTok ER (dcell c 2 q) k 0 ∗ dutyTok ER (dcell q 3 c) k 0 ∗ cred (tallyAt (dcell c 3 q) (3 + 2 * k) N) ∗ at4 k c q)
/-- The cells the layer's input arrives on. -/
def jnq (k : ℕ) (c q : Dev nD) : sProp 𝕄 :=
  match k with
  | 0 => iprop(atPos ER (dcell c 1 q) 0 ∅ 0 ∗ cred (tallyAt (dcell c 1 q) 2 N) ∗ atPos ER (dcell c 5 q) 0 ∅ 0
      ∗ (∃ f, rrow q c f) ∗ reached ER (dcell q 3 c) 0 ∗ reached ER (dcell c 5 q) 0)
  | k + 1 => iprop(atPos ER (dcell c 1 q) 1 ∅ 0 ∗ atPos ER (dcell c 5 q) k ∅ 0 ∗ cred (tallyAt (dcell c 5 q) (4 + 2 * k) N))
/-- At the start of layer `k`; -/
def lsq (k : ℕ) (c q : Dev nD) : sProp 𝕄 := iprop((∃ f, prow c q f) ∗ stq k c q ∗ jnq k c q)
/-- after its products are exchanged. -/
def msq (k : ℕ) (c q : Dev nD) : sProp 𝕄 :=
  iprop(prow c q (Pt I k c) ∗ (atPos ER (dcell c 2 q) (k + 1) ∅ 0 ∗ reached ER (dcell c 2 q) (k + 1)) ∗ (atPos ER (dcell c 3 q) (k + 1) ∅ 0 ∗ reached ER (dcell c 3 q) (k + 1))
    ∗ reached ER (dcell q 5 c) k ∗ (if k < 2 then iprop(∃ f, xrow q c f) else iprop(emp)) ∗ (if k < 2 then iprop(emp) else xrow c q (X I k))
    ∗ (atPos ER (dcell c 1 q) 1 ∅ 0 ∗ atPos ER (dcell c 5 q) k ∅ 0) ∗ (atPos ER (dcell c 4 q) k ∅ 0 ∗ reached ER (dcell c 4 q) k)
    ∗ at4 k c q)

/-- The cells of the input's other array while it is waited for. -/
def jo (k : ℕ) (c q : Dev nD) : sProp 𝕄 :=
  match k with
  | 0 => atPos ER (dcell c 5 q) 0 ∅ 0
  | _ + 1 => atPos ER (dcell c 1 q) 1 ∅ 0
theorem jn_split (k : ℕ) (c q : Dev nD) : (jnq k c q : sProp 𝕄)
    ⊢ iprop((atPos ER (dcell c (J k) q) (k - 1) ∅ 0 ∗ cred (tallyAt (dcell c (J k) q) (2 + 2 * k) N)) ∗ stepAcc k c q ∗ jo k c q) := by
  match k with
  | 0 =>
    unfold jnq jo stepAcc; rw [if_pos rfl]
    iintro ⟨Ha, Hb, Hc, Hd⟩
    isplitl [Ha Hb]; · isplitl [Ha] <;> iassumption
    isplitl [Hd]; · iexact Hd
    iexact Hc
  | k + 1 =>
    unfold jnq jo stepAcc; rw [if_neg (Nat.succ_ne_zero k), show J (k + 1) = 5 from rfl, show k + 1 - 1 = k from rfl, show 2 + 2 * (k + 1) = 4 + 2 * k by omega]
    iintro ⟨Ha, Hb, Hc⟩
    isplitl [Hb Hc]; · isplitl [Hb] <;> iassumption
    isplitr; · iempintro
    iexact Ha
theorem jn_join (k : ℕ) (c q : Dev nD) : iprop(atPos ER (dcell c (J k) q) (k - 1 + 1) ∅ 0 ∗ jo k c q : sProp 𝕄)
    ⊢ iprop(atPos ER (dcell c 1 q) 1 ∅ 0 ∗ atPos ER (dcell c 5 q) k ∅ 0) := by
  match k with
  | 0 => exact Entails.refl _
  | k + 1 =>
    unfold jo; rw [show J (k + 1) = 5 from rfl, show k + 1 - 1 + 1 = k + 1 from rfl]
    iintro ⟨Ha, Hb⟩
    isplitl [Hb] <;> iassumption

/-- What the loops of a layer leave alone, before its products are exchanged -/
abbrev r1 (k : ℕ) (c q : Dev nD) : sProp 𝕄 :=
  iprop(jo k c q ∗ atPos ER (dcell c 2 q) k ∅ 0 ∗ (atPos ER (dcell c 3 q) k ∅ 0 ∗ cred (tallyAt (dcell c 3 q) (3 + 2 * k) N)) ∗ (atPos ER (dcell c 4 q) k ∅ 0 ∗ reached ER (dcell c 4 q) k)
    ∗ at4 k c q)
abbrev r2 (k : ℕ) (c q : Dev nD) : sProp 𝕄 :=
  iprop((atPos ER (dcell c 1 q) 1 ∅ 0 ∗ atPos ER (dcell c 5 q) k ∅ 0) ∗ (atPos ER (dcell c 2 q) k ∅ 0 ∗ cred (tallyAt (dcell c 2 q) 0 N))
    ∗ (if k < 2 then iprop(emp) else xrow c q (X I k)) ∗ (atPos ER (dcell c 4 q) k ∅ 0 ∗ reached ER (dcell c 4 q) k)
    ∗ at4 k c q)
abbrev r3 (k : ℕ) (c q : Dev nD) : sProp 𝕄 :=
  iprop((atPos ER (dcell c 1 q) 1 ∅ 0 ∗ atPos ER (dcell c 5 q) k ∅ 0)
    ∗ (if k < 2 then iprop(emp) else xrow c q (X I k)) ∗ (atPos ER (dcell c 4 q) k ∅ 0 ∗ reached ER (dcell c 4 q) k)
    ∗ at4 k c q
    ∗ (atPos ER (dcell c 3 q) (k + 1) ∅ 0 ∗ reached ER (dcell c 3 q) (k + 1)) ∗ pay I c (3 : Fin 6).val q k)

theorem re1 (k : ℕ) (c q : Dev nD) (hq : q ≠ c) : iprop(lsq k c q ∗ tkq k c q) ⊢ iprop(stepPre I k c q ∗ r1 k c q) := by
  unfold lsq stepPre; rw [if_neg hq]
  iintro ⟨⟨HP, ⟨H2, H2r, H3, H4⟩, HJ⟩, T2, T3, C3, HT⟩
  ihave ⟨HJ, HA, HO⟩ := (jn_split k c q) $$ HJ
  isplitl [HP HJ HA T2 H2r T3]
  · isplitl [HP]; · iexact HP
    isplitl [HJ]; · iexact HJ
    isplitl [HA]; · iexact HA
    isplitl [T2]; · iexact T2
    isplitl [H2r] <;> iassumption
  isplitl [HO]; · iexact HO
  isplitl [H2]; · iexact H2
  isplitl [H3 C3]; · isplitl [H3] <;> iassumption
  isplitl [H4] <;> iassumption
theorem re2 (k : ℕ) (c q : Dev nD) (hq : q ≠ c) : iprop(stepPost I k c q ∗ r1 k c q)
    ⊢ iprop((atPos ER (dcell c 3 q) k ∅ 0 ∗ cred (tallyAt (dcell c 3 q) (3 + 2 * k) N)) ∗ r2 I k c q) := by
  unfold stepPost; rw [if_neg hq]
  iintro ⟨⟨HJ, C2, HX⟩, HO, H2, H3, H4, HT⟩
  ihave HJ := (jn_join k c q) $$ [HJ HO]
  · isplitl [HJ] <;> iassumption
  isplitl [H3]; · iexact H3
  isplitl [HJ]; · iexact HJ
  isplitl [H2 C2]; · isplitl [H2] <;> iassumption
  isplitl [HX]; · iexact HX
  isplitl [H4] <;> iassumption
theorem re3 (k : ℕ) (c q : Dev nD) : iprop((atPos ER (dcell c 3 q) (k + 1) ∅ 0 ∗ reached ER (dcell c 3 q) (k + 1) ∗ pay I c (3 : Fin 6).val q k) ∗ r2 I k c q)
    ⊢ iprop((atPos ER (dcell c 2 q) k ∅ 0 ∗ cred (tallyAt (dcell c 2 q) 0 N)) ∗ r3 I k c q) := by
  iintro ⟨⟨H3, R3, HP⟩, HJ, H2, HX, H4, HT⟩
  isplitl [H2]; · iexact H2
  isplitl [HJ]; · iexact HJ
  isplitl [HX]; · iexact HX
  isplitl [H4]; · iexact H4
  isplitl [HT]; · iexact HT
  isplitr [HP]; · isplitl [H3] <;> iassumption
  iexact HP
theorem re4 (k : ℕ) (c q : Dev nD) : iprop((atPos ER (dcell c 2 q) (k + 1) ∅ 0 ∗ reached ER (dcell c 2 q) (k + 1) ∗ pay I c (2 : Fin 6).val q k) ∗ r3 I k c q)
    ⊢ iprop(rrow c q (Rb I k c) ∗ msq I k c q) := by
  rw [pay2]
  unfold r3; rw [pay3]
  unfold msq
  iintro ⟨⟨H2, R2, HP⟩, HJ, HX, H4, HT, H3, HR, R5, HY⟩
  isplitl [HR]; · iexact HR
  isplitl [HP]; · iexact HP
  isplitl [H2 R2]; · isplitl [H2] <;> iassumption
  isplitl [H3]; · iexact H3
  isplitl [R5]; · iexact R5
  isplitl [HY]; · iexact HY
  isplitl [HX]; · iexact HX
  isplitl [HJ]; · iexact HJ
  isplitl [H4] <;> iassumption

theorem ownPre (k : ℕ) (c : Dev nD) : iprop(xrow c c (X I k) ∗ (∃ f, prow c c f) ∗ ∃ f, rrow c c f) ⊢ stepPre I k c c := by
  unfold stepPre; rw [if_pos rfl]
  iintro ⟨HX, HP, HR⟩
  isplitl [HP]; · iexact HP
  isplitl [HX] <;> iassumption
theorem ownPost (k : ℕ) (c : Dev nD) : stepPost I k c c ⊢ iprop(xrow c c (X I k) ∗ prow c c (Pt I k c) ∗ rrow c c (Rb I k c)) := by
  unfold stepPost; rw [if_pos rfl]

/-- Loading all that was collected. -/
theorem load_r (c : Dev nD) (f : Vec F S2048x1024 .bf16) {hl : rM.view.LoadsAt (Rect.unit (s := S2048x1024) ![0, 0] S2048x1024.size inb_S2048x1024_S2048x1024_0_0).toLoadRect}
    (Q : Vec F S2048x1024 .bf16 → sProp 𝕄) :
    iprop((rM.view.loc (c : Thread nD τ) ↦{fullShare} f) ∗ ((rM.view.loc (c : Thread nD τ) ↦{fullShare} f) -∗ Q f))
      ⊢ WP c (Prog.lift (.load rM (Rect.unit (s := S2048x1024) ![0, 0] S2048x1024.size inb_S2048x1024_S2048x1024_0_0).toLoadRect hl)) Q := by
  have h := load_all c (hl := hl) fullShare f Q
  rw [show rM.view.readAt (Elt F) (Rect.unit (s := S2048x1024) ![0, 0] S2048x1024.size inb_S2048x1024_S2048x1024_0_0).toLoadRect f = f from
    funext fun x => congrArg f (unit_origin _ x)] at h
  exact h

/-! ## The layer -/

/-- A layer up to its collected products being loaded. -/
theorem lay_run (k : ℕ) (hk : k < 3) (c : Dev nD) (v2 v3 : BitVec 32) {hl : rM.view.LoadsAt (Rect.unit (s := S2048x1024) ![0, 0] S2048x1024.size inb_S2048x1024_S2048x1024_0_0).toLoadRect}
    {β : Type} (kk : Vec F S2048x1024 .bf16 → Prog (TpuEff nD τ sig (Elt F) Λ₀ .tc) β) (Q : β → sProp 𝕄) :
    iprop(recs I K ∗ hP c ∗ wP I k c ∗ zP I k c ∗ (xrow c c (X I k) ∗ (∃ f, prow c c f) ∗ ∃ f, rrow c c f) ∗ (bigSep (peers c) fun q => iprop(lsq k c q ∗ tkq k c q)) ∗ owesX c (owed (3 + 2 * k) c)
        ∗ ((hP c ∗ wP I k c ∗ zP I k c ∗ xrow c c (X I k) ∗ prow c c (Pt I k c) ∗ bigSep Finset.univ (fun q => rrow c q (Rb I k c)) ∗ bigSep (peers c) (msq I k c)
          ∗ owesX c (owed (4 + 2 * k) c)) -∗ WP c (kk (Rb I k c)) Q))
      ⊢ WP c (Scf.Loop.for k0_t3_loop k0_t3_ok ⟨⟩ (L3 (F := F) k c v2 v3) >>= fun _ =>
          Scf.Loop.for k0_t4_loop k0_t4_ok ⟨⟩ (L4 (F := F) c) >>= fun _ =>
          Scf.Loop.for k0_t5_loop k0_t5_ok ⟨⟩ (L5 (F := F) c) >>= fun _ =>
          Prog.lift (.load rM (Rect.unit (s := S2048x1024) ![0, 0] S2048x1024.size inb_S2048x1024_S2048x1024_0_0).toLoadRect hl) >>= kk) Q := by
  iintro ⟨#HR, HH, HW, HZ, ⟨HX, HP, HRr⟩, HS, HO, HQ⟩
  ihave ⟨HS, H1⟩ := (bigSplit fun q hq => re1 I k c q (Finset.ne_of_mem_erase hq)) $$ HS
  iapply (t3_run I K k hk c v2 v3)
  isplitr; · iexact HR
  isplitl [HH]; · iexact HH
  isplitl [HW]; · iexact HW
  isplitl [HZ]; · iexact HZ
  isplitl [HX HP HRr HS]
  · iapply (Entails.of_eq (bigOwn c (stepPre I k c)).symm)
    isplitl [HX HP HRr]; · iapply (ownPre I k c); isplitl [HX]; · iexact HX
                           isplitl [HP] <;> iassumption
    iexact HS
  isplitl [HO]; · iexact HO
  iintro ⟨HH, HW, HZ, HS, HO⟩
  ihave ⟨HC, HS⟩ := (Entails.of_eq (bigOwn c (stepPost I k c))) $$ HS
  ihave ⟨HX, HP, HRr⟩ := (ownPost I k c) $$ HC
  ihave ⟨HS, H1⟩ := (bigZip fun q hq => re2 I k c q (Finset.ne_of_mem_erase hq)) $$ [HS H1]
  · isplitl [HS] <;> iassumption
  iapply (t4_run I K k hk c)
  isplitr; · iexact HR
  isplitl [HS]; · iexact HS
  isplitl [HO]; · iexact HO
  iintro ⟨HS, HO⟩
  ihave ⟨HS, H1⟩ := (bigZip fun q _ => re3 I k c q) $$ [HS H1]
  · isplitl [HS] <;> iassumption
  iapply (t5_run I K k hk (owed (4 + 2 * k) c) (above_owed (by omega) c) c)
  isplitr; · iexact HR
  isplitl [HS]; · iexact HS
  isplitl [HO]; · iexact HO
  iintro ⟨HS, HO⟩
  ihave ⟨HS, H1⟩ := (bigZip fun q _ => re4 I k c q) $$ [HS H1]
  · isplitl [HS] <;> iassumption
  ihave HS := (Entails.of_eq (bigOwn c (fun q => rrow c q (Rb I k c))).symm) $$ [HS HRr]
  · isplitl [HRr] <;> iassumption
  ihave HS := (Entails.of_eq (rows_eq rM rM_whole c (Rb I k c)).symm) $$ HS
  iapply (bindI c)
  iapply (load_r c (Rb I k c))
  isplitl [HS]; · iexact HS
  iintro HS
  iapply HQ
  isplitl [HH]; · iexact HH
  isplitl [HW]; · iexact HW
  isplitl [HZ]; · iexact HZ
  isplitl [HX]; · iexact HX
  isplitl [HP]; · iexact HP
  isplitl [HS]; · iapply (Entails.of_eq (rows_eq rM rM_whole c (Rb I k c))) $$ HS
  isplitl [H1] <;> iassumption

/-! ## The own rows -/

/-- Storing the own rows of `g`. -/
theorem put_row (M : Memref sig .tc .vmem S2048x1024 .bf16) (c : Dev nD) (g : Buf (Elt F) ((yV M c).view.loc (c : Thread nD τ))) {w : Vec F S64x1024 .bf16}
    (hw : w = (yV M c).view.read (Elt F) g) {hl} {hx : (M.access (Rect.unit (s := S2048x1024) (k0_off1 c) S64x1024.size (k0_off1_inb c))).Stores Finset.univ} {hm}
    {β : Type} (kk : PUnit → Prog (TpuEff nD τ sig (Elt F) Λ₀ .tc) β) (Q : β → sProp 𝕄) :
    iprop((∃ f, rowP M fullShare c c f) ∗ (rowP M fullShare c c g -∗ WP c (kk ⟨⟩) Q))
      ⊢ WP c (Prog.lift (.load M (Rect.unit (s := S2048x1024) (k0_off1 c) S64x1024.size (k0_off1_inb c)).toLoadRect hl) >>= fun _ =>
          Prog.lift (.store M (Rect.unit (s := S2048x1024) (k0_off1 c) S64x1024.size (k0_off1_inb c)) w Finset.univ hx hm) >>= kk) Q := by
  iintro ⟨⟨%f, H⟩, HQ⟩
  iapply (bindI c)
  iapply (load64 M c c (off1_eq c) fullShare f)
  isplitl [H]; · iexact H
  iintro H
  iapply (bindI c)
  iapply (store64 M c c (off1_eq c) f g hw)
  isplitl [H]; · iexact H
  iexact HQ

theorem cat_read (f : Dev nD → Vec F S64x1024 .bf16) (q : Dev nD) : (fun j => cat f (row64 q j)) = f q := funext fun j => cat_row f q j
theorem pay4_id (v : Vec F S64x1024 .bf16) : k0_pay4 v = v := by unfold k0_pay4; exact (shapeCast_self _ _).trans (shapeCast_self _ _)
theorem pay12_id (v : Vec F S64x1024 .bf16) : k0_pay12 v = v := by unfold k0_pay12; exact shapeCast_self _ _
theorem pay8_7 (v : Vec F S2048x1024 .bf16) : k0_pay8 (k0_pay7 v) = k0_pay11 v := by unfold k0_pay8 k0_pay7 k0_pay11; exact shapeCast_self _ _
theorem pay15_11 (v : Vec F S2048x1024 .bf16) : k0_pay15 v = k0_pay11 v := by unfold k0_pay15 k0_pay11; rfl
theorem read_x0 (c : Dev nD) : k0_pay4 (I.x c) = (yV xM c).view.read (Elt F) (X I 0) := by
  rw [pay4_id]
  refine ((read_xV c (X I 0)).trans ?_).symm
  exact cat_read I.x c
theorem read_x1 (k : ℕ) (c : Dev nD) : k0_pay11 (Rb I k c) = (yV xM c).view.read (Elt F) (X I (k + 1)) := by
  refine ((read_xV c (X I (k + 1))).trans ?_).symm
  rw [X_succ]; exact cat_read _ c
theorem read_o1 (k : ℕ) (c : Dev nD) : k0_pay11 (Rb I k c) = (yV oM c).view.read (Elt F) (X I (k + 1)) := read_x1 I k c

/-- What the sending of layer `k`'s result leaves alone, -/
abbrev r6 (k : ℕ) (c q : Dev nD) : sProp 𝕄 :=
  iprop(prow c q (Pt I k c) ∗ (atPos ER (dcell c 2 q) (k + 1) ∅ 0 ∗ reached ER (dcell c 2 q) (k + 1)) ∗ atPos ER (dcell c 3 q) (k + 1) ∅ 0
    ∗ (atPos ER (dcell c 1 q) 1 ∅ 0 ∗ atPos ER (dcell c 5 q) k ∅ 0) ∗ cred (tallyAt (dcell c 5 q) (4 + 2 * k) N))
/-- and what it takes to a peer. -/
abbrev gx (k : ℕ) (c q : Dev nD) : sProp 𝕄 := iprop((∃ f, rrow c q f) ∗ reached ER (dcell c 3 q) (k + 1))
abbrev s6 (M : Memref sig .tc .vmem S2048x1024 .bf16) (k : ℕ) (c q : Dev nD) (fs : Buf (Elt F) ((yV M c).view.loc (c : Thread nD τ))) (G : Dev nD → sProp 𝕄) : sProp 𝕄 :=
  iprop(((yV M c).view.loc (c : Thread nD τ) ↦[(yV M c).view.set]{shr c q} fs)
    ∗ (∃ fd : Buf (Elt F) ((yV M c).view.loc (q : Thread nD τ)), (yV M c).view.loc (q : Thread nD τ) ↦[(yV M c).view.set]{fullShare} fd) ∗ G q
    ∗ dutyTok ER (dcell c 4 q) k 0 ∗ reached ER (dcell c 4 q) k ∗ dutyTok ER (dcell q 5 c) k 0 ∗ reached ER (dcell q 5 c) k)

theorem re6 (k : ℕ) (hk : k < 2) (c q : Dev nD) : iprop(xrowS (shr c q) c c (X I (k + 1)) ∗ rrow c q (Rb I k c) ∗ msq I k c q)
    ⊢ iprop(s6 xM k c q (X I (k + 1)) (gx k c) ∗ atPos ER (dcell c 4 q) k ∅ 0 ∗ r6 I k c q) := by
  unfold msq; rw [if_pos hk]
  iintro ⟨HS, HR, HP, H2, ⟨H3, R3⟩, R5, HX, -, HJ, ⟨H4, R4⟩, T4, T5, C5⟩
  isplitl [HS HR R3 R5 HX R4 T4 T5]
  · isplitl [HS]; · iexact HS
    isplitl [HX]; · iexact HX
    isplitl [HR R3]
    · isplitl [HR]; · iexists Rb I k c; iexact HR
      iexact R3
    isplitl [T4]; · iexact T4
    isplitl [R4]; · iexact R4
    isplitl [T5] <;> iassumption
  isplitl [H4]; · iexact H4
  isplitl [HP]; · iexact HP
  isplitl [H2]; · iexact H2
  isplitl [H3]; · iexact H3
  isplitl [HJ] <;> iassumption
theorem re7 (k : ℕ) (c q : Dev nD) : iprop(cred (tallyAt (dcell c 4 q) 0 N) ∗ atPos ER (dcell c 4 q) k ∅ 0 ∗ r6 I k c q)
    ⊢ iprop((atPos ER (dcell c 4 q) k ∅ 0 ∗ cred (tallyAt (dcell c 4 q) 0 N)) ∗ r6 I k c q) := by
  iintro ⟨HC, H4, HR⟩
  isplitl [HC H4]; · isplitl [H4] <;> iassumption
  iexact HR
theorem re8 (k : ℕ) (hk : k < 2) (c q : Dev nD) : iprop((atPos ER (dcell c 4 q) (k + 1) ∅ 0 ∗ reached ER (dcell c 4 q) (k + 1) ∗ pay I c (4 : Fin 6).val q k) ∗ r6 I k c q)
    ⊢ iprop(xrowS (shr c q) c c (X I (k + 1)) ∗ lsq (k + 1) c q) := by
  rw [pay4x I c q k hk]
  unfold lsq jnq
  iintro ⟨⟨H4, R4, HS⟩, HP, ⟨H2, R2⟩, H3, ⟨HJ, H5⟩, C5⟩
  isplitl [HS]; · iexact HS
  isplitl [HP]; · iexists Pt I k c; iexact HP
  isplitl [H2 R2 H3 H4 R4]
  · isplitl [H2]; · iexact H2
    isplitl [R2]; · iexact R2
    isplitl [H3]; · iexact H3
    isplitl [H4] <;> iassumption
  isplitl [HJ]; · iexact HJ
  isplitl [H5] <;> iassumption

theorem peers_ne (c : Dev nD) : (peers c).Nonempty := Finset.card_pos.mp (by rw [card_peers]; decide)
/-- The own rows, as one share for each peer. -/
theorem deal_x (c : Dev nD) (f : Vec F S2048x1024 .bf16) : (xrow c c f : sProp 𝕄) = bigSep (peers c) fun q => xrowS (shr c q) c c f :=
  Transfers.pointsTo_deal (peers c) (peers_ne c) fullShare
theorem deal_o (c : Dev nD) (f : Vec F S2048x1024 .bf16) : (orow c c f : sProp 𝕄) = bigSep (peers c) fun q => orowS (shr c q) c c f :=
  Transfers.pointsTo_deal (peers c) (peers_ne c) fullShare
theorem deal_a (c : Dev nD) (f : Vec F S64x1024 .bf16) : (ablk fullShare c f : sProp 𝕄) = bigSep (peers c) fun q => ablk (shr c q) c f :=
  Transfers.pointsTo_deal (peers c) (peers_ne c) fullShare

theorem hp5x (k : ℕ) (hk : k < 2) (c q : Dev nD) (fd : Vec F S2048x1024 .bf16) :
    iprop(((yV xM c).view.loc (q : Thread nD τ) ↦[(yV xM c).view.set]{fullShare} ((yV xM c).view.write (Elt F) fd ((yV xM c).view.read (Elt F) (X I (k + 1))) Finset.univ)) ∗ gx k c q)
      ⊢ pay I q (5 : Fin 6).val c k := by
  rw [pay5x I q c k hk, land]
theorem hp5o (c q : Dev nD) (fd : Vec F S2048x1024 .bf16) :
    iprop(((yV oM c).view.loc (q : Thread nD τ) ↦[(yV oM c).view.set]{fullShare} ((yV oM c).view.write (Elt F) fd ((yV oM c).view.read (Elt F) (X I 3)) Finset.univ)) ∗ emp)
      ⊢ pay I q (5 : Fin 6).val c 2 := by
  rw [pay5o I q c, land]
  iintro ⟨H, -⟩; iexact H

/-- Sending the own rows of the next layer's input, up to the next layer. -/
theorem agx_run (k : ℕ) (hk : k < 2) (c : Dev nD) (v2 v3 : BitVec 32) (v : FVec F S2048x1024 .f32) {β : Type} (kk : Unit → Prog (TpuEff nD τ sig (Elt F) Λ₀ .tc) β) (Q : β → sProp 𝕄) :
    iprop(recs I K ∗ xrow c c (X I (k + 1)) ∗ bigSep Finset.univ (fun q => rrow c q (Rb I k c)) ∗ bigSep (peers c) (msq I k c) ∗ owesX c (owed (4 + 2 * k) c)
        ∗ ((xrow c c (X I (k + 1)) ∗ (∃ f, rrow c c f) ∗ bigSep (peers c) (lsq (k + 1) c) ∗ owesX c (owed (3 + 2 * (k + 1)) c)) -∗ WP c (kk ⟨⟩) Q))
      ⊢ WP c (Scf.Loop.for k0_t6_loop k0_t6_ok ⟨⟩ (L6 (F := F) xM xM_whole c v2 v3 v) >>= fun _ =>
          Scf.Loop.for k0_t7_loop k0_t7_ok ⟨⟩ (L7 (F := F) xM xM_whole c v2 v3 v) >>= kk) Q := by
  iintro ⟨#HR, HX, HRr, HM, HO, HQ⟩
  ihave ⟨HC, HRr⟩ := (Entails.of_eq (bigOwn c (fun q => rrow c q (Rb I k c)))) $$ HRr
  ihave HX := (Entails.of_eq (deal_x c (X I (k + 1)))) $$ HX
  ihave HM := (Entails.of_eq (bigS2 (peers c) (fun q => rrow c q (Rb I k c)) (msq I k c)).symm) $$ [HRr HM]
  · isplitl [HRr] <;> iassumption
  ihave ⟨HS, HM⟩ := (bigZip fun q _ => re6 I k hk c q) $$ [HX HM]
  · isplitl [HX] <;> iassumption
  iapply (t6_run I K c k (by omega) xM xM_whole rfl (X I (k + 1)) (gx k c) (fun q => Entails.of_eq (pay4x I c q k hk).symm) (fun q fd => hp5x I k hk c q fd) v2 v3 v)
  isplitr; · iexact HR
  isplitl [HS]; · iexact HS
  isplitl [HO]; · iexact HO
  iintro ⟨HS, HO⟩
  ihave ⟨HS, HM⟩ := (bigZip fun q _ => re7 I k c q) $$ [HS HM]
  · isplitl [HS] <;> iassumption
  iapply (t7_run I K c k (by omega) (owed (5 + 2 * k) c) (above_owed (by omega) c) xM xM_whole (fun _ _ _ => rfl) v2 v3 v)
  isplitr; · iexact HR
  isplitl [HS]; · iexact HS
  isplitl [HO]; · iexact HO
  iintro ⟨HS, HO⟩
  ihave ⟨HX, HM⟩ := (bigZip fun q _ => re8 I k hk c q) $$ [HS HM]
  · isplitl [HS] <;> iassumption
  iapply HQ
  isplitl [HX]; · iapply (Entails.of_eq (deal_x c (X I (k + 1))).symm) $$ HX
  isplitl [HC]; · iexists Rb I k c; iexact HC
  isplitl [HM]; · iexact HM
  iapply (Entails.of_eq (congrArg (fun j => owesX (F := F) c (owed j c)) (show 5 + 2 * k = 3 + 2 * (k + 1) by omega))) $$ HO

/-! ## The end -/

/-- What is held for each other device at the very end. -/
abbrev esq (c q : Dev nD) : sProp 𝕄 :=
  iprop(prow c q (Pt I 2 c) ∗ xrow c q (X I 2) ∗ orow c q (X I 3) ∗ ablk (shr c q) c (I.x c)
    ∗ atPos ER (dcell c 0 q) 1 ∅ 0 ∗ atPos ER (dcell c 1 q) 1 ∅ 0 ∗ atPos ER (dcell c 2 q) 3 ∅ 0 ∗ atPos ER (dcell c 3 q) 3 ∅ 0 ∗ atPos ER (dcell c 4 q) 3 ∅ 0 ∗ atPos ER (dcell c 5 q) 3 ∅ 0)
/-- The places and credits of the input's sends. -/
abbrev iq (c q : Dev nD) : sProp 𝕄 := iprop(atPos ER (dcell c 0 q) 0 ∅ 0 ∗ cred (tallyAt (dcell c 0 q) 0 N))
abbrev g6 (c q : Dev nD) : sProp 𝕄 :=
  iprop(iq c q ∗ prow c q (Pt I 2 c) ∗ xrow c q (X I 2) ∗ atPos ER (dcell c 1 q) 1 ∅ 0 ∗ atPos ER (dcell c 2 q) 3 ∅ 0 ∗ atPos ER (dcell c 3 q) 3 ∅ 0
    ∗ atPos ER (dcell c 5 q) 2 ∅ 0 ∗ cred (tallyAt (dcell c 5 q) 8 N))
abbrev g8 (c q : Dev nD) : sProp 𝕄 :=
  iprop(iq c q ∗ prow c q (Pt I 2 c) ∗ xrow c q (X I 2) ∗ atPos ER (dcell c 1 q) 1 ∅ 0 ∗ atPos ER (dcell c 2 q) 3 ∅ 0 ∗ atPos ER (dcell c 3 q) 3 ∅ 0
    ∗ orowS (shr c q) c c (X I 3) ∗ atPos ER (dcell c 4 q) 3 ∅ 0)
abbrev g9 (c q : Dev nD) : sProp 𝕄 :=
  iprop(prow c q (Pt I 2 c) ∗ xrow c q (X I 2) ∗ atPos ER (dcell c 1 q) 1 ∅ 0 ∗ atPos ER (dcell c 2 q) 3 ∅ 0 ∗ atPos ER (dcell c 3 q) 3 ∅ 0
    ∗ orowS (shr c q) c c (X I 3) ∗ atPos ER (dcell c 4 q) 3 ∅ 0 ∗ orow c q (X I 3) ∗ atPos ER (dcell c 5 q) 3 ∅ 0)

theorem ge6 (c q : Dev nD) : iprop(orowS (shr c q) c c (X I 3) ∗ (iq c q ∗ ∃ f, orow q c f) ∗ msq I 2 c q)
    ⊢ iprop(s6 oM 2 c q (X I 3) (fun _ => iprop(emp)) ∗ atPos ER (dcell c 4 q) 2 ∅ 0 ∗ g6 I c q) := by
  unfold msq; rw [if_neg (Nat.lt_irrefl 2), if_neg (Nat.lt_irrefl 2)]
  iintro ⟨HS, ⟨HI, HX⟩, HP, ⟨H2, -⟩, ⟨H3, -⟩, R5, -, HY, ⟨H1, H5⟩, ⟨H4, R4⟩, T4, T5, C5⟩
  isplitl [HS R5 HX R4 T4 T5]
  · isplitl [HS]; · iexact HS
    isplitl [HX]; · iexact HX
    isplitr; · iempintro
    isplitl [T4]; · iexact T4
    isplitl [R4]; · iexact R4
    isplitl [T5] <;> iassumption
  isplitl [H4]; · iexact H4
  isplitl [HI]; · iexact HI
  isplitl [HP]; · iexact HP
  isplitl [HY]; · iexact HY
  isplitl [H1]; · iexact H1
  isplitl [H2]; · iexact H2
  isplitl [H3]; · iexact H3
  isplitl [H5] <;> iassumption
theorem ge7 (c q : Dev nD) : iprop(cred (tallyAt (dcell c 4 q) 0 N) ∗ atPos ER (dcell c 4 q) 2 ∅ 0 ∗ g6 I c q)
    ⊢ iprop((atPos ER (dcell c 4 q) 2 ∅ 0 ∗ cred (tallyAt (dcell c 4 q) 0 N)) ∗ g6 I c q) := by
  iintro ⟨HC, H4, HR⟩
  isplitl [HC H4]; · isplitl [H4] <;> iassumption
  iexact HR
theorem ge8 (c q : Dev nD) : iprop((atPos ER (dcell c 4 q) (2 + 1) ∅ 0 ∗ reached ER (dcell c 4 q) (2 + 1) ∗ pay I c (4 : Fin 6).val q 2) ∗ g6 I c q)
    ⊢ iprop((atPos ER (dcell c 5 q) 2 ∅ 0 ∗ cred (tallyAt (dcell c 5 q) 8 N)) ∗ g8 I c q) := by
  rw [pay4o]
  iintro ⟨⟨H4, -, HS⟩, HI, HP, HY, H1, H2, H3, H5⟩
  isplitl [H5]; · iexact H5
  isplitl [HI]; · iexact HI
  isplitl [HP]; · iexact HP
  isplitl [HY]; · iexact HY
  isplitl [H1]; · iexact H1
  isplitl [H2]; · iexact H2
  isplitl [H3]; · iexact H3
  isplitl [HS] <;> iassumption
theorem ge9 (c q : Dev nD) : iprop((atPos ER (dcell c 5 q) (2 + 1) ∅ 0 ∗ reached ER (dcell c 5 q) (2 + 1) ∗ pay I c (5 : Fin 6).val q 2) ∗ g8 I c q)
    ⊢ iprop((atPos ER (dcell c 0 q) 0 ∅ 0 ∗ cred (tallyAt (dcell c 0 q) 0 N)) ∗ g9 I c q) := by
  rw [pay5o]
  iintro ⟨⟨H5, -, HT⟩, HI, HP, HY, H1, H2, H3, HS, H4⟩
  isplitl [HI]; · iexact HI
  isplitl [HP]; · iexact HP
  isplitl [HY]; · iexact HY
  isplitl [H1]; · iexact H1
  isplitl [H2]; · iexact H2
  isplitl [H3]; · iexact H3
  isplitl [HS]; · iexact HS
  isplitl [H4]; · iexact H4
  isplitl [HT] <;> iassumption
theorem ge10 (c q : Dev nD) : iprop((atPos ER (dcell c 0 q) (0 + 1) ∅ 0 ∗ reached ER (dcell c 0 q) (0 + 1) ∗ pay I c (0 : Fin 6).val q 0) ∗ g9 I c q)
    ⊢ iprop(orowS (shr c q) c c (X I 3) ∗ esq I c q) := by
  rw [pay0]
  iintro ⟨⟨H0, -, HA⟩, HP, HY, H1, H2, H3, HS, H4, HT, H5⟩
  isplitl [HS]; · iexact HS
  isplitl [HP]; · iexact HP
  isplitl [HY]; · iexact HY
  isplitl [HT]; · iexact HT
  isplitl [HA]; · iexact HA
  isplitl [H0]; · iexact H0
  isplitl [H1]; · iexact H1
  isplitl [H2]; · iexact H2
  isplitl [H3]; · iexact H3
  isplitl [H4] <;> iassumption

/-- Sending the own rows of the result, and the last waits. -/
theorem ago_run (c : Dev nD) (v2 v3 : BitVec 32) (v : FVec F S2048x1024 .f32) {β : Type} (kk : Unit → Prog (TpuEff nD τ sig (Elt F) Λ₀ .tc) β) (Q : β → sProp 𝕄) :
    iprop(recs I K ∗ orow c c (X I 3) ∗ bigSep (peers c) (fun q => iprop(iq c q ∗ ∃ f, orow q c f)) ∗ bigSep (peers c) (msq I 2 c) ∗ owesX c (owed 8 c)
        ∗ ((orow c c (X I 3) ∗ bigSep (peers c) (esq I c) ∗ owesX c (owed 9 c)) -∗ WP c (kk ⟨⟩) Q))
      ⊢ WP c (Scf.Loop.for k0_t6_loop k0_t6_ok ⟨⟩ (L6 (F := F) oM oM_whole c v2 v3 v) >>= fun _ =>
          Scf.Loop.for k0_t7_loop k0_t7_ok ⟨⟩ (L7 (F := F) oM oM_whole c v2 v3 v) >>= fun _ =>
          Scf.Loop.for k0_t18_loop k0_t18_ok ⟨⟩ (L18 (F := F) c) >>= fun _ =>
          Scf.Loop.for k0_t19_loop k0_t19_ok ⟨⟩ (L19 (F := F) c) >>= kk) Q := by
  iintro ⟨#HR, HX, HI, HM, HO, HQ⟩
  ihave HX := (Entails.of_eq (deal_o c (X I 3))) $$ HX
  ihave HM := (Entails.of_eq (bigS2 (peers c) (fun q => iprop(iq c q ∗ ∃ f, orow q c f)) (msq I 2 c)).symm) $$ [HI HM]
  · isplitl [HI] <;> iassumption
  ihave ⟨HS, HM⟩ := (bigZip fun q _ => ge6 I c q) $$ [HX HM]
  · isplitl [HX] <;> iassumption
  iapply (t6_run I K c 2 (by omega) oM oM_whole rfl (X I 3) (fun _ => iprop(emp)) (fun q => Entails.of_eq (pay4o I c q).symm) (fun q fd => hp5o I c q fd) v2 v3 v)
  isplitr; · iexact HR
  isplitl [HS]; · iexact HS
  isplitl [HO]; · iexact HO
  iintro ⟨HS, HO⟩
  ihave ⟨HS, HM⟩ := (bigZip fun q _ => ge7 I c q) $$ [HS HM]
  · isplitl [HS] <;> iassumption
  iapply (t7_run I K c 2 (by omega) (owed 9 c) (above_owed (by omega) c) oM oM_whole (fun _ _ _ => rfl) v2 v3 v)
  isplitr; · iexact HR
  isplitl [HS]; · iexact HS
  isplitl [HO]; · iexact HO
  iintro ⟨HS, HO⟩
  ihave ⟨HS, HM⟩ := (bigZip fun q _ => ge8 I c q) $$ [HS HM]
  · isplitl [HS] <;> iassumption
  iapply (t18_run I K c)
  isplitr; · iexact HR
  isplitl [HS]; · iexact HS
  isplitl [HO]; · iexact HO
  iintro ⟨HS, HO⟩
  ihave ⟨HS, HM⟩ := (bigZip fun q _ => ge9 I c q) $$ [HS HM]
  · isplitl [HS] <;> iassumption
  iapply (t19_run I K c)
  isplitr; · iexact HR
  isplitl [HS]; · iexact HS
  isplitl [HO]; · iexact HO
  iintro ⟨HS, HO⟩
  ihave ⟨HX, HM⟩ := (bigZip fun q _ => ge10 I c q) $$ [HS HM]
  · isplitl [HS] <;> iassumption
  iapply HQ
  isplitl [HX]; · iapply (Entails.of_eq (deal_o c (X I 3)).symm) $$ HX
  isplitl [HM] <;> iassumption

end Cert.KernelIdeal.Pf
-- ==== Proof.Run.lean ====
module
public import proofs.«01_k».proof.Proof.Layer

@[expose] public section

set_option maxRecDepth 65536

/-! # The whole kernel on one device

The barrier, the broadcast of the own input block, three layers with the exchange of the finished rows between them, and the broadcast
of the result; at the end every semaphore is given back at zero. -/

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Transfers (dealOf)
open Idealize.ShloMosaic.Shape (pair)

variable {F : FTy → Type} [FloatOps F]

local notation "𝕄" => MT nD τ sig ℕ (Elt F) ℕ UU ℕ

variable (I : Ins F) (K : GSem nD τ sig → ℕ)

/-- A cell's place at the start. -/
abbrev op (c : Dev nD) (a : Fin 6) (q : Dev nD) : sProp 𝕄 := iprop(atPos ER (dcell c a q) 0 ∅ 0 ∗ reached ER (dcell c a q) 0)
abbrev ops (c q : Dev nD) : sProp 𝕄 := iprop(op c 0 q ∗ op c 1 q ∗ op c 2 q ∗ op c 3 q ∗ op c 4 q ∗ op c 5 q)
/-- The tokens of the barrier, of the input broadcast, and of the two later layers. -/
abbrev tkb (c q : Dev nD) : sProp 𝕄 := iprop(dutyTok ER (bcell q) 0 c ∗ reached ER (bcell q) 0)
abbrev tki (c q : Dev nD) : sProp 𝕄 := iprop(dutyTok ER (dcell c 0 q) 0 0 ∗ dutyTok ER (dcell q 1 c) 0 0 ∗ cred (tallyAt (dcell c 1 q) 2 N))
abbrev tkr (c q : Dev nD) : sProp 𝕄 := iprop(tkq 1 c q ∗ tkq 2 c q)
abbrev tkAll (c q : Dev nD) : sProp 𝕄 := iprop(tkb c q ∗ tki c q ∗ tkq 0 c q ∗ tkr c q)
/-- The rows a device lends to its peers. -/
abbrev xro (c q : Dev nD) : sProp 𝕄 := iprop((∃ f, xrow c q f) ∗ (∃ f, rrow c q f) ∗ ∃ f, orow c q f)
abbrev q1 (c q : Dev nD) : sProp 𝕄 := iprop((∃ f, prow c q f) ∗ ops c q ∗ tki c q ∗ tkq 0 c q ∗ tkr c q)
abbrev q2 (c q : Dev nD) : sProp 𝕄 := iprop((lsq 0 c q ∗ tkq 0 c q) ∗ tkr c q ∗ atPos ER (dcell c 0 q) 0 ∅ 0 ∗ ∃ f, orow q c f)
abbrev io (c q : Dev nD) : sProp 𝕄 := iprop(iq c q ∗ ∃ f, orow q c f)

theorem e1 (c q : Dev nD) : (iprop(xro c q ∗ (∃ f, prow c q f) ∗ ops c q ∗ tkAll c q) : sProp 𝕄)
    ⊢ iprop((barPay q c ∗ dutyTok ER (bcell q) 0 c ∗ reached ER (bcell q) 0) ∗ q1 c q) := by
  unfold barPay
  iintro ⟨⟨Hx, Hr, Ho⟩, HP, ⟨H0, ⟨H1, #R1⟩, H2, ⟨H3, #R3⟩, H4, ⟨H5, #R5⟩⟩, ⟨Hb, #Rb⟩, Hi, Hk, Hl⟩
  isplitl [Hx Hr Ho Hb]
  · isplitl [Hx Hr Ho]
    · isplitl [Hx]; · iexact Hx
      isplitl [Hr]; · iexact Hr
      isplitl [Ho]; · iexact Ho
      isplitr; · iexact R1
      isplitr; · iexact R3
      iexact R5
    · isplitl [Hb]; · iexact Hb
      iexact Rb
  · isplitl [HP]; · iexact HP
    isplitl [H0 H1 H2 H3 H4 H5]
    · isplitl [H0]; · iexact H0
      isplitl [H1]
      · isplitl [H1]; · iexact H1
        iexact R1
      isplitl [H2]; · iexact H2
      isplitl [H3]
      · isplitl [H3]; · iexact H3
        iexact R3
      isplitl [H4]; · iexact H4
      isplitl [H5]; · iexact H5
      iexact R5
    isplitl [Hi]; · iexact Hi
    isplitl [Hk]; · iexact Hk
    iexact Hl

theorem e2 (c q : Dev nD) : (iprop(ablk (shr c q) c (I.x c) ∗ barPay c q ∗ q1 c q) : sProp 𝕄)
    ⊢ iprop((ablk (shr c q) c (I.x c) ∗ (∃ f, xrow q c f)
          ∗ dutyTok ER (dcell c 0 q) 0 0 ∗ reached ER (dcell c 0 q) 0 ∗ dutyTok ER (dcell q 1 c) 0 0 ∗ reached ER (dcell q 1 c) 0) ∗ q2 c q) := by
  unfold barPay q2 lsq jnq
  iintro ⟨Ha, ⟨Hx, Hr, Ho, #B1, #B3, #B5⟩, HP, ⟨⟨H0, #R0⟩, ⟨H1, #R1⟩, ⟨H2, #R2⟩, ⟨H3, #R3⟩, ⟨H4, #R4⟩, ⟨H5, #R5⟩⟩, ⟨Ht0, Ht1, Hc⟩, Hk, Hl⟩
  isplitl [Ha Hx Ht0 Ht1]
  · isplitl [Ha]; · iexact Ha
    isplitl [Hx]; · iexact Hx
    isplitl [Ht0]; · iexact Ht0
    isplitr; · iexact R0
    isplitl [Ht1]; · iexact Ht1
    iexact B1
  · isplitl [HP H1 H2 H3 H4 H5 Hr Hc Hk]
    · isplitl [HP H1 H2 H3 H4 H5 Hr Hc]
      · isplitl [HP]; · iexact HP
        isplitl [H2 H3 H4]
        · isplitl [H2]; · iexact H2
          isplitr; · iexact R2
          isplitl [H3]; · iexact H3
          isplitl [H4]; · iexact H4
          iexact R4
        · isplitl [H1]; · iexact H1
          isplitl [Hc]; · iexact Hc
          isplitl [H5]; · iexact H5
          isplitl [Hr]; · iexact Hr
          isplitr; · iexact B3
          iexact R5
      · iexact Hk
    · isplitl [Hl]; · iexact Hl
      isplitl [H0]; · iexact H0
      iexact Ho

theorem e3 (c q : Dev nD) : (iprop(cred (tallyAt (dcell c 0 q) 0 N) ∗ q2 c q) : sProp 𝕄)
    ⊢ iprop((lsq 0 c q ∗ tkq 0 c q) ∗ io c q ∗ tkr c q) := by
  unfold io iq
  iintro ⟨Hc, HS, Hl, H0, Ho⟩
  isplitl [HS]; · iexact HS
  isplitl [Hc H0 Ho]
  · isplitl [Hc H0]
    · isplitl [H0]; · iexact H0
      iexact Hc
    · iexact Ho
  · iexact Hl

theorem someRow (M : Memref sig .tc .vmem S2048x1024 .bf16) (c q : Dev nD) (f : Buf (Elt F) (M.view.loc (c : Thread nD τ))) :
    (rowP (F := F) M fullShare c q f : sProp 𝕄) ⊢ iprop(∃ f : Buf (Elt F) (M.view.loc (c : Thread nD τ)), rowP (F := F) M fullShare c q f) := by
  iintro H; iexists f; iexact H

theorem someRows (M : Memref sig .tc .vmem S2048x1024 .bf16) (c : Dev nD) (f : Buf (Elt F) (M.view.loc (c : Thread nD τ))) :
    (bigSep Finset.univ fun q => rowP (F := F) M fullShare c q f : sProp 𝕄) ⊢ bigSep Finset.univ fun q => iprop(∃ f : Buf (Elt F) (M.view.loc (c : Thread nD τ)), rowP (F := F) M fullShare c q f) :=
  bigSep_mono fun q _ => someRow M c q f

/-- A whole buffer as the own block and the peers' blocks. -/
theorem rowsP (M : Memref sig .tc .vmem S2048x1024 .bf16) (hM : M.IsWhole) (c : Dev nD) : (iprop(∃ f : Buf (Elt F) (M.view.loc (c : Thread nD τ)), M.view.loc (c : Thread nD τ) ↦{fullShare} f) : sProp 𝕄)
    ⊢ iprop((∃ f : Buf (Elt F) (M.view.loc (c : Thread nD τ)), rowP (F := F) M fullShare c c f) ∗ bigSep (peers c) fun q => iprop(∃ f : Buf (Elt F) (M.view.loc (c : Thread nD τ)), rowP (F := F) M fullShare c q f)) := by
  iintro ⟨%f, H⟩
  ihave H := (Entails.of_eq (rows_eq M hM c f)) $$ H
  ihave H := (someRows M c f) $$ H
  ihave H := (Entails.of_eq (bigOwn c _)) $$ H
  iexact H

/-- What is held after layer `k`. -/
abbrev MS (k : ℕ) (c : Dev nD) : sProp 𝕄 :=
  iprop(xrow c c (X I k) ∗ prow c c (Pt I k c) ∗ bigSep Finset.univ (fun q => rrow c q (Rb I k c)) ∗ bigSep (peers c) (msq I k c) ∗ owesX c (owed (4 + 2 * k) c))

/-- Loading the own input block. -/
theorem load_a (c : Dev nD) (f : Vec F S64x1024 .bf16) {hl : aM.view.LoadsAt (Rect.unit (s := S64x1024) ![0, 0] S64x1024.size inb_S64x1024_S64x1024_0_0).toLoadRect}
    (Q : Vec F S64x1024 .bf16 → sProp 𝕄) :
    iprop((aM.view.loc (c : Thread nD τ) ↦{fullShare} f) ∗ ((aM.view.loc (c : Thread nD τ) ↦{fullShare} f) -∗ Q f))
      ⊢ WP c (Prog.lift (.load aM (Rect.unit (s := S64x1024) ![0, 0] S64x1024.size inb_S64x1024_S64x1024_0_0).toLoadRect hl)) Q := by
  have h := load_all c (hl := hl) fullShare f Q
  rw [show aM.view.readAt (Elt F) (Rect.unit (s := S64x1024) ![0, 0] S64x1024.size inb_S64x1024_S64x1024_0_0).toLoadRect f = f from
    funext fun x => congrArg f (unit_origin _ x)] at h
  exact h

theorem a_whole (c : Dev nD) (f : Vec F S64x1024 .bf16) : (ablk fullShare c f : sProp 𝕄) = (aM.view.loc (c : Thread nD τ) ↦{fullShare} f) := by
  unfold ablk; rw [aM_whole.set_eq_univ]

/-- The middle layers' step: the finished rows go round, then the next layer. -/
theorem nxt_run (k : ℕ) (hk : k < 2) (c : Dev nD) (v2 v3 : BitVec 32) (v : FVec F S2048x1024 .f32) {w : Vec F S64x1024 .bf16} (hw : w = k0_pay11 (Rb I k c))
    {hl hx hm} {hl' : rM.view.LoadsAt (Rect.unit (s := S2048x1024) ![0, 0] S2048x1024.size inb_S2048x1024_S2048x1024_0_0).toLoadRect}
    {β : Type} (kk : Vec F S2048x1024 .bf16 → Prog (TpuEff nD τ sig (Elt F) Λ₀ .tc) β) (Q : β → sProp 𝕄) :
    iprop(recs I K ∗ hP c ∗ wP I (k + 1) c ∗ zP I (k + 1) c ∗ MS I k c ∗ bigSep (peers c) (tkq (k + 1) c)
        ∗ ((hP c ∗ wP I (k + 1) c ∗ zP I (k + 1) c ∗ MS I (k + 1) c) -∗ WP c (kk (Rb I (k + 1) c)) Q))
      ⊢ WP c (Prog.lift (.load xM (Rect.unit (s := S2048x1024) (k0_off1 c) S64x1024.size (k0_off1_inb c)).toLoadRect hl) >>= fun _ =>
          Prog.lift (.store xM (Rect.unit (s := S2048x1024) (k0_off1 c) S64x1024.size (k0_off1_inb c)) w Finset.univ hx hm) >>= fun _ =>
          Scf.Loop.for k0_t6_loop k0_t6_ok ⟨⟩ (L6 (F := F) xM xM_whole c v2 v3 v) >>= fun _ =>
          Scf.Loop.for k0_t7_loop k0_t7_ok ⟨⟩ (L7 (F := F) xM xM_whole c v2 v3 v) >>= fun _ =>
          Scf.Loop.for k0_t3_loop k0_t3_ok ⟨⟩ (L3 (F := F) (k + 1) c v2 v3) >>= fun _ =>
          Scf.Loop.for k0_t4_loop k0_t4_ok ⟨⟩ (L4 (F := F) c) >>= fun _ =>
          Scf.Loop.for k0_t5_loop k0_t5_ok ⟨⟩ (L5 (F := F) c) >>= fun _ =>
          Prog.lift (.load rM (Rect.unit (s := S2048x1024) ![0, 0] S2048x1024.size inb_S2048x1024_S2048x1024_0_0).toLoadRect hl') >>= kk) Q := by
  iintro ⟨#HR, HH, HW, HZ, ⟨HX, HP, HRr, HM, HO⟩, HT, HQ⟩
  iapply (put_row xM c (X I (k + 1)) (hw.trans (read_x1 I k c)))
  isplitl [HX]
  · iexists _; iexact HX
  iintro HX
  iapply (agx_run I K k hk c v2 v3 v)
  isplitr; · iexact HR
  isplitl [HX]; · iexact HX
  isplitl [HRr]; · iexact HRr
  isplitl [HM]; · iexact HM
  isplitl [HO]; · iexact HO
  iintro ⟨HX, HRr, HS, HO⟩
  iapply (lay_run I K (k + 1) (by omega) c v2 v3)
  isplitr; · iexact HR
  isplitl [HH]; · iexact HH
  isplitl [HW]; · iexact HW
  isplitl [HZ]; · iexact HZ
  isplitl [HX HP HRr]
  · isplitl [HX]; · iexact HX
    isplitl [HP]
    · iexists _; iexact HP
    · iexact HRr
  isplitl [HS HT]
  · iapply (Entails.of_eq (bigS2 (peers c) (lsq (k + 1) c) (tkq (k + 1) c)).symm)
    isplitl [HS] <;> iassumption
  isplitl [HO]; · iexact HO
  iintro ⟨HH, HW, HZ, HM⟩
  iapply HQ
  isplitl [HH]; · iexact HH
  isplitl [HW]; · iexact HW
  isplitl [HZ]; · iexact HZ
  iexact HM

abbrev P4 := k0_part4 (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9
abbrev P5 (c : Dev nD) (v2 v3 : BitVec 32) (v : FVec F S2048x1024 .f32) := k0_part5 (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c v2 v3 v
abbrev P6 (c : Dev nD) (v2 v3 : BitVec 32) (v : FVec F S64x1024 .bf16) (u : BitVec 32) := k0_part6 (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9 c v2 v3 v u
abbrev B0 := cc0_body (F := F) aM aM_whole (wM 0) (wM_whole 0) (wM 1) (wM_whole 1) (wM 2) (wM_whole 2) (zM 0) (zM_whole 0) (zM 1) (zM_whole 1) (zM 2) (zM_whole 2) oM oM_whole xM xM_whole hM hM_whole pM pM_whole rM rM_whole cc0_scratch4 cc0_scratch5 cc0_scratch6 cc0_scratch7 cc0_scratch8 cc0_scratch9

/-- What the barrier, the broadcast and the first layer leave for later. -/
abbrev Lat (c : Dev nD) : sProp 𝕄 :=
  iprop(atPos ER (bcell c) 1 ∅ 0 ∗ (∃ f, orow c c f) ∗ ops c c ∗ bigSep (peers c) (io c) ∗ bigSep (peers c) (tkr c))

set_option maxHeartbeats 1600000 in
/-- The first part: the barrier, the broadcast of the own input block and the first layer. -/
theorem part4_run (c : Dev nD) (Q : (Σ' (_ : Dev nD) (_ : BitVec 32) (_ : BitVec 32), FVec F S2048x1024 .f32) → sProp 𝕄) :
    iprop(recs I K ∗ (aM.view.loc (c : Thread nD τ) ↦{fullShare} I.x c) ∗ hP c ∗ wP I 0 c ∗ zP I 0 c
        ∗ (∃ f : Buf (Elt F) (xM.view.loc (c : Thread nD τ)), xM.view.loc (c : Thread nD τ) ↦{fullShare} f) ∗ (∃ f : Buf (Elt F) (pM.view.loc (c : Thread nD τ)), pM.view.loc (c : Thread nD τ) ↦{fullShare} f)
        ∗ (∃ f : Buf (Elt F) (rM.view.loc (c : Thread nD τ)), rM.view.loc (c : Thread nD τ) ↦{fullShare} f) ∗ (∃ f : Buf (Elt F) (oM.view.loc (c : Thread nD τ)), oM.view.loc (c : Thread nD τ) ↦{fullShare} f)
        ∗ cred (tallyAt (bcell c) 1 31) ∗ atPos ER (bcell c) 0 ∅ 0 ∗ bigSep Finset.univ (ops c) ∗ bigSep (peers c) (tkAll c) ∗ owesX c (owed 1 c)
        ∗ (∀ v2 v3, (hP c ∗ wP I 0 c ∗ zP I 0 c ∗ MS I 0 c ∗ Lat c) -∗ Q ⟨c, v2, v3, k0_pay7 (Rb I 0 c)⟩))
      ⊢ WP c P4 Q := by
  unfold P4
  rw [k0_part4_eq_skeleton]; unfold k0_part4_skel
  refine BIBase.Entails.trans ?_ (le_of_eq (wp_deviceId ..).symm)
  iintro ⟨#HR, HA, HH, HW, HZ, HX, HP, HRr, HO', Hcr, Hat, HC, HT, HO, HQ⟩
  ihave ⟨Hx, HX⟩ := (rowsP xM xM_whole c) $$ HX
  ihave ⟨Hp, HP⟩ := (rowsP pM pM_whole c) $$ HP
  ihave ⟨Hr, HRr⟩ := (rowsP rM rM_whole c) $$ HRr
  ihave ⟨Ho, HO'⟩ := (rowsP oM oM_whole c) $$ HO'
  ihave ⟨Hc, HC⟩ := (Entails.of_eq (bigOwn c _)) $$ HC
  ihave HX := (Entails.of_eq ((bigS2 (peers c) _ _).trans (congrArg _ (bigS2 (peers c) _ _))).symm) $$ [HX HRr HO']
  · isplitl [HX]; · iexact HX
    isplitl [HRr]; · iexact HRr
    iexact HO'
  ihave HP := (Entails.of_eq ((bigS2 (peers c) _ _).trans (congrArg _ (bigS2 (peers c) _ _))).symm) $$ [HP HC HT]
  · isplitl [HP]; · iexact HP
    isplitl [HC]; · iexact HC
    iexact HT
  ihave ⟨HB, HP⟩ := (bigZip fun q _ => e1 c q) $$ [HX HP]
  · isplitl [HX]; · iexact HX
    iexact HP
  iapply (t1_run I K c)
  isplitr; · iexact HR
  isplitl [HB]; · iexact HB
  isplitl [HO]; · iexact HO
  iintro HO
  iapply (bindI c)
  iapply (bar_wait I K c)
  isplitr; · iexact HR
  isplitl [Hcr]; · iexact Hcr
  isplitl [HO]; · iexact HO
  isplitl [Hat]; · iexact Hat
  iintro ⟨HO, Hat, HB⟩
  iapply (bindI c)
  iapply (load_a c (I.x c))
  isplitl [HA]; · iexact HA
  iintro HA
  iapply (put_row xM c (X I 0) (read_x0 I c))
  isplitl [Hx]; · iexact Hx
  iintro Hx
  ihave HA := (Entails.of_eq ((a_whole c (I.x c)).symm.trans (deal_a c (I.x c)))) $$ HA
  ihave HB := (Entails.of_eq (bigS2 (peers c) _ _).symm) $$ [HB HP]
  · isplitl [HB]; · iexact HB
    iexact HP
  ihave ⟨HS, HP⟩ := (bigZip fun q _ => e2 I c q) $$ [HA HB]
  · isplitl [HA]; · iexact HA
    iexact HB
  iapply (t2_run I K c)
  isplitr; · iexact HR
  isplitl [HS]; · iexact HS
  isplitl [HO]; · iexact HO
  iintro ⟨HS, HO⟩
  ihave ⟨HS, HP⟩ := (bigZip fun q _ => e3 c q) $$ [HS HP]
  · isplitl [HS]; · iexact HS
    iexact HP
  ihave ⟨HI, HT⟩ := (Entails.of_eq (bigS2 (peers c) _ _)) $$ HP
  iapply (lay_run I K 0 (by decide) c _ _)
  isplitr; · iexact HR
  isplitl [HH]; · iexact HH
  isplitl [HW]; · iexact HW
  isplitl [HZ]; · iexact HZ
  isplitl [Hx Hp Hr]
  · isplitl [Hx]; · iexact Hx
    isplitl [Hp]; · iexact Hp
    iexact Hr
  isplitl [HS]; · iexact HS
  isplitl [HO]; · iexact HO
  iintro ⟨HH, HW, HZ, HM⟩
  iapply (wp_retI c)
  iapply HQ
  isplitl [HH]; · iexact HH
  isplitl [HW]; · iexact HW
  isplitl [HZ]; · iexact HZ
  isplitl [HM]; · iexact HM
  isplitl [Hat]; · iexact Hat
  isplitl [Ho]; · iexact Ho
  isplitl [Hc]; · iexact Hc
  isplitl [HI]; · iexact HI
  iexact HT

/-- The second part: the second layer. -/
theorem part5_run (c : Dev nD) (v2 v3 : BitVec 32) (Q : (Σ' (_ : FVec F S64x1024 .bf16), BitVec 32) → sProp 𝕄) :
    iprop(recs I K ∗ hP c ∗ wP I 1 c ∗ zP I 1 c ∗ MS I 0 c ∗ bigSep (peers c) (tkq 1 c)
        ∗ (∀ u, (hP c ∗ wP I 1 c ∗ zP I 1 c ∗ MS I 1 c) -∗ Q ⟨k0_pay11 (Rb I 1 c), u⟩))
      ⊢ WP c (P5 c v2 v3 (k0_pay7 (Rb I 0 c))) Q := by
  unfold P5
  rw [k0_part5_eq_skeleton]; unfold k0_part5_skel
  rw [t8_eq, t9_eq, t10_eq]
  refine BIBase.Entails.trans ?_ (nxt_run I K 0 (by decide) c v2 v3 (k0_pay7 (Rb I 0 c)) (pay8_7 _) _ Q)
  iintro ⟨#HR, HH, HW, HZ, HM, HT, HQ⟩
  isplitr; · iexact HR
  isplitl [HH]; · iexact HH
  isplitl [HW]; · iexact HW
  isplitl [HZ]; · iexact HZ
  isplitl [HM]; · iexact HM
  isplitl [HT]; · iexact HT
  iintro H
  iapply (wp_retI c)
  iapply HQ; iexact H

/-- The third part: the last layer, and the own rows of the result. -/
theorem part6_run (c : Dev nD) (v2 v3 u : BitVec 32) (Q : PUnit → sProp 𝕄) :
    iprop(recs I K ∗ hP c ∗ wP I 2 c ∗ zP I 2 c ∗ MS I 1 c ∗ bigSep (peers c) (tkq 2 c) ∗ (∃ f, orow c c f)
        ∗ ((hP c ∗ wP I 2 c ∗ zP I 2 c ∗ MS I 2 c ∗ orow c c (X I 3)) -∗ Q ⟨⟩))
      ⊢ WP c (P6 c v2 v3 (k0_pay11 (Rb I 1 c)) u) Q := by
  unfold P6
  rw [k0_part6_eq_skeleton]; unfold k0_part6_skel
  rw [t11_eq c v2 v3 _ _ (k0_pay7 (Rb I 0 c)), t12_eq c v2 v3 _ _ (k0_pay7 (Rb I 0 c)), t13_eq, t14_eq, t15_eq]
  refine BIBase.Entails.trans ?_ (nxt_run I K 1 (by decide) c v2 v3 (k0_pay7 (Rb I 0 c)) (pay12_id _) _ Q)
  iintro ⟨#HR, HH, HW, HZ, HM, HT, Ho, HQ⟩
  isplitr; · iexact HR
  isplitl [HH]; · iexact HH
  isplitl [HW]; · iexact HW
  isplitl [HZ]; · iexact HZ
  isplitl [HM]; · iexact HM
  isplitl [HT]; · iexact HT
  iintro ⟨HH, HW, HZ, HM⟩
  iapply (put_row oM c (X I 3) ((pay15_11 _).trans (read_o1 I 2 c)))
  isplitl [Ho]; · iexact Ho
  iintro Ho
  iapply (wp_retI c)
  iapply HQ
  isplitl [HH]; · iexact HH
  isplitl [HW]; · iexact HW
  isplitl [HZ]; · iexact HZ
  isplitl [HM]; · iexact HM
  iexact Ho

/-! ## The end -/

/-- A cell past its last round is given back at zero. -/
theorem shut (c : Dev nD) (a : Fin 6) (q : Dev nD) (r : ℕ) (h : q = c ∨ nr a.val ≤ r) :
    iprop(recs I K ∗ atPos ER (dcell c a q) r ∅ 0) ⊢ iprop(|={Set.univ}=> semVal (dcell c a q) 0) := by
  iintro ⟨#HR, H⟩
  ihave #Hi := (recs_dma I K c a q) $$ HR
  iapply (Rounds.cell_close ER (Rd I) (Set.mem_univ _) id (fun r' hr' => duties_dma_later I c q a r' (h.imp id fun h => h.trans hr')))
  isplitr; · iexact Hi
  iexact H
theorem shut_bar (c : Dev nD) : iprop(recs I K ∗ atPos ER (bcell c) 1 ∅ 0) ⊢ iprop(|={Set.univ}=> semVal (bcell c) 0) := by
  iintro ⟨#HR, H⟩
  ihave #Hi := (recs_bar I K c) $$ HR
  iapply (Rounds.cell_close ER (Rd I) (Set.mem_univ _) id (fun r' hr' => duties_bar_later I c r' hr'))
  isplitr; · iexact Hi
  iexact H

/-- The six semaphores of one peer, at zero. -/
abbrev zs (c q : Dev nD) : sProp 𝕄 :=
  iprop(semVal (dcell c 0 q) 0 ∗ semVal (dcell c 1 q) 0 ∗ semVal (dcell c 2 q) 0 ∗ semVal (dcell c 3 q) 0 ∗ semVal (dcell c 4 q) 0 ∗ semVal (dcell c 5 q) 0)

theorem shut6 (c q : Dev nD) (n : Fin 6 → ℕ) (h : ∀ a, q = c ∨ nr a.val ≤ n a) :
    iprop(recs I K ∗ atPos ER (dcell c 0 q) (n 0) ∅ 0 ∗ atPos ER (dcell c 1 q) (n 1) ∅ 0 ∗ atPos ER (dcell c 2 q) (n 2) ∅ 0 ∗ atPos ER (dcell c 3 q) (n 3) ∅ 0
        ∗ atPos ER (dcell c 4 q) (n 4) ∅ 0 ∗ atPos ER (dcell c 5 q) (n 5) ∅ 0) ⊢ iprop(|={Set.univ}=> zs c q) := by
  iintro ⟨#HR, H0, H1, H2, H3, H4, H5⟩
  imod (shut I K c 0 q _ (h 0)) $$ [H0] with H0
  · isplitr; · iexact HR
    iexact H0
  imod (shut I K c 1 q _ (h 1)) $$ [H1] with H1
  · isplitr; · iexact HR
    iexact H1
  imod (shut I K c 2 q _ (h 2)) $$ [H2] with H2
  · isplitr; · iexact HR
    iexact H2
  imod (shut I K c 3 q _ (h 3)) $$ [H3] with H3
  · isplitr; · iexact HR
    iexact H3
  imod (shut I K c 4 q _ (h 4)) $$ [H4] with H4
  · isplitr; · iexact HR
    iexact H4
  imod (shut I K c 5 q _ (h 5)) $$ [H5] with H5
  · isplitr; · iexact HR
    iexact H5
  imodintro
  isplitl [H0]; · iexact H0
  isplitl [H1]; · iexact H1
  isplitl [H2]; · iexact H2
  isplitl [H3]; · iexact H3
  isplitl [H4]; · iexact H4
  iexact H5

/-- The own index's cells were never used. -/
theorem shut_own (c : Dev nD) : iprop(recs I K ∗ ops c c) ⊢ iprop(|={Set.univ}=> zs c c) := by
  iintro ⟨#HR, ⟨H0, -⟩, ⟨H1, -⟩, ⟨H2, -⟩, ⟨H3, -⟩, ⟨H4, -⟩, ⟨H5, -⟩⟩
  iapply (shut6 I K c c (fun _ => 0) fun _ => .inl rfl)
  isplitr; · iexact HR
  isplitl [H0]; · iexact H0
  isplitl [H1]; · iexact H1
  isplitl [H2]; · iexact H2
  isplitl [H3]; · iexact H3
  isplitl [H4]; · iexact H4
  iexact H5

/-- The memory a peer's exchange leaves. -/
abbrev fin4 (c q : Dev nD) : sProp 𝕄 := iprop(prow c q (Pt I 2 c) ∗ xrow c q (X I 2) ∗ orow c q (X I 3) ∗ ablk (shr c q) c (I.x c))

theorem shut_peer (c q : Dev nD) : iprop(recs I K ∗ esq I c q) ⊢ iprop(|={Set.univ}=> (zs c q ∗ fin4 I c q)) := by
  unfold esq
  iintro ⟨#HR, HP, HX, Ho, HA, H0, H1, H2, H3, H4, H5⟩
  imod (shut6 I K c q (fun a => nr a.val) fun _ => .inr le_rfl) $$ [H0 H1 H2 H3 H4 H5] with HZ
  · isplitr; · iexact HR
    isplitl [H0]; · iexact H0
    isplitl [H1]; · iexact H1
    isplitl [H2]; · iexact H2
    isplitl [H3]; · iexact H3
    isplitl [H4]; · iexact H4
    iexact H5
  imodintro
  isplitl [HZ]; · iexact HZ
  isplitl [HP]; · iexact HP
  isplitl [HX]; · iexact HX
  isplitl [Ho]; · iexact Ho
  iexact HA

/-- The own block and the peers' are the whole buffer. -/
theorem rowsJ (M : Memref sig .tc .vmem S2048x1024 .bf16) (hM : M.IsWhole) (c : Dev nD) (f : Buf (Elt F) (M.view.loc (c : Thread nD τ))) :
    iprop(rowP (F := F) M fullShare c c f ∗ bigSep (peers c) fun q => rowP (F := F) M fullShare c q f) ⊢ (M.view.loc (c : Thread nD τ) ↦{fullShare} f : sProp 𝕄) :=
  Entails.of_eq ((rows_eq M hM c f).trans (bigOwn c _)).symm

/-- The buffers at the start, -/
abbrev bufs0 (c : Dev nD) : sProp 𝕄 :=
  iprop((∃ f : Buf (Elt F) (xM.view.loc (c : Thread nD τ)), xM.view.loc (c : Thread nD τ) ↦{fullShare} f) ∗ (∃ f : Buf (Elt F) (pM.view.loc (c : Thread nD τ)), pM.view.loc (c : Thread nD τ) ↦{fullShare} f)
        ∗ (∃ f : Buf (Elt F) (rM.view.loc (c : Thread nD τ)), rM.view.loc (c : Thread nD τ) ↦{fullShare} f) ∗ (∃ f : Buf (Elt F) (oM.view.loc (c : Thread nD τ)), oM.view.loc (c : Thread nD τ) ↦{fullShare} f))
/-- and at the end. -/
abbrev bufs1 (c : Dev nD) : sProp 𝕄 :=
  iprop((xM.view.loc (c : Thread nD τ) ↦{fullShare} X I 2) ∗ (pM.view.loc (c : Thread nD τ) ↦{fullShare} Pt I 2 c)
        ∗ (rM.view.loc (c : Thread nD τ) ↦{fullShare} Rb I 2 c) ∗ (oM.view.loc (c : Thread nD τ) ↦{fullShare} X I 3))
/-- The weights. -/
abbrev wts (c : Dev nD) : sProp 𝕄 := iprop(wP I 0 c ∗ wP I 1 c ∗ wP I 2 c ∗ zP I 0 c ∗ zP I 1 c ∗ zP I 2 c)

theorem B0_eq (f : FVec F S2048x1024 .f32) : B0 (F := F) = (P4 >>= fun r => P5 r.1 r.2.1 r.2.2.1 r.2.2.2 >>= fun s => P6 r.1 r.2.1 r.2.2.1 s.1 s.2 >>= fun _ =>
          Scf.Loop.for k0_t6_loop k0_t6_ok ⟨⟩ (L6 (F := F) oM oM_whole r.1 0 0 f) >>= fun _ =>
          Scf.Loop.for k0_t7_loop k0_t7_ok ⟨⟩ (L7 (F := F) oM oM_whole r.1 0 0 f) >>= fun _ =>
          Scf.Loop.for k0_t18_loop k0_t18_ok ⟨⟩ (L18 (F := F) r.1) >>= fun _ =>
          Scf.Loop.for k0_t19_loop k0_t19_ok ⟨⟩ (L19 (F := F) r.1) >>= fun _ => pure ⟨⟩) := by
  unfold B0; rw [cc0_body_eq_skeleton]; rfl

theorem shut_peers (c : Dev nD) : iprop(recs I K ∗ bigSep (peers c) (esq I c)) ⊢ iprop(|={Set.univ}=> bigSep (peers c) fun q => iprop(zs c q ∗ fin4 I c q)) :=
  BIBase.Entails.trans (bigSep_with_persistent fun q _ => shut_peer I K c q) (bigSep_fupd (peers c) _)

theorem fin4_split (c : Dev nD) : (bigSep (peers c) (fin4 I c) : sProp 𝕄) ⊢ iprop((bigSep (peers c) fun q => prow c q (Pt I 2 c)) ∗ (bigSep (peers c) fun q => xrow c q (X I 2))
    ∗ (bigSep (peers c) fun q => orow c q (X I 3)) ∗ bigSep (peers c) fun q => ablk (shr c q) c (I.x c)) := by
  unfold fin4; rw [bigS2, bigS2, bigS2]

set_option maxHeartbeats 1600000 in
/-- The whole kernel. -/
theorem body_run (c : Dev nD) (Q : PUnit → sProp 𝕄) :
    iprop(recs I K ∗ (aM.view.loc (c : Thread nD τ) ↦{fullShare} I.x c) ∗ hP c ∗ wts I c ∗ bufs0 c
        ∗ cred (tallyAt (bcell c) 1 31) ∗ atPos ER (bcell c) 0 ∅ 0 ∗ bigSep Finset.univ (ops c) ∗ bigSep (peers c) (tkAll c) ∗ owesX c (owed 1 c)
        ∗ (((aM.view.loc (c : Thread nD τ) ↦{fullShare} I.x c) ∗ hP c ∗ wts I c ∗ bufs1 I c ∗ semVal (bcell c) 0 ∗ bigSep Finset.univ (zs c) ∗ owesX c 0) -∗ Q ⟨⟩))
      ⊢ WP c B0 Q := by
  rw [B0_eq (k0_pay7 (Rb I 0 c))]
  iintro ⟨#HR, HA, HH, ⟨HW0, HW1, HW2, HZ0, HZ1, HZ2⟩, ⟨HX, HP, HRr, Ho⟩, Hcr, Hat, HC, HT, HO, HQ⟩
  iapply (bindI c)
  iapply (part4_run I K c)
  isplitr; · iexact HR
  isplitl [HA]; · iexact HA
  isplitl [HH]; · iexact HH
  isplitl [HW0]; · iexact HW0
  isplitl [HZ0]; · iexact HZ0
  isplitl [HX]; · iexact HX
  isplitl [HP]; · iexact HP
  isplitl [HRr]; · iexact HRr
  isplitl [Ho]; · iexact Ho
  isplitl [Hcr]; · iexact Hcr
  isplitl [Hat]; · iexact Hat
  isplitl [HC]; · iexact HC
  isplitl [HT]; · iexact HT
  isplitl [HO]; · iexact HO
  iintro %v2
  iintro %v3
  iintro ⟨HH, HW0, HZ0, HM, Hat, Ho, Hc, HI, HT⟩
  ihave ⟨HT1, HT2⟩ := (Entails.of_eq (bigS2 (peers c) _ _)) $$ HT
  iapply (bindI c)
  iapply (part5_run I K c v2 v3)
  isplitr; · iexact HR
  isplitl [HH]; · iexact HH
  isplitl [HW1]; · iexact HW1
  isplitl [HZ1]; · iexact HZ1
  isplitl [HM]; · iexact HM
  isplitl [HT1]; · iexact HT1
  iintro %u
  iintro ⟨HH, HW1, HZ1, HM⟩
  iapply (bindI c)
  iapply (part6_run I K c v2 v3 u)
  isplitr; · iexact HR
  isplitl [HH]; · iexact HH
  isplitl [HW2]; · iexact HW2
  isplitl [HZ2]; · iexact HZ2
  isplitl [HM]; · iexact HM
  isplitl [HT2]; · iexact HT2
  isplitl [Ho]; · iexact Ho
  iintro ⟨HH, HW2, HZ2, ⟨HX, HP, HRr, HM, HO⟩, Ho⟩
  iapply (ago_run I K c 0 0 (k0_pay7 (Rb I 0 c)))
  isplitr; · iexact HR
  isplitl [Ho]; · iexact Ho
  isplitl [HI]; · iexact HI
  isplitl [HM]; · iexact HM
  isplitl [HO]; · iexact HO
  iintro ⟨Ho, HE, HO⟩
  imod (shut_peers I K c) $$ [HE] with HE
  · isplitr; · iexact HR
    iexact HE
  imod (shut_own I K c) $$ [Hc] with Hc
  · isplitr; · iexact HR
    iexact Hc
  imod (shut_bar I K c) $$ [Hat] with Hat
  · isplitr; · iexact HR
    iexact Hat
  ihave ⟨HZ, HE⟩ := (Entails.of_eq (bigS2 (peers c) (zs c) (fin4 I c))) $$ HE
  ihave ⟨HEp, HEx, HEo, HE⟩ := (fin4_split I c) $$ HE
  iapply (wp_retI c)
  iapply HQ
  isplitl [HE]
  · iapply (Entails.of_eq ((a_whole c (I.x c)).symm.trans (deal_a c (I.x c))).symm); iexact HE
  isplitl [HH]; · iexact HH
  isplitl [HW0 HW1 HW2 HZ0 HZ1 HZ2]
  · isplitl [HW0]; · iexact HW0
    isplitl [HW1]; · iexact HW1
    isplitl [HW2]; · iexact HW2
    isplitl [HZ0]; · iexact HZ0
    isplitl [HZ1]; · iexact HZ1
    iexact HZ2
  isplitl [HX HP HRr Ho HEp HEx HEo]
  · isplitl [HX HEx]
    · iapply (rowsJ xM xM_whole c (X I 2))
      isplitl [HX]; · iexact HX
      iexact HEx
    isplitl [HP HEp]
    · iapply (rowsJ pM pM_whole c (Pt I 2 c))
      isplitl [HP]; · iexact HP
      iexact HEp
    isplitl [HRr]
    · iapply (Entails.of_eq (rows_eq rM rM_whole c (Rb I 2 c)).symm); iexact HRr
    iapply (rowsJ oM oM_whole c (X I 3))
    isplitl [Ho]; · iexact Ho
    iexact HEo
  isplitl [Hat]; · iexact Hat
  isplitl [Hc HZ]
  · iapply (Entails.of_eq (bigOwn c (zs c)).symm)
    isplitl [Hc]; · iexact Hc
    iexact HZ
  iapply (Entails.of_eq (congrArg (owesX (F := F) c) (owed_end c))) $$ HO

end Cert.KernelIdeal.Pf
-- ==== Proof.Deal.lean ====
module
public import proofs.«01_k».proof.Proof.Run

@[expose] public section

set_option maxRecDepth 65536

/-! # What the launch deals to each device

The tokens of the payments, the credits for what the other devices owe, and the opening of the kernel's own semaphores. -/

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (I : Ins F) (K : GSem nD τ sig → ℕ)

/-! ## Tokens -/

/-- The fifteen payments device `c` makes for peer `q`: the array (6 for the barrier) and the round of each. -/
abbrev ja : Fin 15 → ℕ := ![6, 0, 1, 2, 3, 4, 5, 2, 3, 4, 5, 2, 3, 4, 5]
abbrev jr : Fin 15 → ℕ := ![0, 0, 0, 0, 0, 0, 0, 1, 1, 1, 1, 2, 2, 2, 2]
theorem jar_inj : ∀ j j' : Fin 15, ja j = ja j' → jr j = jr j' → j = j' := by decide
def tok (c q : Dev nD) : Fin 15 → GSem nD τ sig × ℕ × Dev nD
  | 0 => (bcell q, 0, c)
  | 1 => (dcell c 0 q, 0, 0)
  | 2 => (dcell q 1 c, 0, 0)
  | 3 => (dcell c 2 q, 0, 0)
  | 4 => (dcell q 3 c, 0, 0)
  | 5 => (dcell c 4 q, 0, 0)
  | 6 => (dcell q 5 c, 0, 0)
  | 7 => (dcell c 2 q, 1, 0)
  | 8 => (dcell q 3 c, 1, 0)
  | 9 => (dcell c 4 q, 1, 0)
  | 10 => (dcell q 5 c, 1, 0)
  | 11 => (dcell c 2 q, 2, 0)
  | 12 => (dcell q 3 c, 2, 0)
  | 13 => (dcell c 4 q, 2, 0)
  | 14 => (dcell q 5 c, 2, 0)
/-- Which payment a token is of. -/
def dec (t : GSem nD τ sig × ℕ × Dev nD) : Dev nD × Dev nD × ℕ × ℕ :=
  match t.1.2 with
  | .reg _ => (t.2.2, t.1.1.1, 6, t.2.1)
  | .dma s => if arrOf s % 2 = 1 then (idxOf s, t.1.1.1, arrOf s, t.2.1) else (t.1.1.1, idxOf s, arrOf s, t.2.1)
theorem dec_odd (c q : Dev nD) (a : Fin 6) (ha : a.val % 2 = 1) (r : ℕ) (d : Dev nD) : dec (dcell q a c, r, d) = (c, q, a.val, r) := by
  show (if arrOf (dsem a c) % 2 = 1 then (idxOf (dsem a c), q, arrOf (dsem a c), r) else (q, idxOf (dsem a c), arrOf (dsem a c), r)) = _
  rw [arrOf_dsem, idxOf_dsem, if_pos ha]
theorem dec_even (c q : Dev nD) (a : Fin 6) (ha : a.val % 2 = 0) (r : ℕ) (d : Dev nD) : dec (dcell c a q, r, d) = (c, q, a.val, r) := by
  show (if arrOf (dsem a q) % 2 = 1 then (idxOf (dsem a q), c, arrOf (dsem a q), r) else (c, idxOf (dsem a q), arrOf (dsem a q), r)) = _
  rw [arrOf_dsem, idxOf_dsem, if_neg (by omega)]
theorem dec_tok (c q : Dev nD) (j : Fin 15) : dec (tok c q j) = (c, q, ja j, jr j) := by
  fin_cases j
  · rfl
  all_goals first | exact dec_odd c q 1 rfl _ _ | exact dec_odd c q 3 rfl _ _ | exact dec_odd c q 5 rfl _ _
                  | exact dec_even c q 0 rfl _ _ | exact dec_even c q 2 rfl _ _ | exact dec_even c q 4 rfl _ _
def tokE : Dev nD × Dev nD × Fin 15 ↪ GSem nD τ sig × ℕ × Dev nD :=
  ⟨fun p => tok p.1 p.2.1 p.2.2, fun p p' h => by
    obtain ⟨c, q, j⟩ := p; obtain ⟨c', q', j'⟩ := p'
    have h' : dec (tok c q j) = dec (tok c' q' j') := congrArg dec h
    rw [dec_tok, dec_tok] at h'
    obtain ⟨h1, h2, h3, h4⟩ : c = c' ∧ q = q' ∧ ja j = ja j' ∧ jr j = jr j' := by
      simpa only [Prod.mk.injEq] using h'
    rw [h1, h2, jar_inj j j' h3 h4]⟩
/-- Every token. -/
abbrev toks : Finset (GSem nD τ sig × ℕ × Dev nD) := Finset.univ.map tokE

/-- The tokens of what device `c` pays for peer `q`. -/
abbrev tk15 (c q : Dev nD) : sProp 𝕄 :=
  iprop(dutyTok ER (bcell q) 0 c ∗ dutyTok ER (dcell c 0 q) 0 0 ∗ dutyTok ER (dcell q 1 c) 0 0
    ∗ dutyTok ER (dcell c 2 q) 0 0 ∗ dutyTok ER (dcell q 3 c) 0 0 ∗ dutyTok ER (dcell c 4 q) 0 0 ∗ dutyTok ER (dcell q 5 c) 0 0
    ∗ dutyTok ER (dcell c 2 q) 1 0 ∗ dutyTok ER (dcell q 3 c) 1 0 ∗ dutyTok ER (dcell c 4 q) 1 0 ∗ dutyTok ER (dcell q 5 c) 1 0
    ∗ dutyTok ER (dcell c 2 q) 2 0 ∗ dutyTok ER (dcell q 3 c) 2 0 ∗ dutyTok ER (dcell c 4 q) 2 0 ∗ dutyTok ER (dcell q 5 c) 2 0)

theorem tk15_eq (c q : Dev nD) : (bigSep Finset.univ fun j => dutyTok ER (tok c q j).1 (tok c q j).2.1 (tok c q j).2.2 : sProp 𝕄) = tk15 c q :=
  bigSep_univ_eq_bigSepL [(0 : Fin 15), 1, 2, 3, 4, 5, 6, 7, 8, 9, 10, 11, 12, 13, 14] (by decide) (by decide) _

theorem toks_deal : (bigSep toks fun x => (dutyTok ER x.1 x.2.1 x.2.2 : sProp 𝕄)) ⊢ bigSep Finset.univ fun c : Dev nD => bigSep (peers c) (tk15 c) := by
  unfold toks
  rw [bigSep_map, bigSep_univ_prod]
  refine bigSep_mono fun c _ => ?_
  rw [bigSep_univ_prod]
  refine _root_.Idealize.SL.BI.Entails.trans (bigSep_subset (Finset.subset_univ (peers c))) (bigSep_mono fun q _ => ?_)
  exact Entails.of_eq (tk15_eq c q)

/-! ## Credits -/

/-- What the other devices owe device `c`. -/
def due (c : Dev nD) : CellTallies nD τ sig ℕ := ∑ i ∈ Finset.Ico 1 9, ∑ q ∈ peers c, tl i q c

theorem rcell_dev (j : ℕ) (c q : Dev nD) : (rcell j c q).1 = (q : Thread nD τ) := by
  unfold rcell; (repeat' split) <;> rfl
theorem tl_ne (i : ℕ) (d q : Dev nD) (g : GSem nD τ sig) (u : ℕ) (h : g.1 ≠ (q : Thread nD τ)) : tl i d q g u = 0 := by
  unfold tl; rw [tallyAt_apply, if_neg]
  rintro ⟨rfl, -⟩; exact h (rcell_dev i d q)

theorem owed_at (c d : Dev nD) (g : GSem nD τ sig) (u : ℕ) (hg : g.1 = (c : Thread nD τ)) :
    owed 1 d g u = if d ∈ peers c then ∑ i ∈ Finset.Ico 1 9, tl i d c g u else 0 := by
  unfold owed
  simp only [Finset.sum_apply, Finsupp.finset_sum_apply]
  split
  · next h =>
    refine Finset.sum_congr rfl fun i _ => ?_
    have hc : c ∈ peers d := mem_peers.mpr (mem_peers.mp h).symm
    rw [Finset.sum_eq_single_of_mem c hc fun q _ hq => tl_ne i d q g u fun h' => hq (by
      have := h'.symm.trans hg; exact congrArg Prod.fst this)]
  · next h =>
    have hd : d = c := by by_contra hn; exact h (mem_peers.mpr hn)
    subst hd
    refine Finset.sum_eq_zero fun i _ => Finset.sum_eq_zero fun q hq => tl_ne i d q g u fun h' => (mem_peers.mp hq) (by
      have := h'.symm.trans hg; exact congrArg Prod.fst this)

theorem due_at (c : Dev nD) (g : GSem nD τ sig) (u : ℕ) (hg : g.1 = (c : Thread nD τ)) : due c g u = ∑ d, owed 1 d g u := by
  rw [Finset.sum_congr rfl fun d _ => owed_at c d g u hg, ← Finset.sum_filter, Finset.filter_mem_eq_inter, Finset.univ_inter]
  unfold due
  simp only [Finset.sum_apply, Finsupp.finset_sum_apply]
  exact Finset.sum_comm

theorem due_ne (c : Dev nD) (g : GSem nD τ sig) (u : ℕ) (hg : g.1 ≠ (c : Thread nD τ)) : due c g u = 0 := by
  unfold due
  simp only [Finset.sum_apply, Finsupp.finset_sum_apply]
  exact Finset.sum_eq_zero fun i _ => Finset.sum_eq_zero fun q _ => tl_ne i q c g u hg

theorem launch_due (c : Dev nD) :
    (∑ sm : SemLoc sig, tallyOn ((c : Thread nD τ), sm) (launchCredit (Pipeline.owing (owed 1)) 0 ((c : Thread nD τ), sm)) : CellTallies nD τ sig ℕ) = due c := by
  funext g; refine Finsupp.ext fun u => ?_
  simp only [Finset.sum_apply, Finsupp.finset_sum_apply]
  by_cases hg : g.1 = (c : Thread nD τ)
  · obtain ⟨t, s⟩ := g
    have hg' : t = (c : Thread nD τ) := hg
    subst hg'
    rw [due_at c _ u rfl, Finset.sum_eq_single_of_mem s (Finset.mem_univ s), ← Pipeline.launchCredit_owing]
    · unfold tallyOn; rw [Pi.single_eq_same]
    · intro s' _ hs'
      unfold tallyOn; rw [Pi.single_eq_of_ne]; · rfl
      exact fun h => hs' (congrArg Prod.snd h).symm
  · rw [due_ne c g u hg]
    refine Finset.sum_eq_zero fun s _ => ?_
    unfold tallyOn; rw [Pi.single_eq_of_ne]; · rfl
    exact fun h => hg (congrArg Prod.fst h)

/-- Credit for a sum is the credits together. -/
theorem cred_fsum {T : Type} [DecidableEq T] (S : Finset T) (f : T → CellTallies nD τ sig ℕ) : (cred (∑ i ∈ S, f i) : sProp 𝕄) = bigSep S fun i => cred (f i) := by
  induction S using Finset.induction_on with
  | empty => rw [Finset.sum_empty, cred_zero, bigSep_empty]; rfl
  | insert a S ha ih => rw [Finset.sum_insert ha, BI.bigSep_insert ha, BI.Entails.antisymm (cred_add _ _).1 (cred_add _ _).2, ih]; rfl

theorem bar_due (c : Dev nD) : (∑ q ∈ peers c, tl 1 q c : CellTallies nD τ sig ℕ) = tallyAt (bcell c) 1 31 := by
  funext g; refine Finsupp.ext fun u => ?_
  simp only [Finset.sum_apply, Finsupp.finset_sum_apply]
  rw [Finset.sum_congr rfl fun q _ => (show tl 1 q c g u = if g = bcell c ∧ u = 1 then 1 else 0 from tallyAt_apply ..), Finset.sum_const, card_peers, tallyAt_apply]
  split <;> rfl

/-- The credit of device `c` for what peer `q` owes it. -/
abbrev cr7 (c q : Dev nD) : sProp 𝕄 :=
  iprop(cred (tallyAt (dcell c 1 q) 2 N) ∗ cred (tallyAt (dcell c 3 q) 3 N) ∗ cred (tallyAt (dcell c 5 q) 4 N) ∗ cred (tallyAt (dcell c 3 q) 5 N)
    ∗ cred (tallyAt (dcell c 5 q) 6 N) ∗ cred (tallyAt (dcell c 3 q) 7 N) ∗ cred (tallyAt (dcell c 5 q) 8 N))

theorem creds_deal (c : Dev nD) : (Pipeline.launchCred (owed 1) c : sProp 𝕄) = iprop(cred (tallyAt (bcell c) 1 31) ∗ bigSep (peers c) (cr7 c)) := by
  unfold Pipeline.launchCred
  rw [← cred_fsum, launch_due]
  unfold due
  rw [cred_fsum, bigSep_eq_bigSepL_of_eq [1, 2, 3, 4, 5, 6, 7, 8] (by decide) (by decide)]
  show iprop(cred (∑ q ∈ peers c, tl 1 q c) ∗ cred (∑ q ∈ peers c, tl 2 q c) ∗ cred (∑ q ∈ peers c, tl 3 q c) ∗ cred (∑ q ∈ peers c, tl 4 q c)
    ∗ cred (∑ q ∈ peers c, tl 5 q c) ∗ cred (∑ q ∈ peers c, tl 6 q c) ∗ cred (∑ q ∈ peers c, tl 7 q c) ∗ cred (∑ q ∈ peers c, tl 8 q c)) = _
  rw [bar_due, cred_fsum, cred_fsum, cred_fsum, cred_fsum, cred_fsum, cred_fsum, cred_fsum, ← bigS2, ← bigS2, ← bigS2, ← bigS2, ← bigS2, ← bigS2]
  rfl

/-- Tokens, credits and the open barrier are what the kernel takes for a peer. -/
theorem tkAll_intro (c q : Dev nD) : iprop(reached ER (bcell q) 0 ∗ tk15 c q ∗ cr7 c q) ⊢ (tkAll c q : sProp 𝕄) := by
  iintro ⟨#HB, ⟨T0, T1, T2, T3, T4, T5, T6, T7, T8, T9, T10, T11, T12, T13, T14⟩, C1, C2, C3, C4, C5, C6, C7⟩
  isplitl [T0]
  · isplitl [T0]; · iexact T0
    iexact HB
  isplitl [T1 T2 C1]
  · isplitl [T1]; · iexact T1
    isplitl [T2]; · iexact T2
    iexact C1
  isplitl [T3 T4 T5 T6 C2 C3]
  · isplitl [T3]; · iexact T3
    isplitl [T4]; · iexact T4
    isplitl [C2]; · iexact C2
    isplitl [T5]; · iexact T5
    isplitl [T6]; · iexact T6
    iexact C3
  isplitl [T7 T8 T9 T10 C4 C5]
  · isplitl [T7]; · iexact T7
    isplitl [T8]; · iexact T8
    isplitl [C4]; · iexact C4
    isplitl [T9]; · iexact T9
    isplitl [T10]; · iexact T10
    iexact C5
  · isplitl [T11]; · iexact T11
    isplitl [T12]; · iexact T12
    isplitl [C6]; · iexact C6
    isplitl [T13]; · iexact T13
    isplitl [T14]; · iexact T14
    iexact C7

/-! ## The kernel's own semaphores -/

/-- The own semaphores as the launch indexes them. -/
abbrev osem (k : Fin 6 × Dev nD) : SemLoc sig := .dma (dsem k.1 k.2)

theorem six (Φ : Fin 6 × Dev nD → sProp 𝕄) : bigSep Finset.univ Φ
    = bigSep Finset.univ fun q => iprop(Φ (0, q) ∗ Φ (1, q) ∗ Φ (2, q) ∗ Φ (3, q) ∗ Φ (4, q) ∗ Φ (5, q)) := by
  rw [bigSep_univ_prod, bigSep_univ_eq_bigSepL [(0 : Fin 6), 1, 2, 3, 4, 5] (by decide) (by decide), bigS2, bigS2, bigS2, bigS2, bigS2]
  rfl

theorem zs_eq (c : Dev nD) : (Pipeline.ownSems0 osem c : sProp 𝕄) = bigSep Finset.univ (zs c) :=
  six fun k => semVal (dcell c k.1 k.2) 0

theorem open1 (c : Dev nD) (k : Fin 6 × Dev nD) : iprop(recs I K ∗ (openTok ER (dcell c k.1 k.2) ∗ semVal (dcell c k.1 k.2) 0)) ⊢ iprop(|={Set.univ}=> op c k.1 k.2) := by
  iintro ⟨#HR, Ho, Hs⟩
  ihave #Hi := (recs_dma I K c k.1 k.2) $$ HR
  iapply (Rounds.cell_open ER (Rd I) (g := dcell c k.1 k.2) (Set.mem_univ (K (dcell c k.1 k.2))))
  isplitr; · iexact Hi
  isplitl [Ho]; · iexact Ho
  iexact Hs

theorem open_all (c : Dev nD) : iprop(recs I K ∗ (bigSep Finset.univ fun k : Fin 6 × Dev nD => openTok ER (dcell c k.1 k.2)) ∗ Pipeline.ownSems0 osem c)
    ⊢ iprop(|={Set.univ}=> bigSep Finset.univ (ops c)) := by
  rw [show (bigSep Finset.univ (ops c) : sProp 𝕄) = bigSep Finset.univ fun k : Fin 6 × Dev nD => op c k.1 k.2 from (six fun k => op c k.1 k.2).symm]
  unfold Pipeline.ownSems0
  rw [← bigSep_sep']
  exact BIBase.Entails.trans (bigSep_with_persistent fun k _ => open1 I K c k) (bigSep_fupd _ _)

end Cert.KernelIdeal.Pf
-- ==== Proof.Region.lean ====
module
public import proofs.«01_k».proof.Proof.Deal
public import proofs.«01_k».proof.Proof.Gen.KernelIdeal.Frame
public import Idealize.ShloMosaic.Lib.Pipeline.RegionTalk

@[expose] public section

set_option maxRecDepth 65536

/-! # The kernel as a region of the program

The staged windows around the kernel, and the thread states before and after it. -/

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig ℕ (Elt F) ℕ UU ℕ

variable (m : (ℓ : Loc nD τ sig) → Buf (Elt F) ℓ)

/-- The inputs a launch memory holds. -/
def ins : Ins F where
  x c := m ((c : Thread nD τ).loc main_arg0)
  w k c := match k with
    | 0 => m ((c : Thread nD τ).loc main_arg1)
    | 1 => m ((c : Thread nD τ).loc main_arg2)
    | _ => m ((c : Thread nD τ).loc main_arg3)
  z k c := match k with
    | 0 => m ((c : Thread nD τ).loc main_arg4)
    | 1 => m ((c : Thread nD τ).loc main_arg5)
    | _ => m ((c : Thread nD τ).loc main_arg6)

/-! ## Thread states -/

/-- The buffers of a device at launch, after the kernel, and at the end. -/
abbrev V₀ (c : Dev nD) : Valuation τ sig (Elt F) := fun b => m (c, b)
def V₁ (c : Dev nD) : Valuation τ sig (Elt F) := Function.update (V₀ m c) (Proc.devRef .tc main_v1) (X (ins m) 3)
def V₂ (c : Dev nD) : Valuation τ sig (Elt F) := StableHlo.after hostOps1 (V₁ m c)

/-- Kept for the kernel from the launch. -/
def Tk (c : Dev nD) : sProp 𝕄 :=
  iprop((∃ K, recs (ins m) K) ∗ cred (tallyAt (bcell c) 1 31) ∗ atPos ER (bcell c) 0 ∅ 0
    ∗ (bigSep Finset.univ fun k : Fin 6 × Dev nD => openTok ER (dcell c k.1 k.2)) ∗ bigSep (peers c) (tkAll c))
/-- The same with the own semaphores opened. -/
def Xk (c : Dev nD) : sProp 𝕄 :=
  iprop((∃ K, recs (ins m) K) ∗ cred (tallyAt (bcell c) 1 31) ∗ atPos ER (bcell c) 0 ∅ 0
    ∗ bigSep Finset.univ (ops c) ∗ bigSep (peers c) (tkAll c))
def Yk (c : Dev nD) : sProp 𝕄 := semVal (bcell c) 0

/-- The four working buffers, at contents not chosen. -/
abbrev scr (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

def Φ₀ (c : Dev nD) : sProp 𝕄 := iprop(Xk m c ∗ scr c ∗ ∃ r, prngReg c r)
def Φ₁ (c : Dev nD) : sProp 𝕄 := iprop(Yk c ∗ Pipeline.ownSems0 osem c ∗ scr c ∗ ∃ r, prngReg c r)

/-- The region's proof data: the windows' arrays, what the kernel leaves staged, and what it owes. -/
def dat (c : Dev nD) : Dat τ (Elt F) ℕ ℕ UU ℕ cfg0 c where
  A w := m ((cfg0.win w).arr.view.loc (c : Thread nD τ))
  after w _ := match w with
    | ⟨0, _⟩ => (ins m).x c
    | ⟨1, _⟩ => (ins m).w 0 c
    | ⟨2, _⟩ => (ins m).w 1 c
    | ⟨3, _⟩ => (ins m).w 2 c
    | ⟨4, _⟩ => (ins m).z 0 c
    | ⟨5, _⟩ => (ins m).z 1 c
    | ⟨6, _⟩ => (ins m).z 2 c
    | ⟨7, _⟩ => X (ins m) 3
  Φ t := match t with
    | ⟨0, _⟩ => Φ₀ m c
    | ⟨_ + 1, _⟩ => Φ₁ c
  q _ := fullShare
  owed t := match t with
    | ⟨0, _⟩ => owed 1 c
    | ⟨_ + 1, _⟩ => 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m

theorem owns_whole (c : Dev nD) (b : Ref sig .tc) (Y : b.ty.Contents (Elt F)) :
    (owns (Ix := ℕ) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

theorem owesAt_of {c : Dev nD} (d : Dat τ (Elt F) ℕ ℕ UU ℕ cfg0 c) (t : Fin (cfg0.N + 1)) (O : CellTallies nD τ sig ℕ) (h0 : d.owed t = O) (hr : d.recorded t = Set.univ) :
    (owesX c O : sProp 𝕄) ⊢ d.owesAt 0 t := by
  unfold Dat.owesAt Pipeline.owesWithin Dat.bound owesX; rw [h0, hr]
  iintro ⟨%W, HO⟩; iexists W; isplitr; · ipureintro; exact fun _ _ => Or.inl trivial
  iexact HO
theorem of_owesAt {c : Dev nD} (d : Dat τ (Elt F) ℕ ℕ UU ℕ cfg0 c) (t : Fin (cfg0.N + 1)) (O : CellTallies nD τ sig ℕ) (h0 : d.owed t = O) :
    d.owesAt 0 t ⊢ (owesX c O : sProp 𝕄) := by
  unfold Dat.owesAt Pipeline.owesWithin owesX; rw [h0]
  iintro ⟨%W, -, HO⟩; iexists W; iexact HO

/-! ## What the fetches leave staged -/

theorem rdw (b : Ref sig .tc) (sz : Fin b.ty.shape.rank → ℕ) (h : ∀ a, 0 * sz a + b.ty.shape.size a ≤ b.ty.shape.size a) (f : b.ty.Contents (Elt F)) :
    ((Memref.whole b).access (Rect.unit (fun a => 0 * sz a) b.ty.shape.size h) : View sig .tc _ _ _).read (Elt F) f = f :=
  Memref.read_access_unit_zero (Elt F) b (funext fun a => Nat.zero_mul _) h f
theorem rd0 (c : Dev nD) (d) : (dat m c).before (0 : Fin 8) t0_0 d = (ins m).x c := by
  unfold Dat.before; rw [if_pos (show (cfg0.win (0 : Fin 8)).fetch t0_0 = true from rfl)]
  exact rdw (F := F) main_arg0 (main_arg0 : Ref sig .tc).ty.shape.size (fun a => by simp) (m ((c : Thread nD τ).loc main_arg0))
theorem rd1 (c : Dev nD) (d) : (dat m c).before (1 : Fin 8) t0_0 d = (ins m).w 0 c := by
  unfold Dat.before; rw [if_pos (show (cfg0.win (1 : Fin 8)).fetch t0_0 = true from rfl)]
  exact rdw (F := F) main_arg1 (main_arg1 : Ref sig .tc).ty.shape.size (fun a => by simp) (m ((c : Thread nD τ).loc main_arg1))
theorem rd2 (c : Dev nD) (d) : (dat m c).before (2 : Fin 8) t0_0 d = (ins m).w 1 c := by
  unfold Dat.before; rw [if_pos (show (cfg0.win (2 : Fin 8)).fetch t0_0 = true from rfl)]
  exact rdw (F := F) main_arg2 (main_arg2 : Ref sig .tc).ty.shape.size (fun a => by simp) (m ((c : Thread nD τ).loc main_arg2))
theorem rd3 (c : Dev nD) (d) : (dat m c).before (3 : Fin 8) t0_0 d = (ins m).w 2 c := by
  unfold Dat.before; rw [if_pos (show (cfg0.win (3 : Fin 8)).fetch t0_0 = true from rfl)]
  exact rdw (F := F) main_arg3 (main_arg3 : Ref sig .tc).ty.shape.size (fun a => by simp) (m ((c : Thread nD τ).loc main_arg3))
theorem rd4 (c : Dev nD) (d) : (dat m c).before (4 : Fin 8) t0_0 d = (ins m).z 0 c := by
  unfold Dat.before; rw [if_pos (show (cfg0.win (4 : Fin 8)).fetch t0_0 = true from rfl)]
  exact rdw (F := F) main_arg4 (main_arg4 : Ref sig .tc).ty.shape.size (fun a => by simp) (m ((c : Thread nD τ).loc main_arg4))
theorem rd5 (c : Dev nD) (d) : (dat m c).before (5 : Fin 8) t0_0 d = (ins m).z 1 c := by
  unfold Dat.before; rw [if_pos (show (cfg0.win (5 : Fin 8)).fetch t0_0 = true from rfl)]
  exact rdw (F := F) main_arg5 (main_arg5 : Ref sig .tc).ty.shape.size (fun a => by simp) (m ((c : Thread nD τ).loc main_arg5))
theorem rd6 (c : Dev nD) (d) : (dat m c).before (6 : Fin 8) t0_0 d = (ins m).z 2 c := by
  unfold Dat.before; rw [if_pos (show (cfg0.win (6 : Fin 8)).fetch t0_0 = true from rfl)]
  exact rdw (F := F) main_arg6 (main_arg6 : Ref sig .tc).ty.shape.size (fun a => by simp) (m ((c : Thread nD τ).loc main_arg6))

/-- A staged buffer at given contents, and at any. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))
theorem stg_out (c : Dev nD) (b : Ref sig .tc) (Y : b.ty.Contents (Elt F)) : (stg c b Y : sProp 𝕄) ⊢ iprop(((c : Thread nD τ).loc b) ↦{fullShare} Y) := by
  iintro ⟨%f, %h, H⟩; subst h; iexact H
theorem stg_in (c : Dev nD) (b : Ref sig .tc) (Y : b.ty.Contents (Elt F)) : iprop(((c : Thread nD τ).loc b) ↦{fullShare} Y) ⊢ (stg c b Y : sProp 𝕄) := by
  iintro H; iexists Y; isplitr; · ipureintro; rfl
  iexact H
theorem stg_ex {D : Type} (c : Dev nD) (b : Ref sig .tc) (Y : b.ty.Contents (Elt F)) (g : D → b.ty.Contents (Elt F)) (h : ∀ d, g d = Y) :
    (iprop(∃ d, stg c b (g d)) : sProp 𝕄) ⊢ iprop(((c : Thread nD τ).loc b) ↦{fullShare} Y) := by
  iintro ⟨%d, %f, %hf, H⟩; rw [h d] at hf; subst hf; iexact H
theorem stg_any {D : Type} (c : Dev nD) (b : Ref sig .tc) (g : D → b.ty.Contents (Elt F)) :
    (iprop(∃ d, stg c b (g d)) : sProp 𝕄) ⊢ iprop(∃ f : Buf (Elt F) ((c : Thread nD τ).loc b), ((c : Thread nD τ).loc b) ↦{fullShare} f) := by
  iintro ⟨%d, %f, -, H⟩; iexists f; iexact H

def bPre (c : Dev nD) : sProp 𝕄 :=
  iprop(Φ₀ m c ∗ (dat m c).owesAt 0 (Fin.castSucc t0_0)
    ∗ (∃ d, stg c cc0_stg0_0 ((dat m c).before (0 : Fin 8) t0_0 d)) ∗ (∃ d, stg c cc0_stg1_0 ((dat m c).before (1 : Fin 8) t0_0 d))
    ∗ (∃ d, stg c cc0_stg2_0 ((dat m c).before (2 : Fin 8) t0_0 d)) ∗ (∃ d, stg c cc0_stg3_0 ((dat m c).before (3 : Fin 8) t0_0 d))
    ∗ (∃ d, stg c cc0_stg4_0 ((dat m c).before (4 : Fin 8) t0_0 d)) ∗ (∃ d, stg c cc0_stg5_0 ((dat m c).before (5 : Fin 8) t0_0 d))
    ∗ (∃ d, stg c cc0_stg6_0 ((dat m c).before (6 : Fin 8) t0_0 d)) ∗ (∃ d, stg c cc0_stg7_0 ((dat m c).before (7 : Fin 8) t0_0 d)))
def bPost (c : Dev nD) : sProp 𝕄 :=
  iprop(Φ₁ c ∗ (dat m c).owesAt 0 (Fin.succ t0_0)
    ∗ stg c cc0_stg0_0 ((ins m).x c) ∗ stg c cc0_stg1_0 ((ins m).w 0 c) ∗ stg c cc0_stg2_0 ((ins m).w 1 c) ∗ stg c cc0_stg3_0 ((ins m).w 2 c)
    ∗ stg c cc0_stg4_0 ((ins m).z 0 c) ∗ stg c cc0_stg5_0 ((ins m).z 1 c) ∗ stg c cc0_stg6_0 ((ins m).z 2 c) ∗ stg c cc0_stg7_0 (X (ins m) 3))

theorem wP_eq (c : Dev nD) : (wts (ins m) c : sProp 𝕄) = iprop((((c : Thread nD τ).loc cc0_stg1_0) ↦{fullShare} (ins m).w 0 c) ∗ (((c : Thread nD τ).loc cc0_stg2_0) ↦{fullShare} (ins m).w 1 c)
    ∗ (((c : Thread nD τ).loc cc0_stg3_0) ↦{fullShare} (ins m).w 2 c) ∗ (((c : Thread nD τ).loc cc0_stg4_0) ↦{fullShare} (ins m).z 0 c)
    ∗ (((c : Thread nD τ).loc cc0_stg5_0) ↦{fullShare} (ins m).z 1 c) ∗ (((c : Thread nD τ).loc cc0_stg6_0) ↦{fullShare} (ins m).z 2 c)) := rfl

theorem body_pre (c : Dev nD) : bPre m c ⊢ WP c B0 (fun _ => bPost m c) := by
  unfold bPre Φ₀ Xk
  iintro ⟨⟨⟨⟨%K, HR⟩, Hcr, Hat, HC, HT⟩, ⟨Hs0, Hs1, Hs2, Hs3⟩, Hp⟩, HO, H0, H1, H2, H3, H4, H5, H6, H7⟩
  ihave HO' := (of_owesAt (dat m c) (Fin.castSucc t0_0) (owed 1 c) rfl) $$ HO
  ihave J0 := (stg_ex c cc0_stg0_0 ((ins m).x c) _ (rd0 m c)) $$ H0
  ihave J1 := (stg_ex c cc0_stg1_0 ((ins m).w 0 c) _ (rd1 m c)) $$ H1
  ihave J2 := (stg_ex c cc0_stg2_0 ((ins m).w 1 c) _ (rd2 m c)) $$ H2
  ihave J3 := (stg_ex c cc0_stg3_0 ((ins m).w 2 c) _ (rd3 m c)) $$ H3
  ihave J4 := (stg_ex c cc0_stg4_0 ((ins m).z 0 c) _ (rd4 m c)) $$ H4
  ihave J5 := (stg_ex c cc0_stg5_0 ((ins m).z 1 c) _ (rd5 m c)) $$ H5
  ihave J6 := (stg_ex c cc0_stg6_0 ((ins m).z 2 c) _ (rd6 m c)) $$ H6
  ihave J7 := (stg_any c cc0_stg7_0 _) $$ H7
  iapply (body_run (ins m) K c (fun _ => bPost m c))
  isplitl [HR]; · iexact HR
  isplitl [J0]; · iexact J0
  isplitl [Hs1]; · iexact Hs1
  isplitl [J1 J2 J3 J4 J5 J6]
  · iapply (Entails.of_eq (wP_eq m c).symm)
    isplitl [J1]; · iexact J1
    isplitl [J2]; · iexact J2
    isplitl [J3]; · iexact J3
    isplitl [J4]; · iexact J4
    isplitl [J5]; · iexact J5
    iexact J6
  isplitl [Hs0 Hs2 Hs3 J7]
  · isplitl [Hs0]; · iexact Hs0
    isplitl [Hs2]; · iexact Hs2
    isplitl [Hs3]; · iexact Hs3
    iexact J7
  isplitl [Hcr]; · iexact Hcr
  isplitl [Hat]; · iexact Hat
  isplitl [HC]; · iexact HC
  isplitl [HT]; · iexact HT
  isplitl [HO']; · iexact HO'
  iintro ⟨J0, Hs1, HW, ⟨Hs0, Hs2, Hs3, J7⟩, Hb, Hz, HO⟩
  ihave HO' := (owesAt_of (dat m c) (Fin.succ t0_0) 0 rfl rfl) $$ HO
  ihave HW' := (Entails.of_eq (wP_eq m c)) $$ HW
  icases HW' with ⟨J1, J2, J3, J4, J5, J6⟩
  ihave Hz' := (Entails.of_eq (zs_eq c).symm) $$ Hz
  unfold bPost Φ₁ Yk
  isplitl [Hb Hz' Hs0 Hs1 Hs2 Hs3 Hp]
  · isplitl [Hb]; · iexact Hb
    isplitl [Hz']; · iexact Hz'
    isplitl [Hs0 Hs1 Hs2 Hs3]
    · isplitl [Hs0]; · iexists _; iexact Hs0
      isplitl [Hs1]; · iexact Hs1
      isplitl [Hs2]; · iexists _; iexact Hs2
      iexists _; iexact Hs3
    iexact Hp
  isplitl [HO']; · iexact HO'
  isplitl [J0]; · iapply (stg_in c cc0_stg0_0 _); iexact J0
  isplitl [J1]; · iapply (stg_in c cc0_stg1_0 _); iexact J1
  isplitl [J2]; · iapply (stg_in c cc0_stg2_0 _); iexact J2
  isplitl [J3]; · iapply (stg_in c cc0_stg3_0 _); iexact J3
  isplitl [J4]; · iapply (stg_in c cc0_stg4_0 _); iexact J4
  isplitl [J5]; · iapply (stg_in c cc0_stg5_0 _); iexact J5
  isplitl [J6]; · iapply (stg_in c cc0_stg6_0 _); iexact J6
  iapply (stg_in c cc0_stg7_0 _); iexact J7

/-- The kernel meets the obligation of its one grid point. -/
theorem body_ob (c : Dev nD) : BodyObligation (dat m c) defs₀ 𝒱₀ 0 Set.univ := fun t => by
  rw [show t = t0_0 from fin_N0 t]
  rw [bigSep_W0, bigSep_W0]
  simp only [owns_whole]
  show bPre m c ⊢ WP c B0 (fun _ => bPost m c)
  exact body_pre m c

end Cert.KernelIdeal.Pf
-- ==== Proof.Launch.lean ====
module
public import proofs.«01_k».proof.Proof.Region

@[expose] public section

set_option maxRecDepth 65536

/-! # The run of the whole program

The launch deals the protocol's tokens and credits; every execution ends with the inputs unchanged, the result at the computed contents
and every semaphore at zero. -/

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The region -/

theorem hopenR (c : Dev nD) : iprop(Tk m c ∗ Pipeline.ownSems0 osem c ∗ levAts L lv) ⊢ (|={Set.univ}=> Xk m c : sProp 𝕄) := by
  unfold Tk Xk
  iintro ⟨⟨⟨%K, #HR⟩, Hcr, Hat, Ho, HT⟩, Hs, -⟩
  imod (open_all (ins m) K c) $$ [Ho Hs] with HC
  · isplitr; · iexact HR
    isplitl [Ho]; · iexact Ho
    iexact Hs
  imodintro
  isplitr; · iexists K; iexact HR
  isplitl [Hcr]; · iexact Hcr
  isplitl [Hat]; · iexact Hat
  isplitl [HC]; · iexact HC
  iexact HT

theorem held_none (c : Dev nD) (W : Valuation τ sig (Elt F)) : (StableHlo.held (c.tc : Thread nD τ) ∅ W : sProp 𝕄) = BI.emp := by
  unfold StableHlo.held; exact BI.bigSep_empty

theorem scopedR (c : Dev nD) : (Pipeline.scopedRest (Ix := ℕ) (Name := ℕ) (U := UU) (Lvl := ℕ) (Val := Elt F) (Pipeline.pin (pcfgs (F := F)) adm 0).spec c : sProp 𝕄) = scr c :=
  scopedRest0_eq c

theorem hinR (c : Dev nD) : iprop(Pipeline.scopedRest (Pipeline.pin (pcfgs (F := F)) adm 0).spec c ∗ (∃ r, prngReg c r) ∗ StableHlo.held (c.tc : Thread nD τ) ∅ (V₀ m c) ∗ Xk m c)
    ⊢ (pdats m 0 c).Φ 0 := by
  rw [show (pdats m 0 c).Φ 0 = iprop(Xk m c ∗ scr c ∗ ∃ r, prngReg c r) from rfl, scopedR]
  iintro ⟨Hs, Hp, -, HX⟩
  isplitl [HX]; · iexact HX
  isplitl [Hs]; · iexact Hs
  iexact Hp

theorem houtR (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₁ m c) ∗ Pipeline.ownSems0 osem c ∗ Yk c) := by
  rw [show (pdats m 0 c).Φ (Fin.last _) = iprop(Yk c ∗ Pipeline.ownSems0 osem c ∗ scr c ∗ ∃ r, prngReg c r) from rfl, scopedR, held_none]
  iintro ⟨HY, Ho, Hs, Hp⟩
  isplitl [Hs]; · iexact Hs
  isplitl [Hp]; · iexact Hp
  isplitr; · iempintro
  isplitl [Ho]; · iexact Ho
  iexact HY

theorem kitR : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem osem_arr (k : Fin 6 × Dev nD) : arrOf (dsem k.1 k.2) = k.1.val ∧ idxOf (dsem k.1 k.2) = k.2 := ⟨arrOf_dsem .., idxOf_dsem ..⟩
theorem osem_inj : Function.Injective osem := fun k k' h => by
  have h' : dsem k.1 k.2 = dsem k'.1 k'.2 := by simpa [osem] using h
  have a := osem_arr k; rw [h'] at a; have a' := osem_arr k'
  exact Prod.ext (Fin.ext (a.1.symm.trans a'.1)) (a.2.symm.trans a'.2)

/-- What is owed is owed at later indices, each a level of its own. -/
theorem owed_pos (c : Dev nD) (g : GSem nD τ sig) (u : ℕ) (h : 0 < owed 1 c g u) : u ∈ L g ∧ 0 < lv g u := by
  unfold owed at h
  simp only [Finset.sum_apply, Finsupp.finset_sum_apply] at h
  obtain ⟨i, hi, h⟩ := Finset.exists_ne_zero_of_sum_ne_zero h.ne'
  obtain ⟨q, -, h⟩ := Finset.exists_ne_zero_of_sum_ne_zero h
  obtain ⟨ht, rfl⟩ := tl_pos _ _ _ _ _ (Nat.pos_of_ne_zero h)
  have := Finset.mem_Ico.mp hi
  refine ⟨?_, this.1⟩
  rw [L, if_pos ht]; exact Finset.mem_range.mpr this.2

theorem cutR (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  match t, h with
  | ⟨0, _⟩, h => exact owed_pos c g i h
  | ⟨_ + 1, _⟩, h => exact absurd h (Nat.lt_irrefl 0)

/-- The buffers that are no window's array. -/
abbrev Sr : Finset (DevRef τ sig) := Pipeline.ucRefs τ sig \ Pipeline.arrRefs (τ := τ) spec0

theorem V₁_out (c : Dev nD) : V₁ m c (Proc.devRef .tc main_v1) = X (ins m) 3 := Function.update_self ..
theorem V₁_ne (c : Dev nD) {b : DevRef τ sig} (h : b ≠ Proc.devRef .tc main_v1) : V₁ m c b = m (c, b) := Function.update_of_ne h ..

theorem restR (c : Dev nD) (b : DevRef τ sig) (hb : b ∈ Sr \ ∅) : V₁ m c b = V₀ m c b :=
  V₁_ne m c fun h => by
    subst h
    exact (Finset.mem_sdiff.mp (Finset.mem_sdiff.mp hb).1).2 (Finset.mem_map_of_mem _ (Finset.mem_image.mpr ⟨(7 : Fin 8), Finset.mem_univ _, rfl⟩))

theorem arr_in (c : Dev nD) (w : Fin 8) (b : Ref sig .tc) (hw : (cfg0.win w).isOut = false) (hb : Pipeline.arrRef spec0 w = b) (h : b ≠ main_v1) :
    (dat m c).arrAt w cfg0.N = V₁ m c (Proc.devRef .tc (Pipeline.arrRef spec0 w)) :=
  ((dat m c).arrAt_in w hw _).trans (V₁_ne m c (StableHlo.devRef_ne_of_ne fun e => h (hb.symm.trans e))).symm

theorem arr_end (c : Dev nD) (w : Fin 8) : (dat m c).arrAt w cfg0.N = V₁ m c (Proc.devRef .tc (Pipeline.arrRef spec0 w)) := by
  fin_cases w
  case «7» =>
    refine Eq.trans ?_ (V₁_out m c).symm
    show (dat m c).arrAt (7 : Fin 8) cfg0.N = _
    rw [show cfg0.N = 0 + 1 from N_0]
    unfold Pipeline.Dat.arrAt
    dsimp only
    rw [dif_pos (show 0 < cfg0.N by rw [show cfg0.N = 1 from N_0]; decide), if_pos (show (cfg0.win (7 : Fin 8)).flush ⟨0, _⟩ = true from rfl)]
    exact Memref.write_access_unit_zero_univ (Elt F) main_v1 (off := fun a => 0 * (main_v1 : Ref sig .tc).ty.shape.size a) (funext fun a => Nat.zero_mul _) (fun a => by simp) _ _
  · exact arr_in m c 0 main_arg0 rfl rfl (by decide)
  · exact arr_in m c 1 main_arg1 rfl rfl (by decide)
  · exact arr_in m c 2 main_arg2 rfl rfl (by decide)
  · exact arr_in m c 3 main_arg3 rfl rfl (by decide)
  · exact arr_in m c 4 main_arg4 rfl rfl (by decide)
  · exact arr_in m c 5 main_arg5 rfl rfl (by decide)
  · exact arr_in m c 6 main_arg6 rfl rfl (by decide)

set_option backward.isDefEq.respectTransparency.types false in
/-- The kernel's region. -/
def reg : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    ∅ Sr (Finset.empty_subset _) kitR rfl (fun c => (body_ob m c).loose)
    (fun _ => 0) (fun c => owed 1 c) (fun c => (zero_add _).symm) (fun _ => rfl) (fun _ => rfl) (fun _ w => by unfold Pipeline.Dat.share; split <;> rfl)
    (V₀ m) (V₁ m) (restR m)
    (Tk m) Yk (Xk m) Yk (hopenR m) (hinR m) (houtR m)
    (fun c => by iintro H; imodintro; iexact H)
    (fun _ => 0)
    ⟨fun c w s => by rw [L, if_pos rfl]; exact Finset.mem_range.mpr (by decide), fun _ w s => Nat.le_refl 0, fun c t g i h => cutR m c t g i h⟩
    (fun _ => iprop(emp))
    (fun _ w => rfl) (fun c w => arr_end m c w)

end Cert.KernelIdeal.Pf
-- ==== Proof.Main.lean ====
module
public import proofs.«01_k».proof.Proof.Launch

@[expose] public section

set_option maxRecDepth 65536

/-! # The launch

Every cell is made with its protocol, the kernel's own ones waiting for the kernel to open them; the tokens and credits go to the devices. -/

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The cells -/

def barE : Dev nD ↪ GSem nD τ sig := ⟨fun c => bcell c, fun _ _ h => congrArg (fun g : GSem nD τ sig => g.1.1) h⟩
def ownE : Dev nD × Fin 6 × Dev nD ↪ GSem nD τ sig :=
  ⟨fun p => dcell p.1 p.2.1 p.2.2, fun p p' h => Prod.ext (congrArg (fun g : GSem nD τ sig => g.1.1) h) (osem_inj (congrArg Prod.snd h))⟩
abbrev barS : Finset (GSem nD τ sig) := Finset.univ.map barE
abbrev ownS : Finset (GSem nD τ sig) := Finset.univ.map ownE
theorem barS_ownS : Disjoint barS ownS := by
  rw [Finset.disjoint_left]
  rintro g h₁ h₂
  obtain ⟨c, -, rfl⟩ := Finset.mem_map.mp h₁
  obtain ⟨p, -, h⟩ := Finset.mem_map.mp h₂
  cases congrArg Prod.snd h

/-- The launch element: the staging cells' and the protocol's. -/
def u₀ : UU :=
  (initOf (Pipeline.cells (Pipeline.pin (pcfgs (F := F)) adm) cellOf_inj) (Pipeline.launchToks (Pipeline.pin (pcfgs (F := F)) adm) cellOf_inj),
    launchOf barS ownS toks)

/-- The protocol's part is held by device 0 until it is dealt. -/
abbrev G (c : Dev nD) : sProp 𝕄 := if c = 0 then BI.own (ER (launchOf barS ownS toks)) else iprop(emp)
theorem G_all : bigSep Finset.univ (G (F := F)) = BI.own (ER (launchOf barS ownS toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## Dealing -/

/-- What every device may consult. -/
def rcs (κ : GSem nD τ sig → ℕ) : sProp 𝕄 := iprop(recs (ins m) κ ∗ bigSep Finset.univ fun c : Dev nD => reached ER (bcell c) 0)
instance rcs_persistent (κ : GSem nD τ sig → ℕ) : BI.Persistent (rcs m κ) := by unfold rcs; infer_instance

/-- A device's own part of the protocol, and of the machine. -/
abbrev lin (c : Dev nD) : sProp 𝕄 :=
  iprop(atPos ER (bcell c) 0 ∅ 0 ∗ (bigSep Finset.univ fun k : Fin 6 × Dev nD => openTok ER (dcell c k.1 k.2)) ∗ bigSep (peers c) (tk15 c))
abbrev bun (c : Dev nD) : sProp 𝕄 :=
  iprop(StableHlo.held (c : Thread nD τ) (Pipeline.ucRefs τ sig) (V₀ m c) ∗ (cred (tallyAt (bcell c) 1 31) ∗ bigSep (peers c) (cr7 c))
    ∗ owes (c : Thread nD τ) (owed 1 c) ∅ ∗ ∃ r, prngReg c r)

/-- The thread state at launch. -/
abbrev T₀ (c : Dev nD) : sProp 𝕄 :=
  iprop(StableHlo.held (c : Thread nD τ) (Pipeline.ucRefs τ sig) (V₀ m c) ∗ Tk m c ∗ (∃ r, prngReg c r) ∗ ∃ W, owes (c : Thread nD τ) (owed 1 c) W)
/-- The thread state at the end. -/
abbrev Tₙ (c : Dev nD) : sProp 𝕄 := iprop(StableHlo.held (c : Thread nD τ) (Pipeline.ucRefs τ sig) (V₂ m c) ∗ semVal (bcell c) 0)

theorem tkAll_all (κ : GSem nD τ sig → ℕ) (c : Dev nD) : iprop(rcs m κ ∗ bigSep (peers c) (tk15 c) ∗ bigSep (peers c) (cr7 c)) ⊢ bigSep (peers c) (tkAll c) := by
  rw [← bigS2]
  refine bigSep_with_persistent (R := rcs m κ) (Φ := fun q => iprop(tk15 c q ∗ cr7 c q)) fun q _ => ?_
  unfold rcs
  iintro ⟨⟨-, #HB⟩, HT, HC⟩
  iapply (tkAll_intro c q)
  isplitr; · iapply (bigE (Finset.mem_univ q) fun c : Dev nD => reached ER (bcell c) 0) $$ HB
  isplitl [HT]; · iexact HT
  iexact HC

theorem T₀_intro (κ : GSem nD τ sig → ℕ) (c : Dev nD) : iprop(rcs m κ ∗ lin c ∗ bun m c) ⊢ T₀ m c := by
  iintro ⟨#HR, ⟨Hat, Ho, HT⟩, Hh, ⟨Hcr, HC⟩, HO, Hp⟩
  ihave HT' := (tkAll_all m κ c) $$ [HT HC]
  · isplitr; · iexact HR
    isplitl [HT]; · iexact HT
    iexact HC
  isplitl [Hh]; · iexact Hh
  isplitl [Hat Ho HT' Hcr]
  · unfold Tk rcs
    icases HR with ⟨HR1, -⟩
    isplitr; · iexists κ; iexact HR1
    isplitl [Hcr]; · iexact Hcr
    isplitl [Hat]; · iexact Hat
    isplitl [Ho]; · iexact Ho
    iexact HT'
  isplitl [Hp]; · iexact Hp
  iexists ∅; iexact HO

theorem unscopedSems_eq (c : Dev nD) : (unscopedSems0 c : sProp 𝕄) = semVal (bcell c) 0 := by
  unfold unscopedSems0
  rw [show (Finset.univ.filter fun sm : SemLoc sig => ¬ sm.isScoped .tc) = {SemLoc.reg barrier0} from by decide, BI.bigSep_singleton]

abbrev cinit (c : Dev nD) : sProp 𝕄 :=
  iprop(unscopedBufs c (fun b => m ((c : Thread nD τ).loc b)) ∗ unscopedSems0 c ∗ owes (c : Thread nD τ) (owed 1 c) ∅ ∗ Pipeline.launchCred (owed 1) c ∗ prngReg c (ρ c) ∗ G c)

theorem core_bun (c : Dev nD) : cinit m ρ c ⊢ iprop(bun m c ∗ semVal (bcell c) 0 ∗ G c) := by
  unfold cinit
  rw [show unscopedBufs c (fun b => m ((c : Thread nD τ).loc b)) = StableHlo.held (c : Thread nD τ) (Pipeline.ucRefs τ sig) (V₀ m c) from Pipeline.unscopedBufs_held c (V₀ m c),
    unscopedSems_eq, creds_deal]
  iintro ⟨Hh, Hus, HO, Hcr, Hp, HG⟩
  isplitl [Hh HO Hcr Hp]
  · isplitl [Hh]; · iexact Hh
    isplitl [Hcr]; · iexact Hcr
    isplitl [HO]; · iexact HO
    iexists (ρ c); iexact Hp
  isplitl [Hus]; · iexact Hus
  iexact HG

theorem cores (c₀ : Unit) : bigSep Finset.univ (cinit m ρ) ⊢ iprop(bigSep Finset.univ (bun m) ∗ bigSep Finset.univ (fun c : Dev nD => (semVal (bcell c) 0 : sProp 𝕄)) ∗ BI.own (ER (launchOf barS ownS toks))) := by
  rw [← G_all, ← bigS2, ← bigS2]
  exact bigSep_mono fun c _ => core_bun m ρ c

theorem inv_bar (κ : GSem nD τ sig → ℕ) : (bigSep (barS ∪ ownS) fun g => (cellInv ER (Rd (ins m)) (κ g) g : sProp 𝕄))
    ⊢ bigSep Finset.univ fun c : Dev nD => cellInv ER (Rd (ins m)) (κ (bcell c)) (bcell c) :=
  _root_.Idealize.SL.BI.Entails.trans (bigSep_subset Finset.subset_union_left) (Entails.of_eq (bigSep_map (s := Finset.univ) barE (Φ := fun g => (cellInv ER (Rd (ins m)) (κ g) g : sProp 𝕄))))
theorem inv_own (κ : GSem nD τ sig → ℕ) : (bigSep (barS ∪ ownS) fun g => (cellInv ER (Rd (ins m)) (κ g) g : sProp 𝕄))
    ⊢ bigSep Finset.univ fun p : Dev nD × Fin 6 × Dev nD => cellInv ER (Rd (ins m)) (κ (dcell p.1 p.2.1 p.2.2)) (dcell p.1 p.2.1 p.2.2) :=
  _root_.Idealize.SL.BI.Entails.trans (bigSep_subset Finset.subset_union_right) (Entails.of_eq (bigSep_map (s := Finset.univ) ownE (Φ := fun g => (cellInv ER (Rd (ins m)) (κ g) g : sProp 𝕄))))

theorem rcs_intro (κ : GSem nD τ sig → ℕ) : iprop(levAts L lv ∗ (bigSep (barS ∪ ownS) fun g => (cellInv ER (Rd (ins m)) (κ g) g : sProp 𝕄)) ∗ bigSep barS fun g => reached ER g 0) ⊢ rcs m κ := by
  unfold rcs recs
  iintro ⟨#HL, #HI, #Hr⟩
  isplitr
  · isplitr; · iexact HL
    isplitr; · iapply (inv_bar m κ) $$ HI
    iapply (inv_own m κ) $$ HI
  iapply (Entails.of_eq (bigSep_map (s := Finset.univ) barE (Φ := fun g : GSem nD τ sig => (reached ER g 0 : sProp 𝕄)))) $$ Hr

theorem bar_vals : bigSep Finset.univ (fun c : Dev nD => (semVal (bcell c) 0 : sProp 𝕄)) = bigSep barS (fun g => (semVal g 0 : sProp 𝕄)) :=
  (bigSep_map (s := Finset.univ) barE (Φ := fun g : GSem nD τ sig => (semVal g 0 : sProp 𝕄))).symm
theorem bar_pos : bigSep barS (fun g => (atPos ER g 0 ∅ 0 : sProp 𝕄)) = bigSep Finset.univ (fun c : Dev nD => (atPos ER (bcell c) 0 ∅ 0 : sProp 𝕄)) :=
  bigSep_map (s := Finset.univ) barE (Φ := fun g : GSem nD τ sig => (atPos ER g 0 ∅ 0 : sProp 𝕄))
theorem own_open : bigSep ownS (fun g => (openTok ER g : sProp 𝕄)) = bigSep Finset.univ (fun c : Dev nD => bigSep Finset.univ fun k : Fin 6 × Dev nD => openTok ER (dcell c k.1 k.2)) := by
  unfold ownS; rw [bigSep_map, bigSep_univ_prod]; rfl

theorem lin_intro : iprop(bigSep barS (fun g => (atPos ER g 0 ∅ 0 : sProp 𝕄)) ∗ bigSep ownS (fun g => (openTok ER g : sProp 𝕄))
    ∗ bigSep toks fun x => (dutyTok ER x.1 x.2.1 x.2.2 : sProp 𝕄)) ⊢ bigSep Finset.univ (lin (F := F)) := by
  rw [bar_pos, own_open, bigS2, bigS2]
  iintro ⟨H1, H2, H3⟩
  isplitl [H1]; · iexact H1
  isplitl [H2]; · iexact H2
  iapply (toks_deal (F := F)) $$ H3

/-- The launch makes every device's thread state. -/
theorem init : iprop((bigSep Finset.univ (cinit m ρ)) ∗ levAts L lv) ⊢ (|={Set.univ}=> bigSep Finset.univ (T₀ m) : sProp 𝕄) := by
  iintro ⟨H, #HL⟩
  ihave H' := (cores m ρ ()) $$ H
  icases H' with ⟨HB, Hv, Hu⟩
  ihave Hv' := (Entails.of_eq (bar_vals (F := F))) $$ Hv
  imod (Rounds.fund_launch ER (Rd (ins m)) barS_ownS (fun g _ h => h) toks) $$ [Hv' Hu] with ⟨%κ, -, #Hinv, #Hr, Hat, Hopen, Htok⟩
  · isplitl [Hv']; · iexact Hv'
    iexact Hu
  imodintro
  iapply (bigSep_with_persistent (R := rcs m κ) (Φ := fun c => iprop(lin c ∗ bun m c)) fun c _ => T₀_intro m κ c)
  isplitr
  · iapply (rcs_intro m κ)
    isplitr; · iexact HL
    isplitr; · iexact Hinv
    iexact Hr
  iapply (Entails.of_eq (bigS2 Finset.univ (fun c : Dev nD => lin (F := F) c) (fun c : Dev nD => bun m c)).symm)
  isplitr [HB]
  · iapply (lin_intro (F := F))
    isplitl [Hat]; · iexact Hat
    isplitl [Hopen]; · iexact Hopen
    iexact Htok
  iexact HB

/-! ## The segments -/

theorem held_split (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) Sr W) :=
  StableHlo.held_sub_split (c.tc : Thread nD τ) (Pipeline.arrRefs_sub_ucRefs spec0 (by decide)) W

theorem reg_pre (c : Dev nD) : T₀ m c ⊢ (reg m).pre c := by
  show _ ⊢ iprop(StableHlo.held (c.tc : Thread nD τ) (Pipeline.arrRefs (τ := τ) spec0) (V₀ m c) ∗ (∃ r, prngReg c r)
    ∗ (StableHlo.held (c.tc : Thread nD τ) Sr (V₀ m c) ∗ emp) ∗ Tk m c ∗ ∃ Wd, owes (c : Thread nD τ) (0 + owed 1 c) Wd)
  unfold T₀
  rw [held_split, zero_add]
  iintro ⟨⟨Ha, Hs⟩, HT, Hp, HO⟩
  isplitl [Ha]; · iexact Ha
  isplitl [Hp]; · iexact Hp
  isplitl [Hs]
  · isplitl [Hs]; · iexact Hs
    iempintro
  isplitl [HT]; · iexact HT
  iexact HO

abbrev R1 (c : Dev nD) : sProp 𝕄 := iprop(semVal (bcell c) 0 ∗ ∃ W, owes (c : Thread nD τ) (0 : CellTallies nD τ sig ℕ) W)

theorem reg_post (c : Dev nD) : (reg m).post c ⊢ iprop(StableHlo.held (c : Thread nD τ) (Pipeline.ucRefs τ sig) (V₁ m c) ∗ R1 c) := by
  show iprop(StableHlo.held (c.tc : Thread nD τ) (Pipeline.arrRefs (τ := τ) spec0) (V₁ m c) ∗ (∃ r, prngReg c r)
    ∗ (StableHlo.held (c.tc : Thread nD τ) Sr (V₁ m c) ∗ emp) ∗ Yk c ∗ ∃ Wd, owes (c : Thread nD τ) (0 : CellTallies nD τ sig ℕ) Wd) ⊢ _
  rw [held_split]
  unfold Yk
  iintro ⟨Ha, -, ⟨Hs, -⟩, HY, HO⟩
  isplitl [Ha Hs]
  · isplitl [Ha]; · iexact Ha
    iexact Hs
  isplitl [HY]; · iexact HY
  iexact HO

/-- The host line after the kernel. -/
def tail : Pipeline.HostSeg (Name := ℕ) (U := UU) (pcfgs (F := F)) defs₀ 𝒱₀ L lv :=
  Pipeline.HostSeg.ofOps _ _ _ _ _ (Pipeline.ucRefs τ sig) hostOps1
    (fun o h => Pipeline.sub_ucRefs o ((List.forall_iff_forall_mem.mp hostOps1_sub) o h)) (List.forall_iff_forall_mem.mp hostOps1_fresh) (V₁ m) R1

def segs : List (Pipeline.Seg (pcfgs (F := F)) adm (pdats m) 0 defs₀ 𝒱₀ L lv) := [.region (reg m), .host (tail m)]

/-! ## The end -/

theorem held_all (c : Dev nD) (W : Valuation τ sig (Elt F)) : (StableHlo.held (c : Thread nD τ) (Pipeline.ucRefs τ sig) W : sProp 𝕄)
    = iprop((((c : Thread nD τ).loc main_arg0) ↦{fullShare} W (Proc.devRef .tc main_arg0)) ∗ (((c : Thread nD τ).loc main_arg1) ↦{fullShare} W (Proc.devRef .tc main_arg1)) ∗ (((c : Thread nD τ).loc main_arg2) ↦{fullShare} W (Proc.devRef .tc main_arg2)) ∗ (((c : Thread nD τ).loc main_arg3) ↦{fullShare} W (Proc.devRef .tc main_arg3)) ∗ (((c : Thread nD τ).loc main_arg4) ↦{fullShare} W (Proc.devRef .tc main_arg4)) ∗ (((c : Thread nD τ).loc main_arg5) ↦{fullShare} W (Proc.devRef .tc main_arg5)) ∗ (((c : Thread nD τ).loc main_arg6) ↦{fullShare} W (Proc.devRef .tc main_arg6)) ∗ (((c : Thread nD τ).loc main_v1) ↦{fullShare} W (Proc.devRef .tc main_v1)) ∗ (((c : Thread nD τ).loc main_v2) ↦{fullShare} W (Proc.devRef .tc main_v2))) := by
  unfold StableHlo.held
  rw [bigSep_eq_bigSepL_of_eq ([(main_arg0 : Ref sig .tc), main_arg1, main_arg2, main_arg3, main_arg4, main_arg5, main_arg6, main_v1, main_v2].map (Proc.devRef .tc)) (by decide) (by decide)]
  rfl

theorem V₂_arg (c : Dev nD) (b : Ref sig .tc) (h1 : b ≠ main_v1) (h2 : b ≠ main_v2) : V₂ m c (Proc.devRef .tc b) = m ((c : Thread nD τ).loc b) := by
  unfold V₂
  rw [StableHlo.after_cons, StableHlo.after_nil, StableHlo.unary_result_ne _ _ _ _ _ _ h2]
  exact V₁_ne m c (StableHlo.devRef_ne_of_ne h1)
/-- The program's result: the last layer's rows at the wider type. -/
abbrev outOf (I : Ins F) : (main_v2 : Ref sig .tc).ty.Contents (Elt F) := extf .f32 (X I 3 : FVec F S2048x1024 .bf16) bitsLt_bf16_f32
theorem V₂_out (c : Dev nD) : V₂ m c (Proc.devRef .tc main_v2) = outOf (ins m) := by
  unfold V₂
  rw [StableHlo.after_cons, StableHlo.after_nil, StableHlo.unary_result, V₁_out]

theorem bar_only : ∀ sm : SemLoc sig, sm.isScoped .tc = false → sm = .reg barrier0 := by decide

/-- What is read off the final state of a device. -/
abbrev EndQ (c : Dev nD) (s : MemSt nD τ sig (Elt F)) : Prop :=
  (s.mem ((c : Thread nD τ).loc main_v2) = outOf (ins m)
    ∧ s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4) ∧ s.mem ((c : Thread nD τ).loc main_arg5) = m ((c : Thread nD τ).loc main_arg5)
    ∧ s.mem ((c : Thread nD τ).loc main_arg6) = m ((c : Thread nD τ).loc main_arg6))

set_option maxHeartbeats 1600000 in
set_option backward.isDefEq.respectTransparency.types false in
/-- Every execution of the program ends with the result at the computed contents on every device, the inputs unchanged and every
semaphore at zero. -/
theorem run_main : θ_run defs (onTc (τ := τ) (main (F := F))) (⟨m, fun _ => 0, ρ⟩ : MemSt nD τ sig (Elt F))
    (fun r => (∀ c : Dev nD, EndQ m c r.2) ∧ r.2.sem = fun _ => 0) :=
  Pipeline.θ_run_regions_kit_sems (pcfgs (F := F)) adm (pdats m) 0 cellOf_inj EP defs₀ 𝒱₀ L lv m ρ main (segs m)
    (fun c Q => by rw [main_segs adm (pdats m) 0 𝒱₀ L lv (tail m) (reg m) rfl c]; exact .rfl)
    (by simp only [segs, Pipeline.Seg.pipes_host, Pipeline.Seg.pipes_region, Pipeline.Seg.pipes_nil]; decide)
    (O₀ := owed 1) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => reg_pre m c, fun c => reg_post m c, fun c => ?_⟩
      show iprop(StableHlo.held (c : Thread nD τ) (Pipeline.ucRefs τ sig) (V₂ m c) ∗ R1 c)
        ⊢ iprop(Tₙ m c ∗ ∃ W, owes (c : Thread nD τ) (0 : CellTallies nD τ sig ℕ) W)
      iintro ⟨Hh, Hb0, HO⟩
      isplitr [HO]
      · isplitl [Hh]; · iexact Hh
        iexact Hb0
      · iexact HO)
    (hinit := init m ρ)
    (QY := fun c s => EndQ m c s ∧ s.sem (bcell c) = 0)
    (hfin := fun c s' => by
      dsimp only [Tₙ]; rw [held_all]
      iintro ⟨⟨⟨H0, H1, H2, H3, H4, H5, H6, -, Ho⟩, Hb0⟩, HSI⟩
      icombine HSI H0 gives %h0
      icombine HSI H1 gives %h1
      icombine HSI H2 gives %h2
      icombine HSI H3 gives %h3
      icombine HSI H4 gives %h4
      icombine HSI H5 gives %h5
      icombine HSI H6 gives %h6
      icombine HSI Ho gives %ho
      icombine HSI Hb0 gives %hb
      imodintro
      isplitr
      · ipureintro
        exact ⟨⟨(Buf.eq_of_forall_mem_univ ho).trans (V₂_out m c),
          (Buf.eq_of_forall_mem_univ h0).trans (V₂_arg m c _ (by decide) (by decide)), (Buf.eq_of_forall_mem_univ h1).trans (V₂_arg m c _ (by decide) (by decide)),
          (Buf.eq_of_forall_mem_univ h2).trans (V₂_arg m c _ (by decide) (by decide)), (Buf.eq_of_forall_mem_univ h3).trans (V₂_arg m c _ (by decide) (by decide)),
          (Buf.eq_of_forall_mem_univ h4).trans (V₂_arg m c _ (by decide) (by decide)), (Buf.eq_of_forall_mem_univ h5).trans (V₂_arg m c _ (by decide) (by decide)),
          (Buf.eq_of_forall_mem_univ h6).trans (V₂_arg m c _ (by decide) (by decide))⟩, by simpa using hb⟩
      iexact HSI)
    (hQ := fun s h hs => ⟨fun c => (h c).1,
      sem_eq_zero hs fun c sm hsm => by
        obtain rfl := bar_only sm hsm
        exact (h c).2⟩)

end Cert.KernelIdeal.Pf
-- ==== Proof.Frames.lean ====
module
public import proofs.«01_k».proof.Defs
public import proofs.«01_k».proof.Proof.Gen.Kernel
public import proofs.«01_k».proof.Proof.Gen.ReferenceIdeal.Run
public import proofs.«01_k».proof.Proof.Main

@[expose] public section

set_option maxRecDepth 65536

/-! # The frames -/

noncomputable section

namespace Cert.Proof

open Idealize.ShloMosaic Idealize.ShloMosaic.TcCoe Idealize.SL.Sem Cert.KernelIdeal.Pf

attribute [local instance] Cert.Kernel.Gen.facts

/-- The two printings of the kernel have one body, -/
theorem bodies_eq : (Cert.Kernel.defs₀ (F := Bits)) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext ℓ a
  match ℓ, a with
  | 0, (t, s) => rfl
  | ⟨_ + 1, h⟩, _ => exact absurd h (Nat.not_lt.2 (Nat.le_add_left _ _))
/-- and one table. -/
theorem tables_eq : Cert.Kernel.defs (F := Bits) = Cert.KernelIdeal.defs (F := Bits) :=
  congrArg (Pipeline.defs (Cert.KernelIdeal.pcfgs (F := Bits))) bodies_eq

/-- The kernel's run at the bits, over any table equal to the idealized printing's. -/
theorem run_bits (m : (ℓ : Loc Cert.KernelIdeal.nD Cert.KernelIdeal.τ Cert.KernelIdeal.sig) → Buf (Elt Bits) ℓ) (ρ : Dev Cert.KernelIdeal.nD → PrngReg)
    (D : Defs Cert.KernelIdeal.nD Cert.KernelIdeal.τ Cert.KernelIdeal.sig (Elt Bits) _) (h : D = Cert.KernelIdeal.defs (F := Bits)) :
    θ_run D (onTc (τ := Cert.KernelIdeal.τ) (Cert.KernelIdeal.main (F := Bits))) ⟨m, fun _ => 0, ρ⟩
      (fun r => (∀ c, EndQ m c r.2) ∧ r.2.sem = fun _ => 0) := by subst h; exact run_main m ρ

/-- The kernel ends with its arguments unchanged and every semaphore at zero: the run is the same text at the bits. -/
theorem frame_kernel : Cert.quiescent_Kernel := fun m ρ _ =>
  (θ_run (Cert.Kernel.defs (F := Bits)) _ _).mono (fun _ h => ⟨fun c => (h.1 c).2, h.2⟩) (run_bits m ρ _ tables_eq)

/-- The same of the kernel read at the ideal values. -/
theorem frame_ideal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩) (run_main (F := Ideal) m ρ)

/-- The reference is a straight line of host operations that writes no argument and declares no semaphore. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

end Cert.Proof
-- ==== Proof.Value.lean ====
module
public import proofs.«01_k».proof.Proof.Sched
public import proofs.«01_k».proof.Proof.Gen.ReferenceIdeal
public import Idealize.ShloMosaic.PureOps.Ideal
public import Idealize.ShloMosaic.PureOps.Ideal.Laws
public import Idealize.ShloMosaic.Lib.Layout
public import Idealize.ShloMosaic.Lib.ValueIdx
public import Idealize.ShloMosaic.Lib.IdealHost
public import Idealize.ShloMosaic.Lib.MatmulPlain
public import Idealize.ShloMosaic.Lib.StackMember
public import Idealize.ShloMosaic.Lib.Pipeline.Value

@[expose] public section

set_option maxRecDepth 65536

/-! # The values, at the ideal instance

One layer of the problem is `mlp A W Z`: the rectified product with `W`, multiplied by `Z`. A device's partial product is the part of the
sum over the hidden columns that it owns, and the devices' partial products add up to the layer. -/

noncomputable section

namespace Cert.KernelIdeal.Pf

open Idealize.ShloMosaic Idealize.SL.Sem Cert.KernelIdeal.Gen
open Idealize.ShloMosaic.ValueIdx
open scoped BigOperators

abbrev SW : Shape := ⟨2, ![1024, 65536]⟩
abbrev SZ : Shape := ⟨2, ![65536, 1024]⟩

/-- A hidden unit: the rectified product of a row with a column. -/
def hid {N : ℕ} (A : FVec Ideal S2048x1024 .bf16) (W : FVec Ideal ⟨2, ![1024, N]⟩ .bf16) (r : Fin 2048) (h : Fin N) : EReal :=
  max (∑ k : Fin 1024, A (ix2 r k) * W (ix2 k h)) 0
/-- A layer. -/
def mlp (A : FVec Ideal S2048x1024 .bf16) (W : FVec Ideal SW .bf16) (Z : FVec Ideal SZ .bf16) : FVec Ideal S2048x1024 .bf16 :=
  fun i => ∑ h : Fin 65536, hid A W (i 0) h * Z (ix2 h (i 1))

/-! ## The kernel's payloads at an index -/

theorem d1_plain : dot_S256x1024_S1024x2048_S256x2048_1_0_0_1_n_n = DotDims.plain 256 1024 2048 := rfl
theorem d2_plain : dot_S256x2048_S2048x1024_S256x1024_1_0_0_1_n_n = DotDims.plain 256 2048 1024 := rfl

/-- The hidden units of 256 rows on one device. -/
theorem pay1_apply (x : FVec Ideal S256x1024 .bf16) (w : FVec Ideal S1024x2048 .bf16) (r : Fin 256) (j : Fin 2048) :
    k0_pay1 (F := Ideal) x w (ix2 r j) = max (∑ k : Fin 1024, x (ix2 r k) * w (ix2 k j)) 0 := by
  unfold k0_pay1
  simp only [shapeCast_self, truncf_apply, maximumf_apply, broadcast_apply]
  simp only [matmul]
  rw [d1_plain, Ideal.matmul_plain_apply, constant_apply, Ideal.ofBits_zero_f32, zero_add]
  exact congrArg (max _) Ideal.ofBits_zero_f32

/-- Their product with the device's rows of the second matrix. -/
theorem pay5_apply (h : FVec Ideal S256x2048 .bf16) (z : FVec Ideal S2048x1024 .bf16) (r : Fin 256) (d : Fin 1024) :
    k0_pay5 (F := Ideal) h z (ix2 r d) = ∑ j : Fin 2048, h (ix2 r j) * z (ix2 j d) := by
  unfold k0_pay5
  simp only [shapeCast_self, truncf_apply]
  simp only [matmul]
  rw [d2_plain, Ideal.matmul_plain_apply, constant_apply, Ideal.ofBits_zero_f32, zero_add]

/-- The sum over the devices of the collected blocks. -/
theorem pay11_apply (v : FVec Ideal S2048x1024 .bf16) (r : Fin 64) (d : Fin 1024) :
    k0_pay11 (F := Ideal) v (ix2 r d) = ∑ c : Fin 32, v (ix2 ⟨64 * c.val + r.val, by omega⟩ d) := by
  unfold k0_pay11
  simp only [truncf_apply]
  refine (Ideal.multiReduction_add_single _ _ reduces_S32x64x1024_S64x1024 (.inl rfl) rfl (ix2 r d)).trans ?_
  refine Finset.sum_congr rfl fun c _ => ?_
  rw [shapeCast_apply (k := ix2 ⟨64 * c.val + r.val, by have : c.val < 32 := c.isLt; omega⟩ d)]
  · rfl
  · rw [Shape.rowMajor_val_two, Shape.rowMajor_val_three]
    show (64 * c.val + r.val) * 1024 + d.val = (c.val * 64 + r.val) * 1024 + d.val
    rw [Nat.mul_comm 64]

/-! ## A layer of the kernel -/

theorem row256_at (g : Fin 8) (r : Fin 256) (k : Fin 1024) : row256 g (ix2 r k) = ix2 ⟨256 * g.val + r.val, by omega⟩ k := by
  funext a; match a with | ⟨0, _⟩ => rfl | ⟨1, _⟩ => rfl
theorem row64_at (q : Dev nD) (r : Fin 64) (k : Fin 1024) : row64 q (ix2 r k) = ix2 ⟨64 * q.val + r.val, by have : q.val < 32 := q.isLt; omega⟩ k := by
  funext a; match a with | ⟨0, _⟩ => rfl | ⟨1, _⟩ => rfl
theorem in256_at (r : Fin 2048) (d : Fin 1024) : in256 (ix2 r d) = ix2 ⟨r.val % 256, Nat.mod_lt _ (by omega)⟩ d := by
  funext a; match a with | ⟨0, _⟩ => rfl | ⟨1, _⟩ => rfl
theorem in64_at (r : Fin 2048) (d : Fin 1024) : in64 (ix2 r d) = ix2 ⟨r.val % 64, Nat.mod_lt _ (by omega)⟩ d := by
  funext a; match a with | ⟨0, _⟩ => rfl | ⟨1, _⟩ => rfl

/-- A device's partial product sums over its hidden columns. -/
theorem part_apply (w : FVec Ideal S1024x2048 .bf16) (z A : FVec Ideal S2048x1024 .bf16) (r : Fin 2048) (d : Fin 1024) :
    part (F := Ideal) w z A (ix2 r d) = ∑ j : Fin 2048, hid A w r j * z (ix2 j d) := by
  unfold part
  rw [in256_at, pay5_apply]
  refine Finset.sum_congr rfl fun j _ => ?_
  rw [pay1_apply]
  unfold hid sub
  refine congrArg (fun e => max e 0 * _) (Finset.sum_congr rfl fun k _ => ?_)
  rw [row256_at]
  have e : (⟨256 * (blk256 (ix2 r d)).val + r.val % 256, by have := (blk256 (ix2 r d)).isLt; have := Nat.mod_lt r.val (show 0 < 256 by omega); omega⟩ : Fin 2048) = r :=
    Fin.ext (show 256 * (r.val / 256) + r.val % 256 = r.val from Nat.div_add_mod _ _)
  exact congrArg (fun q => A (ix2 q k) * w (ix2 k j)) e

/-- A layer of the kernel sums the partial products over the devices. -/
theorem step_apply (w : Dev nD → FVec Ideal S1024x2048 .bf16) (z : Dev nD → FVec Ideal S2048x1024 .bf16) (A : FVec Ideal S2048x1024 .bf16)
    (r : Fin 2048) (d : Fin 1024) :
    cat (F := Ideal) (fun q => k0_pay11 (F := Ideal) (gath (F := Ideal) (fun c => part (F := Ideal) (w c) (z c) A) q)) (ix2 r d)
      = ∑ c : Fin 32, ∑ j : Fin 2048, hid A (w c) r j * z c (ix2 j d) := by
  unfold cat
  beta_reduce
  rw [in64_at, pay11_apply]
  refine Finset.sum_congr rfl fun c _ => ?_
  unfold gath
  have hr : r.val % 64 < 64 := Nat.mod_lt _ (by omega)
  have e1 : blk64 (ix2 (⟨64 * c.val + r.val % 64, by omega⟩ : Fin 2048) d) = c :=
    Fin.ext (show (64 * c.val + r.val % 64) / 64 = c.val by omega)
  have e2 : in64 (ix2 (⟨64 * c.val + r.val % 64, by omega⟩ : Fin 2048) d) = ix2 (⟨r.val % 64, hr⟩ : Fin 64) d := by
    rw [in64_at]; exact congrArg (fun q => ix2 q d) (Fin.ext (show (64 * c.val + r.val % 64) % 64 = r.val % 64 by omega))
  rw [e1, e2, row64_at]
  have e3 : (⟨64 * (blk64 (ix2 r d)).val + r.val % 64, by have h : (blk64 (ix2 r d)).val < 32 := (blk64 (ix2 r d)).isLt; omega⟩ : Fin 2048) = r :=
    Fin.ext (show 64 * (r.val / 64) + r.val % 64 = r.val from Nat.div_add_mod _ _)
  rw [e3]
  exact part_apply (w c) (z c) A r d

/-- The hidden columns by device and column. -/
theorem sum_cols (f : Fin 65536 → EReal) : ∑ h : Fin 65536, f h = ∑ c : Fin 32, ∑ j : Fin 2048, f ⟨2048 * c.val + j.val, by omega⟩ := by
  rw [← Equiv.sum_comp (finProdFinEquiv (m := 32) (n := 2048)) (fun h : Fin (32 * 2048) => f h), Fintype.sum_prod_type]
  exact Finset.sum_congr rfl fun c _ => Finset.sum_congr rfl fun j _ => congrArg f (Fin.ext (Nat.add_comm _ _))

/-- Over the parts of the whole matrices, a layer of the kernel is a layer of the problem. -/
theorem step_eq (W : FVec Ideal SW .bf16) (Z : FVec Ideal SZ .bf16) (A : FVec Ideal S2048x1024 .bf16) :
    cat (F := Ideal) (fun q => k0_pay11 (F := Ideal) (gath (F := Ideal) (fun c : Dev nD => part (F := Ideal) (Layout.block S1024x2048 SW 1 32 c W) (Layout.block S2048x1024 SZ 0 32 c Z) A) q))
      = mlp A W Z := by
  funext i
  obtain ⟨r, d, rfl⟩ : ∃ (r : Fin 2048) (d : Fin 1024), i = ix2 r d := ⟨i 0, i 1, eq_ix2 i⟩
  rw [step_apply]
  unfold mlp
  rw [sum_cols]
  refine Finset.sum_congr rfl fun c _ => Finset.sum_congr rfl fun j _ => ?_
  have hc : c.val < 32 := c.isLt
  have hj : j.val < 2048 := j.isLt
  have ez : (Layout.block S2048x1024 SZ 0 32 c Z : FVec Ideal S2048x1024 .bf16) (ix2 j d) = Z (ix2 ⟨2048 * c.val + j.val, by omega⟩ d) := by
    rw [Layout.block_apply]
    refine congrArg Z ?_
    funext a
    match a with
    | ⟨0, _⟩ => exact Fin.ext (show c.val * 2048 + j.val = 2048 * c.val + j.val by rw [Nat.mul_comm])
    | ⟨1, _⟩ => rfl
  have ew : ∀ k : Fin 1024, (Layout.block S1024x2048 SW 1 32 c W : FVec Ideal S1024x2048 .bf16) (ix2 k j) = W (ix2 k ⟨2048 * c.val + j.val, by omega⟩) := by
    intro k
    rw [Layout.block_apply]
    refine congrArg W ?_
    funext a
    match a with
    | ⟨0, _⟩ => rfl
    | ⟨1, _⟩ => exact Fin.ext (show c.val * 2048 + j.val = 2048 * c.val + j.val by rw [Nat.mul_comm])
  rw [ez]
  unfold hid
  exact congrArg (fun e => max e 0 * Z (ix2 ⟨2048 * c.val + j.val, by omega⟩ d)) (Finset.sum_congr rfl fun k _ => by rw [ew k])

/-- Stacking the parts of the input gives the whole. -/
theorem cat_block (A : FVec Ideal S2048x1024 .bf16) : cat (F := Ideal) (fun c : Dev nD => Layout.block S64x1024 S2048x1024 0 32 c A) = A := by
  funext i
  show A (Layout.Tiles.idx _ (blk64 i) (in64 i)) = A i
  refine congrArg A ?_
  funext a
  match a with
  | ⟨0, _⟩ => exact Fin.ext (show (i 0).val / 64 * 64 + (i 0).val % 64 = (i 0).val from Nat.div_add_mod' _ _)
  | ⟨1, _⟩ => rfl

/-- The kernel's result over the parts of the problem's arrays: three layers. -/
theorem X_eq (I : Ins Ideal) (A : FVec Ideal S2048x1024 .bf16) (W : ℕ → FVec Ideal SW .bf16) (Z : ℕ → FVec Ideal SZ .bf16)
    (hx : ∀ c, I.x c = Layout.block S64x1024 S2048x1024 0 32 c A)
    (hw : ∀ k c, I.w k c = Layout.block S1024x2048 SW 1 32 c (W k)) (hz : ∀ k c, I.z k c = Layout.block S2048x1024 SZ 0 32 c (Z k)) :
    X I 3 = mlp (mlp (mlp A (W 0) (Z 0)) (W 1) (Z 1)) (W 2) (Z 2) := by
  have h0 : X I 0 = A := by
    show cat I.x = A
    rw [show I.x = fun c => Layout.block S64x1024 S2048x1024 0 32 c A from funext hx]
    exact cat_block A
  have hs : ∀ k, X I (k + 1) = mlp (X I k) (W k) (Z k) := by
    intro k
    show cat (fun q => k0_pay11 (gath (fun c => part (I.w k c) (I.z k c) (X I k)) q)) = _
    rw [show I.w k = fun c => Layout.block S1024x2048 SW 1 32 c (W k) from funext (hw k),
      show I.z k = fun c => Layout.block S2048x1024 SZ 0 32 c (Z k) from funext (hz k)]
    exact step_eq (W k) (Z k) (X I k)
  rw [hs 2, hs 1, hs 0, h0]

/-! ## A layer of the reference -/

section Reference
open Cert.ReferenceIdeal.Gen

theorem r1_plain : Cert.ReferenceIdeal.dot_S2048x1024_S1024x65536_S2048x65536_1_0_0_1_n_n = DotDims.plain 2048 1024 65536 := rfl
theorem r2_plain : Cert.ReferenceIdeal.dot_S2048x65536_S65536x1024_S2048x1024_1_0_0_1_n_n = DotDims.plain 2048 65536 1024 := rfl

/-- The reference's layer, as printed. -/
def refLayer (A : FVec Ideal S2048x1024 .bf16) (W : FVec Ideal SW .bf16) (Z : FVec Ideal SZ .bf16) : FVec Ideal S2048x1024 .bf16 :=
  truncf .bf16 (Host.dotGeneral Cert.ReferenceIdeal.dot_S2048x65536_S65536x1024_S2048x1024_1_0_0_1_n_n none
    (maximumf (truncf .bf16 (Host.dotGeneral Cert.ReferenceIdeal.dot_S2048x1024_S1024x65536_S2048x65536_1_0_0_1_n_n none A W) Cert.ReferenceIdeal.Facts₀.bitsLt_bf16_f32)
      (broadcastInDim Cert.ReferenceIdeal.S2048x65536 ![] Cert.ReferenceIdeal.Facts₀.bcast_S_S2048x65536 (constant (F := Ideal) Cert.ReferenceIdeal.S_ .bf16 0x0000#16)))
    Z) Cert.ReferenceIdeal.Facts₀.bitsLt_bf16_f32

theorem refLayer_eq (A : FVec Ideal S2048x1024 .bf16) (W : FVec Ideal SW .bf16) (Z : FVec Ideal SZ .bf16) : refLayer A W Z = mlp A W Z := by
  funext i
  obtain ⟨r, d, rfl⟩ : ∃ (r : Fin 2048) (d : Fin 1024), i = ix2 r d := ⟨i 0, i 1, eq_ix2 i⟩
  unfold refLayer mlp
  rw [truncf_apply, r2_plain, StackMember.dotGeneral_plain_apply]
  refine Finset.sum_congr rfl fun h _ => ?_
  refine congrArg (fun e => e * Z (ix2 h d)) ?_
  rw [maximumf_apply, truncf_apply, r1_plain, StackMember.dotGeneral_plain_apply, broadcastInDim_scalar_apply, constant_apply, Ideal.ofBits_zero_bf16]
  rfl
end Reference

end Cert.KernelIdeal.Pf
-- ==== Proof.Algebraic.lean ====
module
public import proofs.«01_k».proof.Proof.Frames
public import proofs.«01_k».proof.Proof.Value

@[expose] public section

set_option maxRecDepth 65536

/-! # The results agree at the ideal values -/

noncomputable section

namespace Cert.Proof

open Idealize.ShloMosaic Idealize.ShloMosaic.TcCoe Idealize.SL.Sem Cert.KernelIdeal.Pf

/-- The family of the three first (or second) matrices. -/
def three {α : Type} (a b c : α) : ℕ → α
  | 0 => a
  | 1 => b
  | _ => c

/-- On 32 devices holding the parts of the problem's arrays the kernel ends with the reference's result on each. -/
theorem algebraic_claim : Cert.algebraic_KernelIdeal_ReferenceIdeal (hKernelIdeal := Cert.KernelIdeal.Gen.facts)
    (hReferenceIdeal := Cert.ReferenceIdeal.Gen.facts) := by
  intro m g m' g' _ hag
  let A : FVec Ideal Cert.KernelIdeal.S2048x1024 .bf16 := m' (((0 : Dev Cert.ReferenceIdeal.nD).tc : Thread Cert.ReferenceIdeal.nD Cert.ReferenceIdeal.τ).loc Cert.ReferenceIdeal.main_arg0)
  let W1 : FVec Ideal SW .bf16 := m' (((0 : Dev Cert.ReferenceIdeal.nD).tc : Thread Cert.ReferenceIdeal.nD Cert.ReferenceIdeal.τ).loc Cert.ReferenceIdeal.main_arg1)
  let W2 : FVec Ideal SW .bf16 := m' (((0 : Dev Cert.ReferenceIdeal.nD).tc : Thread Cert.ReferenceIdeal.nD Cert.ReferenceIdeal.τ).loc Cert.ReferenceIdeal.main_arg2)
  let W3 : FVec Ideal SW .bf16 := m' (((0 : Dev Cert.ReferenceIdeal.nD).tc : Thread Cert.ReferenceIdeal.nD Cert.ReferenceIdeal.τ).loc Cert.ReferenceIdeal.main_arg3)
  let Z1 : FVec Ideal SZ .bf16 := m' (((0 : Dev Cert.ReferenceIdeal.nD).tc : Thread Cert.ReferenceIdeal.nD Cert.ReferenceIdeal.τ).loc Cert.ReferenceIdeal.main_arg4)
  let Z2 : FVec Ideal SZ .bf16 := m' (((0 : Dev Cert.ReferenceIdeal.nD).tc : Thread Cert.ReferenceIdeal.nD Cert.ReferenceIdeal.τ).loc Cert.ReferenceIdeal.main_arg5)
  let Z3 : FVec Ideal SZ .bf16 := m' (((0 : Dev Cert.ReferenceIdeal.nD).tc : Thread Cert.ReferenceIdeal.nD Cert.ReferenceIdeal.τ).loc Cert.ReferenceIdeal.main_arg6)
  have hX : X (ins (F := Ideal) m) 3 = refLayer (refLayer (refLayer A W1 Z1) W2 Z2) W3 Z3 := by
    rw [refLayer_eq, refLayer_eq, refLayer_eq]
    refine X_eq (ins m) A (three W1 W2 W3) (three Z1 Z2 Z3) (fun c => (hag c).1) (fun k c => ?_) fun k c => ?_
    · match k with
      | 0 => exact (hag c).2.1
      | 1 => exact (hag c).2.2.1
      | _ + 2 => exact (hag c).2.2.2.1
    · match k with
      | 0 => exact (hag c).2.2.2.2.1
      | 1 => exact (hag c).2.2.2.2.2.1
      | _ + 2 => exact (hag c).2.2.2.2.2.2
  refine ⟨outOf (ins (F := Ideal) m), ?_, ?_⟩
  · exact (θ_run (Cert.KernelIdeal.defs (F := Ideal)) _ _).mono (fun _ h c => h.1 c) (run_main (F := Ideal) m g)
  · refine (θ_run (Cert.ReferenceIdeal.defs (F := Ideal)) _ _).mono (fun r h => ⟨(h 0).1.trans ?_, (h 0).2⟩)
      (Cert.ReferenceIdeal.Value.run (F := Ideal) m' g')
    exact (congrArg (fun v : FVec Ideal Cert.KernelIdeal.S2048x1024 .bf16 => (extf .f32 v Cert.KernelIdeal.Facts₀.bitsLt_bf16_f32 : FVec Ideal Cert.KernelIdeal.S2048x1024 .f32)) hX).symm

end Cert.Proof
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic

@[expose] public section

namespace Cert.Proof

/-- Every claim of the certificate. -/
theorem claim : Cert.Claim := ⟨Cert.Kernel.Gen.facts, Cert.KernelIdeal.Gen.facts, Cert.ReferenceIdeal.Gen.facts,
  frame_kernel, frame_ideal, frame_reference, trivial, algebraic_claim⟩

end Cert.Proof
